-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpRefIdeal (m : (ℓ : Loc Cert.OutMlpRefIdeal.nD Cert.OutMlpRefIdeal.τ Cert.OutMlpRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7)
      ∧ r.2.mem ((c.tc : Thread Cert.OutMlp.nD Cert.OutMlp.τ).loc Cert.OutMlp.main_arg8) = m ((c.tc : Thread Cert.OutMlp.nD Cert.OutMlp.τ).loc Cert.OutMlp.main_arg8)
      ∧ r.2.mem ((c.tc : Thread Cert.OutMlp.nD Cert.OutMlp.τ).loc Cert.OutMlp.main_arg9) = m ((c.tc : Thread Cert.OutMlp.nD Cert.OutMlp.τ).loc Cert.OutMlp.main_arg9)
      ∧ r.2.mem ((c.tc : Thread Cert.OutMlp.nD Cert.OutMlp.τ).loc Cert.OutMlp.main_arg10) = m ((c.tc : Thread Cert.OutMlp.nD Cert.OutMlp.τ).loc Cert.OutMlp.main_arg10)
      ∧ r.2.mem ((c.tc : Thread Cert.OutMlp.nD Cert.OutMlp.τ).loc Cert.OutMlp.main_arg11) = m ((c.tc : Thread Cert.OutMlp.nD Cert.OutMlp.τ).loc Cert.OutMlp.main_arg11)
      ∧ r.2.mem ((c.tc : Thread Cert.OutMlp.nD Cert.OutMlp.τ).loc Cert.OutMlp.main_arg12) = m ((c.tc : Thread Cert.OutMlp.nD Cert.OutMlp.τ).loc Cert.OutMlp.main_arg12))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
      ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
      ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9)
      ∧ r.2.mem ((c.tc : Thread Cert.OutMlpIdeal.nD Cert.OutMlpIdeal.τ).loc Cert.OutMlpIdeal.main_arg10) = m ((c.tc : Thread Cert.OutMlpIdeal.nD Cert.OutMlpIdeal.τ).loc Cert.OutMlpIdeal.main_arg10)
      ∧ r.2.mem ((c.tc : Thread Cert.OutMlpIdeal.nD Cert.OutMlpIdeal.τ).loc Cert.OutMlpIdeal.main_arg11) = m ((c.tc : Thread Cert.OutMlpIdeal.nD Cert.OutMlpIdeal.τ).loc Cert.OutMlpIdeal.main_arg11)
      ∧ r.2.mem ((c.tc : Thread Cert.OutMlpIdeal.nD Cert.OutMlpIdeal.τ).loc Cert.OutMlpIdeal.main_arg12) = m ((c.tc : Thread Cert.OutMlpIdeal.nD Cert.OutMlpIdeal.τ).loc Cert.OutMlpIdeal.main_arg12))
      ∧ r.2.sem = fun _ => 0)

def quiescent_OutMlpRefIdeal [hOutMlpRefIdeal : Cert.OutMlpRefIdeal.Facts] : Prop :=
  ∀ (m : (ℓ : Loc Cert.OutMlpRefIdeal.nD Cert.OutMlpRefIdeal.τ Cert.OutMlpRefIdeal.sig) → Buf (Elt Ideal) ℓ) (g : Dev Cert.OutMlpRefIdeal.nD → PrngReg), Pre_OutMlpRefIdeal m →
    θ_run (Cert.OutMlpRefIdeal.defs (F := Ideal)) (onTc (τ := Cert.OutMlpRefIdeal.τ) (Cert.OutMlpRefIdeal.main (F := Ideal))) ⟨m, fun _ => 0, g⟩ (fun r => (∀ c : Dev Cert.OutMlpRefIdeal.nD,
      r.2.mem ((c.tc : Thread Cert.OutMlpRefIdeal.nD Cert.OutMlpRefIdeal.τ).loc Cert.OutMlpRefIdeal.main_arg0) = m ((c.tc : Thread Cert.OutMlpRefIdeal.nD Cert.OutMlpRefIdeal.τ).loc Cert.OutMlpRefIdeal.main_arg0)
      ∧ r.2.mem ((c.tc : Thread Cert.OutMlpRefIdeal.nD Cert.OutMlpRefIdeal.τ).loc Cert.OutMlpRefIdeal.main_arg1) = m ((c.tc : Thread Cert.OutMlpRefIdeal.nD Cert.OutMlpRefIdeal.τ).loc Cert.OutMlpRefIdeal.main_arg1)
      ∧ r.2.mem ((c.tc : Thread Cert.OutMlpRefIdeal.nD Cert.OutMlpRefIdeal.τ).loc Cert.OutMlpRefIdeal.main_arg2) = m ((c.tc : Thread Cert.OutMlpRefIdeal.nD Cert.OutMlpRefIdeal.τ).loc Cert.OutMlpRefIdeal.main_arg2)
      ∧ r.2.mem ((c.tc : Thread Cert.OutMlpRefIdeal.nD Cert.OutMlpRefIdeal.τ).loc Cert.OutMlpRefIdeal.main_arg3) = m ((c.tc : Thread Cert.OutMlpRefIdeal.nD Cert.OutMlpRefIdeal.τ).loc Cert.OutMlpRefIdeal.main_arg3)
      ∧ r.2.mem ((c.tc : Thread Cert.OutMlpRefIdeal.nD Cert.OutMlpRefIdeal.τ).loc Cert.OutMlpRefIdeal.main_arg4) = m ((c.tc : Thread Cert.OutMlpRefIdeal.nD Cert.OutMlpRefIdeal.τ).loc Cert.OutMlpRefIdeal.main_arg4)
      ∧ r.2.mem ((c.tc : Thread Cert.OutMlpRefIdeal.nD Cert.OutMlpRefIdeal.τ).loc Cert.OutMlpRefIdeal.main_arg5) = m ((c.tc : Thread Cert.OutMlpRefIdeal.nD Cert.OutMlpRefIdeal.τ).loc Cert.OutMlpRefIdeal.main_arg5)
      ∧ r.2.mem ((c.tc : Thread Cert.OutMlpRefIdeal.nD Cert.OutMlpRefIdeal.τ).loc Cert.OutMlpRefIdeal.main_arg6) = m ((c.tc : Thread Cert.OutMlpRefIdeal.nD Cert.OutMlpRefIdeal.τ).loc Cert.OutMlpRefIdeal.main_arg6)
      ∧ r.2.mem ((c.tc : Thread Cert.OutMlpRefIdeal.nD Cert.OutMlpRefIdeal.τ).loc Cert.OutMlpRefIdeal.main_arg7) = m ((c.tc : Thread Cert.OutMlpRefIdeal.nD Cert.OutMlpRefIdeal.τ).loc Cert.OutMlpRefIdeal.main_arg7)
      ∧ r.2.mem ((c.tc : Thread Cert.OutMlpRefIdeal.nD Cert.OutMlpRefIdeal.τ).loc Cert.OutMlpRefIdeal.main_arg8) = m ((c.tc : Thread Cert.OutMlpRefIdeal.nD Cert.OutMlpRefIdeal.τ).loc Cert.OutMlpRefIdeal.main_arg8)
      ∧ r.2.mem ((c.tc : Thread Cert.OutMlpRefIdeal.nD Cert.OutMlpRefIdeal.τ).loc Cert.OutMlpRefIdeal.main_arg9) = m ((c.tc : Thread Cert.OutMlpRefIdeal.nD Cert.OutMlpRefIdeal.τ).loc Cert.OutMlpRefIdeal.main_arg9)
      ∧ r.2.mem ((c.tc : Thread Cert.OutMlpRefIdeal.nD Cert.OutMlpRefIdeal.τ).loc Cert.OutMlpRefIdeal.main_arg10) = m ((c.tc : Thread Cert.OutMlpRefIdeal.nD Cert.OutMlpRefIdeal.τ).loc Cert.OutMlpRefIdeal.main_arg10)
      ∧ r.2.mem ((c.tc : Thread Cert.OutMlpRefIdeal.nD Cert.OutMlpRefIdeal.τ).loc Cert.OutMlpRefIdeal.main_arg11) = m ((c.tc : Thread Cert.OutMlpRefIdeal.nD Cert.OutMlpRefIdeal.τ).loc Cert.OutMlpRefIdeal.main_arg11)
      ∧ r.2.mem ((c.tc : Thread Cert.OutMlpRefIdeal.nD Cert.OutMlpRefIdeal.τ).loc Cert.OutMlpRefIdeal.main_arg12) = m ((c.tc : Thread Cert.OutMlpRefIdeal.nD Cert.OutMlpRefIdeal.τ).loc Cert.OutMlpRefIdeal.main_arg12))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10)
      ∧ r.2.mem ((c.tc : Thread Cert.InProj.nD Cert.InProj.τ).loc Cert.InProj.main_arg11) = m ((c.tc : Thread Cert.InProj.nD Cert.InProj.τ).loc Cert.InProj.main_arg11)
      ∧ r.2.mem ((c.tc : Thread Cert.InProj.nD Cert.InProj.τ).loc Cert.InProj.main_arg12) = m ((c.tc : Thread Cert.InProj.nD Cert.InProj.τ).loc Cert.InProj.main_arg12))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
      ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10)
      ∧ r.2.mem ((c.tc : Thread Cert.InProjRefIdeal.nD Cert.InProjRefIdeal.τ).loc Cert.InProjRefIdeal.main_arg11) = m ((c.tc : Thread Cert.InProjRefIdeal.nD Cert.InProjRefIdeal.τ).loc Cert.InProjRefIdeal.main_arg11)
      ∧ r.2.mem ((c.tc : Thread Cert.InProjRefIdeal.nD Cert.InProjRefIdeal.τ).loc Cert.InProjRefIdeal.main_arg12) = m ((c.tc : Thread Cert.InProjRefIdeal.nD Cert.InProjRefIdeal.τ).loc Cert.InProjRefIdeal.main_arg12))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OutMlp_OutMlpIdeal : Prop :=
  True

def algebraic_OutMlpIdeal_OutMlpRefIdeal [hOutMlpIdeal : Cert.OutMlpIdeal.Facts] [hOutMlpRefIdeal : Cert.OutMlpRefIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpRefIdeal.nD Cert.OutMlpRefIdeal.τ Cert.OutMlpRefIdeal.sig) → Buf (Elt Ideal) ℓ) (g' : Dev Cert.OutMlpRefIdeal.nD → PrngReg), Pre_OutMlpIdeal m →
    (∀ c : Dev Cert.OutMlpIdeal.nD,
      m' ((c.tc : Thread Cert.OutMlpRefIdeal.nD Cert.OutMlpRefIdeal.τ).loc Cert.OutMlpRefIdeal.main_arg0) = m ((c.tc : Thread Cert.OutMlpIdeal.nD Cert.OutMlpIdeal.τ).loc Cert.OutMlpIdeal.main_arg0)
      ∧ m' ((c.tc : Thread Cert.OutMlpRefIdeal.nD Cert.OutMlpRefIdeal.τ).loc Cert.OutMlpRefIdeal.main_arg1) = m ((c.tc : Thread Cert.OutMlpIdeal.nD Cert.OutMlpIdeal.τ).loc Cert.OutMlpIdeal.main_arg1)
      ∧ m' ((c.tc : Thread Cert.OutMlpRefIdeal.nD Cert.OutMlpRefIdeal.τ).loc Cert.OutMlpRefIdeal.main_arg2) = m ((c.tc : Thread Cert.OutMlpIdeal.nD Cert.OutMlpIdeal.τ).loc Cert.OutMlpIdeal.main_arg2)
      ∧ m' ((c.tc : Thread Cert.OutMlpRefIdeal.nD Cert.OutMlpRefIdeal.τ).loc Cert.OutMlpRefIdeal.main_arg3) = m ((c.tc : Thread Cert.OutMlpIdeal.nD Cert.OutMlpIdeal.τ).loc Cert.OutMlpIdeal.main_arg3)
      ∧ m' ((c.tc : Thread Cert.OutMlpRefIdeal.nD Cert.OutMlpRefIdeal.τ).loc Cert.OutMlpRefIdeal.main_arg4) = m ((c.tc : Thread Cert.OutMlpIdeal.nD Cert.OutMlpIdeal.τ).loc Cert.OutMlpIdeal.main_arg4)
      ∧ m' ((c.tc : Thread Cert.OutMlpRefIdeal.nD Cert.OutMlpRefIdeal.τ).loc Cert.OutMlpRefIdeal.main_arg5) = m ((c.tc : Thread Cert.OutMlpIdeal.nD Cert.OutMlpIdeal.τ).loc Cert.OutMlpIdeal.main_arg5)
      ∧ m' ((c.tc : Thread Cert.OutMlpRefIdeal.nD Cert.OutMlpRefIdeal.τ).loc Cert.OutMlpRefIdeal.main_arg6) = m ((c.tc : Thread Cert.OutMlpIdeal.nD Cert.OutMlpIdeal.τ).loc Cert.OutMlpIdeal.main_arg6)
      ∧ m' ((c.tc : Thread Cert.OutMlpRefIdeal.nD Cert.OutMlpRefIdeal.τ).loc Cert.OutMlpRefIdeal.main_arg7) = m ((c.tc : Thread Cert.OutMlpIdeal.nD Cert.OutMlpIdeal.τ).loc Cert.OutMlpIdeal.main_arg7)
      ∧ m' ((c.tc : Thread Cert.OutMlpRefIdeal.nD Cert.OutMlpRefIdeal.τ).loc Cert.OutMlpRefIdeal.main_arg8) = m ((c.tc : Thread Cert.OutMlpIdeal.nD Cert.OutMlpIdeal.τ).loc Cert.OutMlpIdeal.main_arg8)
      ∧ m' ((c.tc : Thread Cert.OutMlpRefIdeal.nD Cert.OutMlpRefIdeal.τ).loc Cert.OutMlpRefIdeal.main_arg9) = m ((c.tc : Thread Cert.OutMlpIdeal.nD Cert.OutMlpIdeal.τ).loc Cert.OutMlpIdeal.main_arg9)
      ∧ m' ((c.tc : Thread Cert.OutMlpRefIdeal.nD Cert.OutMlpRefIdeal.τ).loc Cert.OutMlpRefIdeal.main_arg10) = m ((c.tc : Thread Cert.OutMlpIdeal.nD Cert.OutMlpIdeal.τ).loc Cert.OutMlpIdeal.main_arg10)
      ∧ m' ((c.tc : Thread Cert.OutMlpRefIdeal.nD Cert.OutMlpRefIdeal.τ).loc Cert.OutMlpRefIdeal.main_arg11) = m ((c.tc : Thread Cert.OutMlpIdeal.nD Cert.OutMlpIdeal.τ).loc Cert.OutMlpIdeal.main_arg11)
      ∧ m' ((c.tc : Thread Cert.OutMlpRefIdeal.nD Cert.OutMlpRefIdeal.τ).loc Cert.OutMlpRefIdeal.main_arg12) = m ((c.tc : Thread Cert.OutMlpIdeal.nD Cert.OutMlpIdeal.τ).loc Cert.OutMlpIdeal.main_arg12)) →
    ∃ (v0 : (c : Dev Cert.OutMlpIdeal.nD) → Buf (Elt Ideal) ((c.tc : Thread Cert.OutMlpIdeal.nD Cert.OutMlpIdeal.τ).loc Cert.OutMlpIdeal.main_v0)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v0) = v0 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
          ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
          ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9)
          ∧ r.2.mem ((c.tc : Thread Cert.OutMlpIdeal.nD Cert.OutMlpIdeal.τ).loc Cert.OutMlpIdeal.main_arg10) = m ((c.tc : Thread Cert.OutMlpIdeal.nD Cert.OutMlpIdeal.τ).loc Cert.OutMlpIdeal.main_arg10)
          ∧ r.2.mem ((c.tc : Thread Cert.OutMlpIdeal.nD Cert.OutMlpIdeal.τ).loc Cert.OutMlpIdeal.main_arg11) = m ((c.tc : Thread Cert.OutMlpIdeal.nD Cert.OutMlpIdeal.τ).loc Cert.OutMlpIdeal.main_arg11)
          ∧ r.2.mem ((c.tc : Thread Cert.OutMlpIdeal.nD Cert.OutMlpIdeal.τ).loc Cert.OutMlpIdeal.main_arg12) = m ((c.tc : Thread Cert.OutMlpIdeal.nD Cert.OutMlpIdeal.τ).loc Cert.OutMlpIdeal.main_arg12))
      ∧ θ_run (Cert.OutMlpRefIdeal.defs (F := Ideal)) (onTc (τ := Cert.OutMlpRefIdeal.τ) (Cert.OutMlpRefIdeal.main (F := Ideal))) ⟨m', fun _ => 0, g'⟩ (fun r => ∀ c : Dev Cert.OutMlpRefIdeal.nD,
          r.2.mem ((c.tc : Thread Cert.OutMlpRefIdeal.nD Cert.OutMlpRefIdeal.τ).loc Cert.OutMlpRefIdeal.main_v137) = v0 c
          ∧ r.2.mem ((c.tc : Thread Cert.OutMlpRefIdeal.nD Cert.OutMlpRefIdeal.τ).loc Cert.OutMlpRefIdeal.main_arg0) = m' ((c.tc : Thread Cert.OutMlpRefIdeal.nD Cert.OutMlpRefIdeal.τ).loc Cert.OutMlpRefIdeal.main_arg0)
          ∧ r.2.mem ((c.tc : Thread Cert.OutMlpRefIdeal.nD Cert.OutMlpRefIdeal.τ).loc Cert.OutMlpRefIdeal.main_arg1) = m' ((c.tc : Thread Cert.OutMlpRefIdeal.nD Cert.OutMlpRefIdeal.τ).loc Cert.OutMlpRefIdeal.main_arg1)
          ∧ r.2.mem ((c.tc : Thread Cert.OutMlpRefIdeal.nD Cert.OutMlpRefIdeal.τ).loc Cert.OutMlpRefIdeal.main_arg2) = m' ((c.tc : Thread Cert.OutMlpRefIdeal.nD Cert.OutMlpRefIdeal.τ).loc Cert.OutMlpRefIdeal.main_arg2)
          ∧ r.2.mem ((c.tc : Thread Cert.OutMlpRefIdeal.nD Cert.OutMlpRefIdeal.τ).loc Cert.OutMlpRefIdeal.main_arg3) = m' ((c.tc : Thread Cert.OutMlpRefIdeal.nD Cert.OutMlpRefIdeal.τ).loc Cert.OutMlpRefIdeal.main_arg3)
          ∧ r.2.mem ((c.tc : Thread Cert.OutMlpRefIdeal.nD Cert.OutMlpRefIdeal.τ).loc Cert.OutMlpRefIdeal.main_arg4) = m' ((c.tc : Thread Cert.OutMlpRefIdeal.nD Cert.OutMlpRefIdeal.τ).loc Cert.OutMlpRefIdeal.main_arg4)
          ∧ r.2.mem ((c.tc : Thread Cert.OutMlpRefIdeal.nD Cert.OutMlpRefIdeal.τ).loc Cert.OutMlpRefIdeal.main_arg5) = m' ((c.tc : Thread Cert.OutMlpRefIdeal.nD Cert.OutMlpRefIdeal.τ).loc Cert.OutMlpRefIdeal.main_arg5)
          ∧ r.2.mem ((c.tc : Thread Cert.OutMlpRefIdeal.nD Cert.OutMlpRefIdeal.τ).loc Cert.OutMlpRefIdeal.main_arg6) = m' ((c.tc : Thread Cert.OutMlpRefIdeal.nD Cert.OutMlpRefIdeal.τ).loc Cert.OutMlpRefIdeal.main_arg6)
          ∧ r.2.mem ((c.tc : Thread Cert.OutMlpRefIdeal.nD Cert.OutMlpRefIdeal.τ).loc Cert.OutMlpRefIdeal.main_arg7) = m' ((c.tc : Thread Cert.OutMlpRefIdeal.nD Cert.OutMlpRefIdeal.τ).loc Cert.OutMlpRefIdeal.main_arg7)
          ∧ r.2.mem ((c.tc : Thread Cert.OutMlpRefIdeal.nD Cert.OutMlpRefIdeal.τ).loc Cert.OutMlpRefIdeal.main_arg8) = m' ((c.tc : Thread Cert.OutMlpRefIdeal.nD Cert.OutMlpRefIdeal.τ).loc Cert.OutMlpRefIdeal.main_arg8)
          ∧ r.2.mem ((c.tc : Thread Cert.OutMlpRefIdeal.nD Cert.OutMlpRefIdeal.τ).loc Cert.OutMlpRefIdeal.main_arg9) = m' ((c.tc : Thread Cert.OutMlpRefIdeal.nD Cert.OutMlpRefIdeal.τ).loc Cert.OutMlpRefIdeal.main_arg9)
          ∧ r.2.mem ((c.tc : Thread Cert.OutMlpRefIdeal.nD Cert.OutMlpRefIdeal.τ).loc Cert.OutMlpRefIdeal.main_arg10) = m' ((c.tc : Thread Cert.OutMlpRefIdeal.nD Cert.OutMlpRefIdeal.τ).loc Cert.OutMlpRefIdeal.main_arg10)
          ∧ r.2.mem ((c.tc : Thread Cert.OutMlpRefIdeal.nD Cert.OutMlpRefIdeal.τ).loc Cert.OutMlpRefIdeal.main_arg11) = m' ((c.tc : Thread Cert.OutMlpRefIdeal.nD Cert.OutMlpRefIdeal.τ).loc Cert.OutMlpRefIdeal.main_arg11)
          ∧ r.2.mem ((c.tc : Thread Cert.OutMlpRefIdeal.nD Cert.OutMlpRefIdeal.τ).loc Cert.OutMlpRefIdeal.main_arg12) = m' ((c.tc : Thread Cert.OutMlpRefIdeal.nD Cert.OutMlpRefIdeal.τ).loc Cert.OutMlpRefIdeal.main_arg12))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v0)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v0) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v14) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_InProj_InProjIdeal : Prop :=
  IdealRules.named_const.Statement Cert.InProjIdeal.κ "q_scale" .f32 0x3E16C740#32 (((Real.sqrt 96)⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)
      ∧ m' ((c.tc : Thread Cert.InProjRefIdeal.nD Cert.InProjRefIdeal.τ).loc Cert.InProjRefIdeal.main_arg11) = m ((c.tc : Thread Cert.InProjIdeal.nD Cert.InProjIdeal.τ).loc Cert.InProjIdeal.main_arg11)
      ∧ m' ((c.tc : Thread Cert.InProjRefIdeal.nD Cert.InProjRefIdeal.τ).loc Cert.InProjRefIdeal.main_arg12) = m ((c.tc : Thread Cert.InProjIdeal.nD Cert.InProjIdeal.τ).loc Cert.InProjIdeal.main_arg12)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)) (v6 : (c : Dev Cert.InProjIdeal.nD) → Buf (Elt Ideal) ((c.tc : Thread Cert.InProjIdeal.nD Cert.InProjIdeal.τ).loc Cert.InProjIdeal.main_v0_6)) (v7 : (c : Dev Cert.InProjIdeal.nD) → Buf (Elt Ideal) ((c.tc : Thread Cert.InProjIdeal.nD Cert.InProjIdeal.τ).loc Cert.InProjIdeal.main_v0_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_v0_6) = v6 c
          ∧ r.2.mem ((c.tc : Thread Cert.InProjIdeal.nD Cert.InProjIdeal.τ).loc Cert.InProjIdeal.main_v0_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
          ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v142) = v0 c
          ∧ r.2.mem ((c.tc : Thread Cert.InProjRefIdeal.nD Cert.InProjRefIdeal.τ).loc Cert.InProjRefIdeal.main_v144) = v1 c
          ∧ r.2.mem ((c.tc : Thread Cert.InProjRefIdeal.nD Cert.InProjRefIdeal.τ).loc Cert.InProjRefIdeal.main_v146) = v2 c
          ∧ r.2.mem ((c.tc : Thread Cert.InProjRefIdeal.nD Cert.InProjRefIdeal.τ).loc Cert.InProjRefIdeal.main_v148) = v3 c
          ∧ r.2.mem ((c.tc : Thread Cert.InProjRefIdeal.nD Cert.InProjRefIdeal.τ).loc Cert.InProjRefIdeal.main_v149) = v4 c
          ∧ r.2.mem ((c.tc : Thread Cert.InProjRefIdeal.nD Cert.InProjRefIdeal.τ).loc Cert.InProjRefIdeal.main_v150) = v5 c
          ∧ r.2.mem ((c.tc : Thread Cert.InProjRefIdeal.nD Cert.InProjRefIdeal.τ).loc Cert.InProjRefIdeal.main_v151) = v6 c
          ∧ r.2.mem ((c.tc : Thread Cert.InProjRefIdeal.nD Cert.InProjRefIdeal.τ).loc Cert.InProjRefIdeal.main_v152) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10)
          ∧ r.2.mem ((c.tc : Thread Cert.InProjRefIdeal.nD Cert.InProjRefIdeal.τ).loc Cert.InProjRefIdeal.main_arg11) = m' ((c.tc : Thread Cert.InProjRefIdeal.nD Cert.InProjRefIdeal.τ).loc Cert.InProjRefIdeal.main_arg11)
          ∧ r.2.mem ((c.tc : Thread Cert.InProjRefIdeal.nD Cert.InProjRefIdeal.τ).loc Cert.InProjRefIdeal.main_arg12) = m' ((c.tc : Thread Cert.InProjRefIdeal.nD Cert.InProjRefIdeal.τ).loc Cert.InProjRefIdeal.main_arg12))

def Claim : Prop :=
  ∃ (hKernel : Cert.Kernel.Facts) (hKernelIdeal : Cert.KernelIdeal.Facts) (hReferenceIdeal : Cert.ReferenceIdeal.Facts) (hOutMlp : Cert.OutMlp.Facts) (hOutMlpIdeal : Cert.OutMlpIdeal.Facts) (hOutMlpRefIdeal : Cert.OutMlpRefIdeal.Facts) (hFinalNorm : Cert.FinalNorm.Facts) (hFinalNormIdeal : Cert.FinalNormIdeal.Facts) (hFinalNormRefIdeal : Cert.FinalNormRefIdeal.Facts) (hInProj : Cert.InProj.Facts) (hInProjIdeal : Cert.InProjIdeal.Facts) (hInProjRefIdeal : Cert.InProjRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_OutMlp (hOutMlp := hOutMlp)
    ∧ quiescent_OutMlpIdeal (hOutMlpIdeal := hOutMlpIdeal)
    ∧ quiescent_OutMlpRefIdeal (hOutMlpRefIdeal := hOutMlpRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_OutMlp_OutMlpIdeal
    ∧ algebraic_OutMlpIdeal_OutMlpRefIdeal (hOutMlpIdeal := hOutMlpIdeal) (hOutMlpRefIdeal := hOutMlpRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_InProj_InProjIdeal
    ∧ algebraic_InProjIdeal_InProjRefIdeal (hInProjIdeal := hInProjIdeal) (hInProjRefIdeal := hInProjRefIdeal)
-- ==== Pre_finite_qk.lean ====
abbrev S2x8448x512 : Shape := ⟨3, ![2, 8448, 512]⟩
abbrev S22x256x768 : Shape := ⟨3, ![22, 256, 768]⟩
abbrev S_ : Shape := ⟨0, ![]⟩

class Facts : Prop where
  bitsLt_bf16_f32 : FTy.bits .bf16 < FTy.bits .f32
  bcast_S_S2x8448x512 : S_.BroadcastsInDim S2x8448x512 (![] : Fin 0 → Fin S2x8448x512.rank)
  reducesTo_S2x8448x512_S_d0_1_2 : S2x8448x512.ReducesTo [0, 1, 2] S_
  h_S_ : 0 < S_.numel

variable [Facts]

def fn {F : FTy → Type} [FloatOps F] (main_arg0 : FVec F S2x8448x512 .bf16) (main_arg1 : FVec F S2x8448x512 .bf16) (main_arg2 : FVec F S22x256x768 .bf16) : IVec S_ 1 :=
  let main_v0 : FVec F S2x8448x512 .f32 := (extf .f32 · bitsLt_bf16_f32) main_arg0
  let main_v1 : FVec F S2x8448x512 .f32 := Host.absf main_v0
  let main_cst : FVec F S_ .f32 := constant S_ .f32 0x7F800000#32
  let main_v2 : FVec F S2x8448x512 .f32 := broadcastInDim S2x8448x512 ![] bcast_S_S2x8448x512 main_cst
  let main_v3 : IVec S2x8448x512 1 := cmpf .olt main_v1 main_v2
  let main_c : IVec S_ 1 := constantI S_ 1 1#1
  let main_v4 : IVec S_ 1 := (fun x v => Host.reduce IntOp.andi x v reducesTo_S2x8448x512_S_d0_1_2 h_S_) main_v3 main_c
  let main_v5 : FVec F S2x8448x512 .f32 := (extf .f32 · bitsLt_bf16_f32) main_arg1
  let main_v6 : FVec F S2x8448x512 .f32 := Host.absf main_v5
  let main_cst_0 : FVec F S_ .f32 := constant S_ .f32 0x7F800000#32
  let main_v7 : FVec F S2x8448x512 .f32 := broadcastInDim S2x8448x512 ![] bcast_S_S2x8448x512 main_cst_0
  let main_v8 : IVec S2x8448x512 1 := cmpf .olt main_v6 main_v7
  let main_c_1 : IVec S_ 1 := constantI S_ 1 1#1
  let main_v9 : IVec S_ 1 := (fun x v => Host.reduce IntOp.andi x v reducesTo_S2x8448x512_S_d0_1_2 h_S_) main_v8 main_c_1
  let main_v10 : IVec S_ 1 := andi main_v4 main_v9
  main_v10
-- ==== Kernel.lean ====
abbrev S2x8448x512 : Shape := ⟨3, ![2, 8448, 512]⟩
abbrev S22x256x768 : Shape := ⟨3, ![22, 256, 768]⟩
abbrev S2x11x256x768 : Shape := ⟨4, ![2, 11, 256, 768]⟩
abbrev S2x8448x256 : Shape := ⟨3, ![2, 8448, 256]⟩
abbrev S1x256x512 : Shape := ⟨3, ![1, 256, 512]⟩
abbrev S1x8448x512 : Shape := ⟨3, ![1, 8448, 512]⟩
abbrev S1x11x256x768 : Shape := ⟨4, ![1, 11, 256, 768]⟩
abbrev S1x256x256 : Shape := ⟨3, ![1, 256, 256]⟩
abbrev S2x512x256 : Shape := ⟨3, ![2, 512, 256]⟩
abbrev S2x768x512 : Shape := ⟨3, ![2, 768, 512]⟩
abbrev S256x256 : Shape := ⟨2, ![256, 256]⟩
abbrev S1x512 : Shape := ⟨2, ![1, 512]⟩
abbrev S64x256 : Shape := ⟨2, ![64, 256]⟩
abbrev S1x512x256 : Shape := ⟨3, ![1, 512, 256]⟩
abbrev S512x256 : Shape := ⟨2, ![512, 256]⟩
abbrev S256x512 : Shape := ⟨2, ![256, 512]⟩
abbrev S8x32x512 : Shape := ⟨3, ![8, 32, 512]⟩
abbrev S32x512 : Shape := ⟨2, ![32, 512]⟩
abbrev S4x8x512 : Shape := ⟨3, ![4, 8, 512]⟩
abbrev S8x512 : Shape := ⟨2, ![8, 512]⟩
abbrev S512 : Shape := ⟨1, ![512]⟩
abbrev S16x256 : Shape := ⟨2, ![16, 256]⟩
abbrev S1x1x64x256 : Shape := ⟨4, ![1, 1, 64, 256]⟩
abbrev S80x256 : Shape := ⟨2, ![80, 256]⟩
abbrev S1x256 : Shape := ⟨2, ![1, 256]⟩
abbrev S1x768x256 : Shape := ⟨3, ![1, 768, 256]⟩
abbrev S768x256 : Shape := ⟨2, ![768, 256]⟩
abbrev S768x512 : Shape := ⟨2, ![768, 512]⟩
abbrev S1x768x512 : Shape := ⟨3, ![1, 768, 512]⟩
abbrev S8x96x512 : Shape := ⟨3, ![8, 96, 512]⟩
abbrev S96x512 : Shape := ⟨2, ![96, 512]⟩
abbrev S4x24x512 : Shape := ⟨3, ![4, 24, 512]⟩
abbrev S24x512 : Shape := ⟨2, ![24, 512]⟩
abbrev S16x768 : Shape := ⟨2, ![16, 768]⟩
abbrev S1x1x64x768 : Shape := ⟨4, ![1, 1, 64, 768]⟩
abbrev S64x768 : Shape := ⟨2, ![64, 768]⟩
abbrev S80x768 : Shape := ⟨2, ![80, 768]⟩

abbrev nBuf : Space → Nat
  | .hbm => 5
  | .vmem => 11
  | .smem => 0
  | _ => 0

abbrev bufTy : (tb : Table) → Fin (tcTables nBuf tb) → BufTy
  | .hbm, ⟨0, _⟩ => ⟨S2x8448x512, .bf16⟩
  | .hbm, ⟨1, _⟩ => ⟨S2x8448x512, .bf16⟩
  | .hbm, ⟨2, _⟩ => ⟨S22x256x768, .bf16⟩
  | .hbm, ⟨3, _⟩ => ⟨S2x11x256x768, .bf16⟩
  | .hbm, ⟨4, _⟩ => ⟨S2x8448x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x8448x512, .bf16⟩
  | .local _ .vmem, ⟨3, _⟩ => ⟨S1x8448x512, .bf16⟩
  | .local _ .vmem, ⟨4, _⟩ => ⟨S1x11x256x768, .bf16⟩
  | .local _ .vmem, ⟨5, _⟩ => ⟨S1x11x256x768, .bf16⟩
  | .local _ .vmem, ⟨6, _⟩ => ⟨S1x256x256, .bf16⟩
  | .local _ .vmem, ⟨7, _⟩ => ⟨S1x256x256, .bf16⟩
  | .local _ .vmem, ⟨8, _⟩ => ⟨S2x512x256, .bf16⟩
  | .local _ .vmem, ⟨9, _⟩ => ⟨S2x768x512, .f32⟩
  | .local _ .vmem, ⟨10, _⟩ => ⟨S2x768x512, .f32⟩
  | _, _ => ⟨S2x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_21 : BitVec 32 := 0#32
  let v35 : BitVec 1 := Scalar.cmpi .ne v34 c0_i32_21
  v35

def k0_mult1 : BitVec 32 :=
  let c0_i32_28 : BitVec 32 := 0#32
  c0_i32_28
def k0_cond2 (i : grid0.Coords) : BitVec 1 :=
  let arg1 : BitVec 32 := BitVec.ofNat 32 (i 1).val
  let c0_i32_22 : BitVec 32 := 0#32
  let v36 : BitVec 1 := Scalar.cmpi .sgt arg1 c0_i32_22
  let v37 : BitVec 32 := Scalar.extui v36
  let c0_i32_23 : BitVec 32 := 0#32
  let v38 : BitVec 1 := Scalar.cmpi .ne v37 c0_i32_23
  v38

def k0_mult2 : BitVec 32 :=
  let c0_i32_28 : BitVec 32 := 0#32
  c0_i32_28
@[reducible] def k0_t1_loop : Scf.Loop 32 :=
  let c0_i32_53 : BitVec 32 := 0#32
  let c5_i32 : BitVec 32 := 5#32
  let v74 : BitVec 32 := Scalar.addi c0_i32_53 c5_i32
  let c1_i32 : BitVec 32 := 1#32
  ⟨c0_i32_53, v74, c1_i32⟩
def k0_mult3 (k0_t1 : Fin k0_t1_loop.trips) : BitVec 32 :=
  let c2_i32 : BitVec 32 := 2#32
  let c0_i32_53 : BitVec 32 := 0#32
  let c1_i32 : BitVec 32 := 1#32
  let arg9 : BitVec 32 := Scf.iv c0_i32_53 c1_i32 k0_t1
  let v164 : BitVec 32 := Scalar.muli c2_i32 arg9
  let c1_i32_82 : BitVec 32 := 1#32
  let v165 : BitVec 32 := Scalar.addi v164 c1_i32_82
  let c768_i32 : BitVec 32 := 768#32
  let v166 : BitVec 32 := Scalar.muli v165 c768_i32
  v166
def k0_off1 (k0_t1 : Fin k0_t1_loop.trips) (c1_i32_82 : BitVec 32) : Fin 3 → Nat :=
  let c0_83 : Index := 0#32
  let c2_i32 : BitVec 32 := 2#32
  let c0_i32_53 : BitVec 32 := 0#32
  let c1_i32 : BitVec 32 := 1#32
  let arg9 : BitVec 32 := Scf.iv c0_i32_53 c1_i32 k0_t1
  let v164 : BitVec 32 := Scalar.muli c2_i32 arg9
  let v165 : BitVec 32 := Scalar.addi v164 c1_i32_82
  let c768_i32 : BitVec 32 := 768#32
  let v166 : BitVec 32 := Scalar.muli v165 c768_i32
  let v167 : BitVec 32 := v166
  let v168 : Index := Scalar.indexCast v167
  let c0_84 : Index := 0#32
  ![0, v168.toNat, 0]
def k0_off2 (k0_t1 : Fin k0_t1_loop.trips) (c1_i32_82 : BitVec 32) : Fin 3 → Nat :=
  let c0_95 : Index := 0#32
  let c2_i32 : BitVec 32 := 2#32
  let c0_i32_53 : BitVec 32 := 0#32
  let c1_i32 : BitVec 32 := 1#32
  let arg9 : BitVec 32 := Scf.iv c0_i32_53 c1_i32 k0_t1
  let v164 : BitVec 32 := Scalar.muli c2_i32 arg9
  let v165 : BitVec 32 := Scalar.addi v164 c1_i32_82
  let c768_i32 : BitVec 32 := 768#32
  let v166 : BitVec 32 := Scalar.muli v165 c768_i32
  let v167 : BitVec 32 := v166
  let v183 : Index := Scalar.indexCast v167
  let c256_96 : Index := 256#32
  ![0, v183.toNat, 256]
def k0_off3 (k0_t1 : Fin k0_t1_loop.trips) : Fin 4 → Nat :=
  let c0_112 : Index := 0#32
  let c2_i32_107 : BitVec 32 := 2#32
  let c0_i32_53 : BitVec 32 := 0#32
  let c1_i32 : BitVec 32 := 1#32
  let arg9 : BitVec 32 := Scf.iv c0_i32_53 c1_i32 k0_t1
  let v198 : BitVec 32 := Scalar.muli c2_i32_107 arg9
  let v209 : Index := Scalar.indexCast v198
  let c0_113 : Index := 0#32
  let c0_114 : Index := 0#32
  ![0, v209.toNat, 0, 0]
def k0_off4 (k0_t1 : Fin k0_t1_loop.trips) : Fin 4 → Nat :=
  let c0_115 : Index := 0#32
  let c2_i32_107 : BitVec 32 := 2#32
  let c0_i32_53 : BitVec 32 := 0#32
  let c1_i32 : BitVec 32 := 1#32
  let arg9 : BitVec 32 := Scf.iv c0_i32_53 c1_i32 k0_t1
  let v198 : BitVec 32 := Scalar.muli c2_i32_107 arg9
  let v213 : Index := Scalar.indexCast v198
  let c64_116 : Index := 64#32
  let c0_117 : Index := 0#32
  ![0, v213.toNat, 64, 0]
def k0_off5 (k0_t1 : Fin k0_t1_loop.trips) : Fin 4 → Nat :=
  let c0_124 : Index := 0#32
  let c2_i32_107 : BitVec 32 := 2#32
  let c0_i32_53 : BitVec 32 := 0#32
  let c1_i32 : BitVec 32 := 1#32
  let arg9 : BitVec 32 := Scf.iv c0_i32_53 c1_i32 k0_t1
  let v198 : BitVec 32 := Scalar.muli c2_i32_107 arg9
  let v246 : Index := Scalar.indexCast v198
  let c128_125 : Index := 128#32
  let c0_126 : Index := 0#32
  ![0, v246.toNat, 128, 0]
def k0_off6 (k0_t1 : Fin k0_t1_loop.trips) : Fin 4 → Nat :=
  let c0_127 : Index := 0#32
  let c2_i32_107 : BitVec 32 := 2#32
  let c0_i32_53 : BitVec 32 := 0#32
  let c1_i32 : BitVec 32 := 1#32
  let arg9 : BitVec 32 := Scf.iv c0_i32_53 c1_i32 k0_t1
  let v198 : BitVec 32 := Scalar.muli c2_i32_107 arg9
  let v250 : Index := Scalar.indexCast v198
  let c192_128 : Index := 192#32
  let c0_129 : Index := 0#32
  ![0, v250.toNat, 192, 0]
def k0_mult4 (k0_t1 : Fin k0_t1_loop.trips) : BitVec 32 :=
  let c2_i32_132 : BitVec 32 := 2#32
  let c0_i32_53 : BitVec 32 := 0#32
  let c1_i32 : BitVec 32 := 1#32
  let arg9 : BitVec 32 := Scf.iv c0_i32_53 c1_i32 k0_t1
  let v273 : BitVec 32 := Scalar.muli c2_i32_132 arg9
  let c2_i32_133 : BitVec 32 := 2#32
  let v274 : BitVec 32 := Scalar.addi v273 c2_i32_133
  let c768_i32_134 : BitVec 32 := 768#32
  let v275 : BitVec 32 := Scalar.muli v274 c768_i32_134
  v275
def k0_off7 (k0_t1 : Fin k0_t1_loop.trips) : Fin 4 → Nat :=
  let c0_165 : Index := 0#32
  let c2_i32_159 : BitVec 32 := 2#32
  let c0_i32_53 : BitVec 32 := 0#32
  let c1_i32 : BitVec 32 := 1#32
  let arg9 : BitVec 32 := Scf.iv c0_i32_53 c1_i32 k0_t1
  let v307 : BitVec 32 := Scalar.muli c2_i32_159 arg9
  let c1_i32_160 : BitVec 32 := 1#32
  let v308 : BitVec 32 := Scalar.addi v307 c1_i32_160
  let v319 : Index := Scalar.indexCast v308
  let c0_166 : Index := 0#32
  let c0_167 : Index := 0#32
  ![0, v319.toNat, 0, 0]
def k0_off8 (k0_t1 : Fin k0_t1_loop.trips) : Fin 4 → Nat :=
  let c0_168 : Index := 0#32
  let c2_i32_159 : BitVec 32 := 2#32
  let c0_i32_53 : BitVec 32 := 0#32
  let c1_i32 : BitVec 32 := 1#32
  let arg9 : BitVec 32 := Scf.iv c0_i32_53 c1_i32 k0_t1
  let v307 : BitVec 32 := Scalar.muli c2_i32_159 arg9
  let c1_i32_160 : BitVec 32 := 1#32
  let v308 : BitVec 32 := Scalar.addi v307 c1_i32_160
  let v323 : Index := Scalar.indexCast v308
  let c64_169 : Index := 64#32
  let c0_170 : Index := 0#32
  ![0, v323.toNat, 64, 0]
def k0_off9 (k0_t1 : Fin k0_t1_loop.trips) : Fin 4 → Nat :=
  let c0_177 : Index := 0#32
  let c2_i32_159 : BitVec 32 := 2#32
  let c0_i32_53 : BitVec 32 := 0#32
  let c1_i32 : BitVec 32 := 1#32
  let arg9 : BitVec 32 := Scf.iv c0_i32_53 c1_i32 k0_t1
  let v307 : BitVec 32 := Scalar.muli c2_i32_159 arg9
  let c1_i32_160 : BitVec 32 := 1#32
  let v308 : BitVec 32 := Scalar.addi v307 c1_i32_160
  let v356 : Index := Scalar.indexCast v308
  let c128_178 : Index := 128#32
  let c0_179 : Index := 0#32
  ![0, v356.toNat, 128, 0]
def k0_off10 (k0_t1 : Fin k0_t1_loop.trips) : Fin 4 → Nat :=
  let c0_180 : Index := 0#32
  let c2_i32_159 : BitVec 32 := 2#32
  let c0_i32_53 : BitVec 32 := 0#32
  let c1_i32 : BitVec 32 := 1#32
  let arg9 : BitVec 32 := Scf.iv c0_i32_53 c1_i32 k0_t1
  let v307 : BitVec 32 := Scalar.muli c2_i32_159 arg9
  let c1_i32_160 : BitVec 32 := 1#32
  let v308 : BitVec 32 := Scalar.addi v307 c1_i32_160
  let v360 : Index := Scalar.indexCast v308
  let c192_181 : Index := 192#32
  let c0_182 : Index := 0#32
  ![0, v360.toNat, 192, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x11x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8448x512 : Shape := ⟨3, ![2, 8448, 512]⟩
abbrev S22x256x768 : Shape := ⟨3, ![22, 256, 768]⟩
abbrev S2x8448x4x128 : Shape := ⟨4, ![2, 8448, 4, 128]⟩
abbrev S2x11x4x64x768 : Shape := ⟨5, ![2, 11, 4, 64, 768]⟩
abbrev S2x11x768x4x64 : Shape := ⟨5, ![2, 11, 768, 4, 64]⟩
abbrev S2x8448x4x64 : Shape := ⟨4, ![2, 8448, 4, 64]⟩
abbrev S2x256x4x128 : Shape := ⟨4, ![2, 256, 4, 128]⟩
abbrev S2x256x4x64 : Shape := ⟨4, ![2, 256, 4, 64]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x256x256 : Shape := ⟨3, ![2, 256, 256]⟩
abbrev S2x8192x4x128 : Shape := ⟨4, ![2, 8192, 4, 128]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x4x64 : Shape := ⟨4, ![2, 8192, 4, 64]⟩
abbrev S2x8192x256 : Shape := ⟨3, ![2, 8192, 256]⟩
abbrev S2x8448x256 : Shape := ⟨3, ![2, 8448, 256]⟩

abbrev nBuf : Space → Nat
  | .hbm => 65
  | .vmem => 0
  | .smem => 0
  | _ => 0

abbrev bufTy : (tb : Table) → Fin (tcTables nBuf tb) → BufTy
  | .hbm, ⟨0, _⟩ => ⟨S2x8448x512, .bf16⟩
  | .hbm, ⟨1, _⟩ => ⟨S2x8448x512, .bf16⟩
  | .hbm, ⟨2, _⟩ => ⟨S22x256x768, .bf16⟩
  | .hbm, ⟨3, _⟩ => ⟨S2x8448x512, .f32⟩
  | .hbm, ⟨4, _⟩ => ⟨S2x8448x4x128, .f32⟩
  | .hbm, ⟨5, _⟩ => ⟨S2x8448x512, .f32⟩
  | .hbm, ⟨6, _⟩ => ⟨S2x8448x4x128, .f32⟩
  | .hbm, ⟨7, _⟩ => ⟨S22x256x768, .f32⟩
  | .hbm, ⟨8, _⟩ => ⟨S2x11x4x64x768, .f32⟩
  | .hbm, ⟨9, _⟩ => ⟨S2x11x768x4x64, .f32⟩
  | .hbm, ⟨10, _⟩ => ⟨S2x8448x4x64, .f32⟩
  | .hbm, ⟨11, _⟩ => ⟨S2x256x4x128, .f32⟩
  | .hbm, ⟨12, _⟩ => ⟨S2x256x4x128, .f32⟩
  | .hbm, ⟨13, _⟩ => ⟨S2x256x4x64, .f32⟩
  | .hbm, ⟨14, _⟩ => ⟨S2x4x256x256, .f32⟩
  | .hbm, ⟨15, _⟩ => ⟨S_, .f32⟩
  | .hbm, ⟨16, _⟩ => ⟨S_, .f32⟩
  | .hbm, ⟨17, _⟩ => ⟨S2x4x256x256, .f32⟩
  | .hbm, ⟨18, _⟩ => ⟨S2x4x256x256, .f32⟩
  | .hbm, ⟨19, _⟩ => ⟨S_, .f32⟩
  | .hbm, ⟨20, _⟩ => ⟨S2x4x256, .f32⟩
  | .hbm, ⟨21, _⟩ => ⟨S_, .f32⟩
  | .hbm, ⟨22, _⟩ => ⟨S2x4x256, .f32⟩
  | .hbm, ⟨23, _⟩ => ⟨S2x4x256, .f32⟩
  | .hbm, ⟨24, _⟩ => ⟨S2x4x256x1, .f32⟩
  | .hbm, ⟨25, _⟩ => ⟨S2x4x256x256, .f32⟩
  | .hbm, ⟨26, _⟩ => ⟨S2x4x256x256, .f32⟩
  | .hbm, ⟨27, _⟩ => ⟨S2x4x256x256, .f32⟩
  | .hbm, ⟨28, _⟩ => ⟨S_, .f32⟩
  | .hbm, ⟨29, _⟩ => ⟨S2x4x256, .f32⟩
  | .hbm, ⟨30, _⟩ => ⟨S2x4x256x1, .f32⟩
  | .hbm, ⟨31, _⟩ => ⟨S2x4x256x256, .f32⟩
  | .hbm, ⟨32, _⟩ => ⟨S2x4x256x256, .f32⟩
  | .hbm, ⟨33, _⟩ => ⟨S2x4x256x256, .bf16⟩
  | .hbm, ⟨34, _⟩ => ⟨S2x4x256x256, .f32⟩
  | .hbm, ⟨35, _⟩ => ⟨S2x4x64x256, .f32⟩
  | .hbm, ⟨36, _⟩ => ⟨S2x256x4x64, .f32⟩
  | .hbm, ⟨37, _⟩ => ⟨S2x256x256, .f32⟩
  | .hbm, ⟨38, _⟩ => ⟨S2x8192x4x128, .f32⟩
  | .hbm, ⟨39, _⟩ => ⟨S2x4x8192x8448, .f32⟩
  | .hbm, ⟨40, _⟩ => ⟨S_, .f32⟩
  | .hbm, ⟨41, _⟩ => ⟨S_, .f32⟩
  | .hbm, ⟨42, _⟩ => ⟨S2x4x8192x8448, .f32⟩
  | .hbm, ⟨43, _⟩ => ⟨S2x4x8192x8448, .f32⟩
  | .hbm, ⟨44, _⟩ => ⟨S_, .f32⟩
  | .hbm, ⟨45, _⟩ => ⟨S2x4x8192, .f32⟩
  | .hbm, ⟨46, _⟩ => ⟨S_, .f32⟩
  | .hbm, ⟨47, _⟩ => ⟨S2x4x8192, .f32⟩
  | .hbm, ⟨48, _⟩ => ⟨S2x4x8192, .f32⟩
  | .hbm, ⟨49, _⟩ => ⟨S2x4x8192x1, .f32⟩
  | .hbm, ⟨50, _⟩ => ⟨S2x4x8192x8448, .f32⟩
  | .hbm, ⟨51, _⟩ => ⟨S2x4x8192x8448, .f32⟩
  | .hbm, ⟨52, _⟩ => ⟨S2x4x8192x8448, .f32⟩
  | .hbm, ⟨53, _⟩ => ⟨S_, .f32⟩
  | .hbm, ⟨54, _⟩ => ⟨S2x4x8192, .f32⟩
  | .hbm, ⟨55, _⟩ => ⟨S2x4x8192x1, .f32⟩
  | .hbm, ⟨56, _⟩ => ⟨S2x4x8192x8448, .f32⟩
  | .hbm, ⟨57, _⟩ => ⟨S2x4x8192x8448, .f32⟩
  | .hbm, ⟨58, _⟩ => ⟨S2x4x8192x8448, .bf16⟩
  | .hbm, ⟨59, _⟩ => ⟨S2x4x8192x8448, .f32⟩
  | .hbm, ⟨60, _⟩ => ⟨S2x4x64x8192, .f32⟩
  | .hbm, ⟨61, _⟩ => ⟨S2x8192x4x64, .f32⟩
  | .hbm, ⟨62, _⟩ => ⟨S2x8192x256, .f32⟩
  | .hbm, ⟨63, _⟩ => ⟨S2x8448x256, .f32⟩
  | .hbm, ⟨64, _⟩ => ⟨S2x8448x256, .bf16⟩
  | _, _ => ⟨S2x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== OutMlp.lean ====
abbrev S16896x1024 : Shape := ⟨2, ![16896, 1024]⟩
abbrev S16896x256 : Shape := ⟨2, ![16896, 256]⟩
abbrev S1x256 : Shape := ⟨2, ![1, 256]⟩
abbrev S8x6x1024 : Shape := ⟨3, ![8, 6, 1024]⟩
abbrev S4x1024x1024 : Shape := ⟨3, ![4, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S512x256 : Shape := ⟨2, ![512, 256]⟩
abbrev S1x6x1024 : Shape := ⟨3, ![1, 6, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 14
  | .vmem => 25
  | .smem => 0
  | _ => 0

abbrev bufTy : (tb : Table) → Fin (tcTables nBuf tb) → BufTy
  | .hbm, ⟨0, _⟩ => ⟨S16896x1024, .f32⟩
  | .hbm, ⟨1, _⟩ => ⟨S16896x256, .bf16⟩
  | .hbm, ⟨2, _⟩ => ⟨S16896x256, .bf16⟩
  | .hbm, ⟨3, _⟩ => ⟨S16896x256, .bf16⟩
  | .hbm, ⟨4, _⟩ => ⟨S16896x256, .f32⟩
  | .hbm, ⟨5, _⟩ => ⟨S16896x256, .f32⟩
  | .hbm, ⟨6, _⟩ => ⟨S16896x256, .f32⟩
  | .hbm, ⟨7, _⟩ => ⟨S1x256, .f32⟩
  | .hbm, ⟨8, _⟩ => ⟨S8x6x1024, .f32⟩
  | .hbm, ⟨9, _⟩ => ⟨S4x1024x1024, .bf16⟩
  | .hbm, ⟨10, _⟩ => ⟨S1x1024, .f32⟩
  | .hbm, ⟨11, _⟩ => ⟨S4x1024x4096, .bf16⟩
  | .hbm, ⟨12, _⟩ => ⟨S4x4096x1024, .bf16⟩
  | .hbm, ⟨13, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1x256, .f32⟩
  | .local _ .vmem, ⟨15, _⟩ => ⟨S1x6x1024, .f32⟩
  | .local _ .vmem, ⟨16, _⟩ => ⟨S1x6x1024, .f32⟩
  | .local _ .vmem, ⟨17, _⟩ => ⟨S1x6x1024, .f32⟩
  | .local _ .vmem, ⟨18, _⟩ => ⟨S1x6x1024, .f32⟩
  | .local _ .vmem, ⟨19, _⟩ => ⟨S1x1024x1024, .bf16⟩
  | .local _ .vmem, ⟨20, _⟩ => ⟨S1x1024, .f32⟩
  | .local _ .vmem, ⟨21, _⟩ => ⟨S1x1024x4096, .bf16⟩
  | .local _ .vmem, ⟨22, _⟩ => ⟨S1x4096x1024, .bf16⟩
  | .local _ .vmem, ⟨23, _⟩ => ⟨S512x1024, .f32⟩
  | .local _ .vmem, ⟨24, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c33_i32 : BitVec 32 := 33#32
  let c0_i32_0 : BitVec 32 := 0#32
  let v2 : BitVec 1 := Scalar.cmpi .eq c33_i32 c0_i32_0
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c1_i32_12 : BitVec 32 := 1#32
  let v30 : BitVec 32 := Scalar.addi c1_i32_12 v29
  let c0_i32_13 : BitVec 32 := 0#32
  let v31 : BitVec 32 := Scalar.select v12 c0_i32_13 v30
  let c0_i32_14 : BitVec 32 := 0#32
  let c0_i32_15 : BitVec 32 := 0#32
  let c0_i32_16 : BitVec 32 := 0#32
  ![v31.toNat, c0_i32_14.toNat, c0_i32_15.toNat]

def cc0_transform_9 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c33_i32 : BitVec 32 := 33#32
  let c0_i32 : BitVec 32 := 0#32
  let v2 : BitVec 1 := Scalar.cmpi .eq c33_i32 c0_i32
  let c1_i32_0 : BitVec 32 := 1#32
  let v3 : BitVec 32 := Scalar.select v2 c1_i32_0 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c1_i32_12 : BitVec 32 := 1#32
  let v30 : BitVec 32 := Scalar.addi c1_i32_12 v29
  let c0_i32_13 : BitVec 32 := 0#32
  let v31 : BitVec 32 := Scalar.select v12 c0_i32_13 v30
  let c0_i32_14 : BitVec 32 := 0#32
  let c0_i32_15 : BitVec 32 := 0#32
  let c0_i32_16 : BitVec 32 := 0#32
  ![v31.toNat, c0_i32_14.toNat, c0_i32_15.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutMlpRefIdeal.lean ====
abbrev S16896x1024 : Shape := ⟨2, ![16896, 1024]⟩
abbrev S16896x256 : Shape := ⟨2, ![16896, 256]⟩
abbrev S1x256 : Shape := ⟨2, ![1, 256]⟩
abbrev S8x6x1024 : Shape := ⟨3, ![8, 6, 1024]⟩
abbrev S4x1024x1024 : Shape := ⟨3, ![4, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8448x1024 : Shape := ⟨3, ![2, 8448, 1024]⟩
abbrev S2x8448x256 : Shape := ⟨3, ![2, 8448, 256]⟩
abbrev S_ : Shape := ⟨0, ![]⟩
abbrev S256 : Shape := ⟨1, ![256]⟩
abbrev S2x8448 : Shape := ⟨2, ![2, 8448]⟩
abbrev S2x8448x1 : Shape := ⟨3, ![2, 8448, 1]⟩
abbrev S1x1x256 : Shape := ⟨3, ![1, 1, 256]⟩
abbrev S1x1x1024 : Shape := ⟨3, ![1, 1, 1024]⟩
abbrev S1024 : Shape := ⟨1, ![1024]⟩
abbrev S2x1x1024 : Shape := ⟨3, ![2, 1, 1024]⟩
abbrev S2x1024 : Shape := ⟨2, ![2, 1024]⟩
abbrev S2x256x1024 : Shape := ⟨3, ![2, 256, 1024]⟩
abbrev S2x256 : Shape := ⟨2, ![2, 256]⟩
abbrev S2x256x1 : Shape := ⟨3, ![2, 256, 1]⟩
abbrev S2x256x4096 : Shape := ⟨3, ![2, 256, 4096]⟩
abbrev S2x8192x1024 : Shape := ⟨3, ![2, 8192, 1024]⟩
abbrev S2x8192 : Shape := ⟨2, ![2, 8192]⟩
abbrev S2x8192x1 : Shape := ⟨3, ![2, 8192, 1]⟩
abbrev S2x8192x4096 : Shape := ⟨3, ![2, 8192, 4096]⟩

abbrev nBuf : Space → Nat
  | .hbm => 174
  | .vmem => 0
  | .smem => 0
  | _ => 0

abbrev hbmTy0_0 (i : Nat) : BufTy := match i % 128 with
  | 0 => ⟨S16896x1024, .f32⟩
  | 1 => ⟨S16896x256, .bf16⟩
  | 2 => ⟨S16896x256, .bf16⟩
  | 3 => ⟨S16896x256, .bf16⟩
  | 4 => ⟨S16896x256, .f32⟩
  | 5 => ⟨S16896x256, .f32⟩
  | 6 => ⟨S16896x256, .f32⟩
  | 7 => ⟨S1x256, .f32⟩
  | 8 => ⟨S8x6x1024, .f32⟩
  | 9 => ⟨S4x1024x1024, .bf16⟩
  | 10 => ⟨S1x1024, .f32⟩
  | 11 => ⟨S4x1024x4096, .bf16⟩
  | 12 => ⟨S4x4096x1024, .bf16⟩
  | 13 => ⟨S1x1024x1024, .bf16⟩
  | 14 => ⟨S1024x1024, .bf16⟩
  | 15 => ⟨S1024x1024, .f32⟩
  | 16 => ⟨S1x1024x4096, .bf16⟩
  | 17 => ⟨S1024x4096, .bf16⟩
  | 18 => ⟨S1024x4096, .f32⟩
  | 19 => ⟨S1x4096x1024, .bf16⟩
  | 20 => ⟨S4096x1024, .bf16⟩
  | 21 => ⟨S4096x1024, .f32⟩
  | 22 => ⟨S2x8448x1024, .f32⟩
  | 23 => ⟨S16896x256, .f32⟩
  | 24 => ⟨S2x8448x256, .f32⟩
  | 25 => ⟨S16896x256, .f32⟩
  | 26 => ⟨S2x8448x256, .f32⟩
  | 27 => ⟨S16896x256, .f32⟩
  | 28 => ⟨S2x8448x256, .f32⟩
  | 29 => ⟨S2x8448x256, .f32⟩
  | 30 => ⟨S2x8448x256, .f32⟩
  | 31 => ⟨S2x8448x256, .f32⟩
  | 32 => ⟨S2x8448x256, .f32⟩
  | 33 => ⟨S2x8448x256, .f32⟩
  | 34 => ⟨S2x8448x256, .f32⟩
  | 35 => ⟨S_, .f32⟩
  | 36 => ⟨S2x8448x256, .f32⟩
  | 37 => ⟨S2x8448x256, .f32⟩
  | 38 => ⟨S_, .f32⟩
  | 39 => ⟨S2x8448x256, .f32⟩
  | 40 => ⟨S2x8448x256, .f32⟩
  | 41 => ⟨S2x8448x256, .f32⟩
  | 42 => ⟨S2x8448x256, .f32⟩
  | 43 => ⟨S256, .f32⟩
  | 44 => ⟨S2x8448x256, .f32⟩
  | 45 => ⟨S_, .f32⟩
  | 46 => ⟨S2x8448, .f32⟩
  | 47 => ⟨S2x8448x1, .f32⟩
  | 48 => ⟨S_, .f32⟩
  | 49 => ⟨S2x8448x1, .f32⟩
  | 50 => ⟨S2x8448x1, .f32⟩
  | 51 => ⟨S_, .f32⟩
  | 52 => ⟨S2x8448x1, .f32⟩
  | 53 => ⟨S2x8448x1, .f32⟩
  | 54 => ⟨S2x8448x1, .f32⟩
  | 55 => ⟨S2x8448x256, .f32⟩
  | 56 => ⟨S2x8448x256, .f32⟩
  | 57 => ⟨S1x1x256, .f32⟩
  | 58 => ⟨S2x8448x256, .f32⟩
  | 59 => ⟨S2x8448x256, .f32⟩
  | 60 => ⟨S2x8448x1024, .f32⟩
  | 61 => ⟨S2x8448x1024, .f32⟩
  | 62 => ⟨S1x1x1024, .f32⟩
  | 63 => ⟨S1024, .f32⟩
  | 64 => ⟨S1x1x1024, .f32⟩
  | 65 => ⟨S1024, .f32⟩
  | 66 => ⟨S1x1x1024, .f32⟩
  | 67 => ⟨S1024, .f32⟩
  | 68 => ⟨S1x1x1024, .f32⟩
  | 69 => ⟨S1024, .f32⟩
  | 70 => ⟨S1x1x1024, .f32⟩
  | 71 => ⟨S1024, .f32⟩
  | 72 => ⟨S1x1x1024, .f32⟩
  | 73 => ⟨S1024, .f32⟩
  | 74 => ⟨S2x1x1024, .f32⟩
  | 75 => ⟨S2x1024, .f32⟩
  | 76 => ⟨S2x1x1024, .f32⟩
  | 77 => ⟨S2x1x1024, .f32⟩
  | 78 => ⟨S2x1024, .f32⟩
  | 79 => ⟨S2x1x1024, .f32⟩
  | 80 => ⟨S2x1x1024, .f32⟩
  | 81 => ⟨S2x1024, .f32⟩
  | 82 => ⟨S2x1x1024, .f32⟩
  | 83 => ⟨S2x1x1024, .f32⟩
  | 84 => ⟨S2x1024, .f32⟩
  | 85 => ⟨S2x1x1024, .f32⟩
  | 86 => ⟨S2x1x1024, .f32⟩
  | 87 => ⟨S2x1024, .f32⟩
  | 88 => ⟨S2x1x1024, .f32⟩
  | 89 => ⟨S2x1x1024, .f32⟩
  | 90 => ⟨S2x1024, .f32⟩
  | 91 => ⟨S2x1x1024, .f32⟩
  | 92 => ⟨S2x256x1024, .f32⟩
  | 93 => ⟨S2x256x1024, .f32⟩
  | 94 => ⟨S1x1x1024, .f32⟩
  | 95 => ⟨S2x256x1024, .f32⟩
  | 96 => ⟨S2x256x1024, .f32⟩
  | 97 => ⟨S2x256x1024, .f32⟩
  | 98 => ⟨S1024, .f32⟩
  | 99 => ⟨S2x256x1024, .f32⟩
  | 100 => ⟨S_, .f32⟩
  | 101 => ⟨S2x256, .f32⟩
  | 102 => ⟨S2x256x1, .f32⟩
  | 103 => ⟨S_, .f32⟩
  | 104 => ⟨S2x256x1, .f32⟩
  | 105 => ⟨S2x256x1, .f32⟩
  | 106 => ⟨S_, .f32⟩
  | 107 => ⟨S2x256x1, .f32⟩
  | 108 => ⟨S2x256x1, .f32⟩
  | 109 => ⟨S2x256x1, .f32⟩
  | 110 => ⟨S2x256x1024, .f32⟩
  | 111 => ⟨S2x256x1024, .f32⟩
  | 112 => ⟨S1x1x1024, .f32⟩
  | 113 => ⟨S2x256x1024, .f32⟩
  | 114 => ⟨S2x256x1024, .f32⟩
  | 115 => ⟨S_, .f32⟩
  | 116 => ⟨S1024, .f32⟩
  | 117 => ⟨S1024, .f32⟩
  | 118 => ⟨S1x1x1024, .f32⟩
  | 119 => ⟨S2x256x1024, .f32⟩
  | 120 => ⟨S2x256x1024, .f32⟩
  | 121 => ⟨S1x1x1024, .f32⟩
  | 122 => ⟨S2x256x1024, .f32⟩
  | 123 => ⟨S2x256x1024, .f32⟩
  | 124 => ⟨S2x256x4096, .f32⟩
  | 125 => ⟨S_, .f32⟩
  | 126 => ⟨S2x256x4096, .f32⟩
  | 127 => ⟨S2x256x4096, .f32⟩
  | _ => ⟨S16896x1024, .f32⟩

abbrev hbmTy0_1 (i : Nat) : BufTy := match i % 128 with
  | 0 => ⟨S2x256x4096, .f32⟩
  | 1 => ⟨S2x256x1024, .f32⟩
  | 2 => ⟨S1x1x1024, .f32⟩
  | 3 => ⟨S2x256x1024, .f32⟩
  | 4 => ⟨S2x256x1024, .f32⟩
  | 5 => ⟨S2x256x1024, .f32⟩
  | 6 => ⟨S2x8192x1024, .f32⟩
  | 7 => ⟨S2x8192x1024, .f32⟩
  | 8 => ⟨S2x8192x1024, .f32⟩
  | 9 => ⟨S2x8192x1024, .f32⟩
  | 10 => ⟨S2x8192x1024, .f32⟩
  | 11 => ⟨S1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S_, .f32⟩
  | 29 => ⟨S2x1x1024, .f32⟩
  | 30 => ⟨S2x1x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S2x8192x4096, .f32⟩
  | 36 => ⟨S_, .f32⟩
  | 37 => ⟨S2x8192x4096, .f32⟩
  | 38 => ⟨S2x8192x4096, .f32⟩
  | 39 => ⟨S2x8192x4096, .f32⟩
  | 40 => ⟨S2x8192x1024, .f32⟩
  | 41 => ⟨S2x8192x1024, .f32⟩
  | 42 => ⟨S2x8192x1024, .f32⟩
  | 43 => ⟨S2x8192x1024, .f32⟩
  | 44 => ⟨S2x8448x1024, .f32⟩
  | 45 => ⟨S16896x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_cst_0 : Ref sig .tc := ⟨.hbm, 48, rfl⟩
abbrev main_v26 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_2 : Ref sig .tc := ⟨.hbm, 100, rfl⟩
abbrev main_v76 : Ref sig .tc := ⟨.hbm, 101, rfl⟩
abbrev main_v77 : Ref sig .tc := ⟨.hbm, 102, rfl⟩
abbrev main_cst_3 : Ref sig .tc := ⟨.hbm, 103, rfl⟩
abbrev main_v78 : Ref sig .tc := ⟨.hbm, 104, rfl⟩
abbrev main_v79 : Ref sig .tc := ⟨.hbm, 105, rfl⟩
abbrev main_cst_4 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_5 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_6 : Ref sig .tc := ⟨.hbm, 141, rfl⟩
abbrev main_v111 : Ref sig .tc := ⟨.hbm, 142, rfl⟩
abbrev main_v112 : Ref sig .tc := ⟨.hbm, 143, rfl⟩
abbrev main_cst_7 : Ref sig .tc := ⟨.hbm, 144, rfl⟩
abbrev main_v113 : Ref sig .tc := ⟨.hbm, 145, rfl⟩
abbrev main_v114 : Ref sig .tc := ⟨.hbm, 146, rfl⟩
abbrev main_cst_8 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_9 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_call2_cst : Ref sig .tc := ⟨.hbm, 164, rfl⟩
abbrev main_call2_v0 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩

abbrev nD : Nat := 1
abbrev τ : Topo := Topo.v7x

variable {F : FTy → Type} [FloatOps F]
-- ==== FinalNorm.lean ====
abbrev S2x8448x1024 : Shape := ⟨3, ![2, 8448, 1024]⟩
abbrev S1x1024 : Shape := ⟨2, ![1, 1024]⟩
abbrev S2x8192x1024 : Shape := ⟨3, ![2, 8192, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2x8448x1024, .f32⟩
  | .hbm, ⟨1, _⟩ => ⟨S1x1024, .f32⟩
  | .hbm, ⟨2, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalNormRefIdeal.lean ====
abbrev S2x8448x1024 : Shape := ⟨3, ![2, 8448, 1024]⟩
abbrev S1x1024 : Shape := ⟨2, ![1, 1024]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S1x1024, .f32⟩
  | .hbm, ⟨2, _⟩ => ⟨S2x8192x1024, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InProj.lean ====
abbrev S16896x1024 : Shape := ⟨2, ![16896, 1024]⟩
abbrev S8x6x1024 : Shape := ⟨3, ![8, 6, 1024]⟩
abbrev S1x1024 : Shape := ⟨2, ![1, 1024]⟩
abbrev S4x1024x3584 : Shape := ⟨3, ![4, 1024, 3584]⟩
abbrev S8448x128 : Shape := ⟨2, ![8448, 128]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S128x256 : Shape := ⟨2, ![128, 256]⟩
abbrev S16896x768 : Shape := ⟨2, ![16896, 768]⟩
abbrev S16896x512 : Shape := ⟨2, ![16896, 512]⟩
abbrev S22x256x768 : Shape := ⟨3, ![22, 256, 768]⟩
abbrev S16896x256 : Shape := ⟨2, ![16896, 256]⟩
abbrev S16896x128 : Shape := ⟨2, ![16896, 128]⟩
abbrev S256x1024 : Shape := ⟨2, ![256, 1024]⟩
abbrev S1x6x1024 : Shape := ⟨3, ![1, 6, 1024]⟩
abbrev S1x1024x3584 : Shape := ⟨3, ![1, 1024, 3584]⟩
abbrev S256x128 : Shape := ⟨2, ![256, 128]⟩
abbrev S256x768 : Shape := ⟨2, ![256, 768]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x1x1024 : Shape := ⟨3, ![1, 1, 1024]⟩
abbrev S1x1024x768 : Shape := ⟨3, ![1, 1024, 768]⟩
abbrev S1024x768 : Shape := ⟨2, ![1024, 768]⟩
abbrev S1x1024x640 : Shape := ⟨3, ![1, 1024, 640]⟩
abbrev S1024x640 : Shape := ⟨2, ![1024, 640]⟩
abbrev S256x640 : Shape := ⟨2, ![256, 640]⟩
abbrev S1x1024x128 : Shape := ⟨3, ![1, 1024, 128]⟩
abbrev S1024x128 : Shape := ⟨2, ![1024, 128]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩

abbrev nBuf : Space → Nat
  | .hbm => 21
  | .vmem => 35
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1x1024, .f32⟩
  | .hbm, ⟨3, _⟩ => ⟨S4x1024x3584, .bf16⟩
  | .hbm, ⟨4, _⟩ => ⟨S8448x128, .f32⟩
  | .hbm, ⟨5, _⟩ => ⟨S8448x128, .f32⟩
  | .hbm, ⟨6, _⟩ => ⟨S8448x128, .f32⟩
  | .hbm, ⟨7, _⟩ => ⟨S8448x128, .f32⟩
  | .hbm, ⟨8, _⟩ => ⟨S1x256, .f32⟩
  | .hbm, ⟨9, _⟩ => ⟨S1x128, .f32⟩
  | .hbm, ⟨10, _⟩ => ⟨S256x512, .bf16⟩
  | .hbm, ⟨11, _⟩ => ⟨S128x512, .bf16⟩
  | .hbm, ⟨12, _⟩ => ⟨S128x256, .bf16⟩
  | .hbm, ⟨13, _⟩ => ⟨S16896x768, .bf16⟩
  | .hbm, ⟨14, _⟩ => ⟨S16896x768, .bf16⟩
  | .hbm, ⟨15, _⟩ => ⟨S16896x512, .bf16⟩
  | .hbm, ⟨16, _⟩ => ⟨S16896x512, .bf16⟩
  | .hbm, ⟨17, _⟩ => ⟨S22x256x768, .bf16⟩
  | .hbm, ⟨18, _⟩ => ⟨S16896x256, .f32⟩
  | .hbm, ⟨19, _⟩ => ⟨S16896x768, .f32⟩
  | .hbm, ⟨20, _⟩ => ⟨S16896x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x3584, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x256, .f32⟩
  | .local _ .vmem, ⟨15, _⟩ => ⟨S1x128, .f32⟩
  | .local _ .vmem, ⟨16, _⟩ => ⟨S256x512, .bf16⟩
  | .local _ .vmem, ⟨17, _⟩ => ⟨S128x512, .bf16⟩
  | .local _ .vmem, ⟨18, _⟩ => ⟨S128x256, .bf16⟩
  | .local _ .vmem, ⟨19, _⟩ => ⟨S256x768, .bf16⟩
  | .local _ .vmem, ⟨20, _⟩ => ⟨S256x768, .bf16⟩
  | .local _ .vmem, ⟨21, _⟩ => ⟨S256x768, .bf16⟩
  | .local _ .vmem, ⟨22, _⟩ => ⟨S256x768, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S1x256x256, .bf16⟩
  | .local _ .vmem, ⟨28, _⟩ => ⟨S1x256x256, .bf16⟩
  | .local _ .vmem, ⟨29, _⟩ => ⟨S256x256, .f32⟩
  | .local _ .vmem, ⟨30, _⟩ => ⟨S256x256, .f32⟩
  | .local _ .vmem, ⟨31, _⟩ => ⟨S256x768, .f32⟩
  | .local _ .vmem, ⟨32, _⟩ => ⟨S256x768, .f32⟩
  | .local _ .vmem, ⟨33, _⟩ => ⟨S256x128, .f32⟩
  | .local _ .vmem, ⟨34, _⟩ => ⟨S256x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c1_i32_11 : BitVec 32 := 1#32
  let v28 : BitVec 32 := Scalar.addi c1_i32_11 v27
  let c0_i32_12 : BitVec 32 := 0#32
  let v29 : BitVec 32 := Scalar.select v10 c0_i32_12 v28
  let c0_i32_13 : BitVec 32 := 0#32
  let c0_i32_14 : BitVec 32 := 0#32
  let c0_i32_15 : BitVec 32 := 0#32
  ![v29.toNat, c0_i32_13.toNat, c0_i32_14.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InProjIdeal.lean ====
variable {F : FTy → Type} [FloatOps F] [Named F]
def κ : String → Option EReal := fun
  | "q_scale" => some (((Real.sqrt 96)⁻¹ * (Real.log 2)⁻¹ : ℝ) : EReal)
  | _ => none
-- ==== InProjRefIdeal.lean ====
abbrev S16896x1024 : Shape := ⟨2, ![16896, 1024]⟩
abbrev S8x6x1024 : Shape := ⟨3, ![8, 6, 1024]⟩
abbrev S1x1024 : Shape := ⟨2, ![1, 1024]⟩
abbrev S4x1024x3584 : Shape := ⟨3, ![4, 1024, 3584]⟩
abbrev S8448x128 : Shape := ⟨2, ![8448, 128]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S128x256 : Shape := ⟨2, ![128, 256]⟩
abbrev S1x1024x3584 : Shape := ⟨3, ![1, 1024, 3584]⟩
abbrev S1024x3584 : Shape := ⟨2, ![1024, 3584]⟩
abbrev S2x8448x1024 : Shape := ⟨3, ![2, 8448, 1024]⟩
abbrev S1024 : Shape := ⟨1, ![1024]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x256x1024 : Shape := ⟨3, ![2, 256, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S2x8448x3584 : Shape := ⟨3, ![2, 8448, 3584]⟩
abbrev S2x8448x768 : Shape := ⟨3, ![2, 8448, 768]⟩
abbrev S2x8448x640 : Shape := ⟨3, ![2, 8448, 640]⟩
abbrev S2x8448x128 : Shape := ⟨3, ![2, 8448, 128]⟩
abbrev S2x8448x256 : Shape := ⟨3, ![2, 8448, 256]⟩
abbrev S2x8448x512 : Shape := ⟨3, ![2, 8448, 512]⟩
abbrev S2x8448x5x128 : Shape := ⟨4, ![2, 8448, 5, 128]⟩
abbrev S2x8448x5x4x2x16 : Shape := ⟨6, ![2, 8448, 5, 4, 2, 16]⟩
abbrev S8448x1x128 : Shape := ⟨3, ![8448, 1, 128]⟩
abbrev S1x8448x1x128 : Shape := ⟨4, ![1, 8448, 1, 128]⟩
abbrev S256 : Shape := ⟨1, ![256]⟩
abbrev S1x1x256 : Shape := ⟨3, ![1, 1, 256]⟩
abbrev S2x8448x4x128 : Shape := ⟨4, ![2, 8448, 4, 128]⟩
abbrev S2x8448x4x8x2x8 : Shape := ⟨6, ![2, 8448, 4, 8, 2, 8]⟩
abbrev S128 : Shape := ⟨1, ![128]⟩
abbrev S1x1x128 : Shape := ⟨3, ![1, 1, 128]⟩
abbrev S2x11x768x256 : Shape := ⟨4, ![2, 11, 768, 256]⟩
abbrev S2x11x256x768 : Shape := ⟨4, ![2, 11, 256, 768]⟩
abbrev S22x256x768 : Shape := ⟨3, ![22, 256, 768]⟩
abbrev S16896x768 : Shape := ⟨2, ![16896, 768]⟩
abbrev S16896x512 : Shape := ⟨2, ![16896, 512]⟩
abbrev S16896x256 : Shape := ⟨2, ![16896, 256]⟩
abbrev S16896x128 : Shape := ⟨2, ![16896, 128]⟩

abbrev nBuf : Space → Nat
  | .hbm => 179
  | .vmem => 0
  | .smem => 0
  | _ => 0

abbrev hbmTy0_0 (i : Nat) : BufTy := match i % 128 with
  | 0 => ⟨S16896x1024, .f32⟩
  | 1 => ⟨S8x6x1024, .f32⟩
  | 2 => ⟨S1x1024, .f32⟩
  | 3 => ⟨S4x1024x3584, .bf16⟩
  | 4 => ⟨S8448x128, .f32⟩
  | 5 => ⟨S8448x128, .f32⟩
  | 6 => ⟨S8448x128, .f32⟩
  | 7 => ⟨S8448x128, .f32⟩
  | 8 => ⟨S1x256, .f32⟩
  | 9 => ⟨S1x128, .f32⟩
  | 10 => ⟨S256x512, .bf16⟩
  | 11 => ⟨S128x512, .bf16⟩
  | 12 => ⟨S128x256, .bf16⟩
  | 13 => ⟨S1x1024x3584, .bf16⟩
  | 14 => ⟨S1024x3584, .bf16⟩
  | 15 => ⟨S1024x3584, .f32⟩
  | 16 => ⟨S256x512, .f32⟩
  | 17 => ⟨S128x512, .f32⟩
  | 18 => ⟨S128x256, .f32⟩
  | 19 => ⟨S2x8448x1024, .f32⟩
  | 20 => ⟨S1024, .f32⟩
  | 21 => ⟨S2x8448x1024, .f32⟩
  | 22 => ⟨S_, .f32⟩
  | 23 => ⟨S2x8448, .f32⟩
  | 24 => ⟨S2x8448x1, .f32⟩
  | 25 => ⟨S_, .f32⟩
  | 26 => ⟨S2x8448x1, .f32⟩
  | 27 => ⟨S2x8448x1, .f32⟩
  | 28 => ⟨S_, .f32⟩
  | 29 => ⟨S2x8448x1, .f32⟩
  | 30 => ⟨S2x8448x1, .f32⟩
  | 31 => ⟨S2x8448x1, .f32⟩
  | 32 => ⟨S2x8448x1024, .f32⟩
  | 33 => ⟨S2x8448x1024, .f32⟩
  | 34 => ⟨S1x1x1024, .f32⟩
  | 35 => ⟨S2x8448x1024, .f32⟩
  | 36 => ⟨S2x8448x1024, .f32⟩
  | 37 => ⟨S2x256x1024, .f32⟩
  | 38 => ⟨S1x1x1024, .f32⟩
  | 39 => ⟨S1024, .f32⟩
  | 40 => ⟨S_, .f32⟩
  | 41 => ⟨S1024, .f32⟩
  | 42 => ⟨S1024, .f32⟩
  | 43 => ⟨S1x1x1024, .f32⟩
  | 44 => ⟨S2x256x1024, .f32⟩
  | 45 => ⟨S2x256x1024, .f32⟩
  | 46 => ⟨S1x1x1024, .f32⟩
  | 47 => ⟨S1024, .f32⟩
  | 48 => ⟨S1x1x1024, .f32⟩
  | 49 => ⟨S2x256x1024, .f32⟩
  | 50 => ⟨S2x256x1024, .f32⟩
  | 51 => ⟨S2x8192x1024, .f32⟩
  | 52 => ⟨S2x1x1024, .f32⟩
  | 53 => ⟨S2x1024, .f32⟩
  | 54 => ⟨S2x1x1024, .f32⟩
  | 55 => ⟨S_, .f32⟩
  | 56 => ⟨S2x1x1024, .f32⟩
  | 57 => ⟨S2x1x1024, .f32⟩
  | 58 => ⟨S2x8192x1024, .f32⟩
  | 59 => ⟨S2x8192x1024, .f32⟩
  | 60 => ⟨S2x1x1024, .f32⟩
  | 61 => ⟨S2x1024, .f32⟩
  | 62 => ⟨S2x1x1024, .f32⟩
  | 63 => ⟨S2x8192x1024, .f32⟩
  | 64 => ⟨S2x8192x1024, .f32⟩
  | 65 => ⟨S2x8448x1024, .f32⟩
  | 66 => ⟨S2x8448x3584, .f32⟩
  | 67 => ⟨S2x8448x768, .f32⟩
  | 68 => ⟨S2x8448x640, .f32⟩
  | 69 => ⟨S2x8448x128, .f32⟩
  | 70 => ⟨S2x8448x256, .f32⟩
  | 71 => ⟨S2x8448x128, .f32⟩
  | 72 => ⟨S2x8448x512, .f32⟩
  | 73 => ⟨S2x8448x256, .f32⟩
  | 74 => ⟨S2x8448x768, .f32⟩
  | 75 => ⟨S2x8448x128, .f32⟩
  | 76 => ⟨S2x8448x5x128, .f32⟩
  | 77 => ⟨S2x8448x5x4x2x16, .f32⟩
  | 78 => ⟨S2x8448x5x4x2x16, .f32⟩
  | 79 => ⟨S2x8448x5x128, .f32⟩
  | 80 => ⟨S8448x1x128, .f32⟩
  | 81 => ⟨S1x8448x1x128, .f32⟩
  | 82 => ⟨S2x8448x5x128, .f32⟩
  | 83 => ⟨S2x8448x5x128, .f32⟩
  | 84 => ⟨S8448x1x128, .f32⟩
  | 85 => ⟨S1x8448x1x128, .f32⟩
  | 86 => ⟨S2x8448x5x128, .f32⟩
  | 87 => ⟨S2x8448x5x128, .f32⟩
  | 88 => ⟨S2x8448x5x128, .f32⟩
  | 89 => ⟨S2x8448x640, .f32⟩
  | 90 => ⟨S2x8448x768, .f32⟩
  | 91 => ⟨S256, .f32⟩
  | 92 => ⟨S2x8448x256, .f32⟩
  | 93 => ⟨S_, .f32⟩
  | 94 => ⟨S2x8448, .f32⟩
  | 95 => ⟨S2x8448x1, .f32⟩
  | 96 => ⟨S_, .f32⟩
  | 97 => ⟨S2x8448x1, .f32⟩
  | 98 => ⟨S2x8448x1, .f32⟩
  | 99 => ⟨S_, .f32⟩
  | 100 => ⟨S2x8448x1, .f32⟩
  | 101 => ⟨S2x8448x1, .f32⟩
  | 102 => ⟨S2x8448x1, .f32⟩
  | 103 => ⟨S2x8448x256, .f32⟩
  | 104 => ⟨S2x8448x256, .f32⟩
  | 105 => ⟨S1x1x256, .f32⟩
  | 106 => ⟨S2x8448x256, .f32⟩
  | 107 => ⟨S2x8448x256, .f32⟩
  | 108 => ⟨S2x8448x512, .f32⟩
  | 109 => ⟨S2x8448x4x128, .f32⟩
  | 110 => ⟨S2x8448x4x8x2x8, .f32⟩
  | 111 => ⟨S2x8448x4x8x2x8, .f32⟩
  | 112 => ⟨S2x8448x4x128, .f32⟩
  | 113 => ⟨S8448x1x128, .f32⟩
  | 114 => ⟨S1x8448x1x128, .f32⟩
  | 115 => ⟨S2x8448x4x128, .f32⟩
  | 116 => ⟨S2x8448x4x128, .f32⟩
  | 117 => ⟨S8448x1x128, .f32⟩
  | 118 => ⟨S1x8448x1x128, .f32⟩
  | 119 => ⟨S2x8448x4x128, .f32⟩
  | 120 => ⟨S2x8448x4x128, .f32⟩
  | 121 => ⟨S2x8448x4x128, .f32⟩
  | 122 => ⟨S2x8448x512, .f32⟩
  | 123 => ⟨S_, .f32⟩
  | 124 => ⟨S_, .f32⟩
  | 125 => ⟨S_, .f32⟩
  | 126 => ⟨S_, .f32⟩
  | 127 => ⟨S_, .f32⟩
  | _ => ⟨S16896x1024, .f32⟩

abbrev hbmTy0_1 (i : Nat) : BufTy := match i % 128 with
  | 0 => ⟨S2x8448x512, .f32⟩
  | 1 => ⟨S2x8448x512, .f32⟩
  | 2 => ⟨S128, .f32⟩
  | 3 => ⟨S2x8448x128, .f32⟩
  | 4 => ⟨S_, .f32⟩
  | 5 => ⟨S2x8448, .f32⟩
  | 6 => ⟨S2x8448x1, .f32⟩
  | 7 => ⟨S_, .f32⟩
  | 8 => ⟨S2x8448x1, .f32⟩
  | 9 => ⟨S2x8448x1, .f32⟩
  | 10 => ⟨S_, .f32⟩
  | 11 => ⟨S2x8448x1, .f32⟩
  | 12 => ⟨S2x8448x1, .f32⟩
  | 13 => ⟨S2x8448x1, .f32⟩
  | 14 => ⟨S2x8448x128, .f32⟩
  | 15 => ⟨S2x8448x128, .f32⟩
  | 16 => ⟨S1x1x128, .f32⟩
  | 17 => ⟨S2x8448x128, .f32⟩
  | 18 => ⟨S2x8448x128, .f32⟩
  | 19 => ⟨S2x8448x512, .f32⟩
  | 20 => ⟨S2x8448x4x128, .f32⟩
  | 21 => ⟨S2x8448x4x8x2x8, .f32⟩
  | 22 => ⟨S2x8448x4x8x2x8, .f32⟩
  | 23 => ⟨S2x8448x4x128, .f32⟩
  | 24 => ⟨S8448x1x128, .f32⟩
  | 25 => ⟨S1x8448x1x128, .f32⟩
  | 26 => ⟨S2x8448x4x128, .f32⟩
  | 27 => ⟨S2x8448x4x128, .f32⟩
  | 28 => ⟨S8448x1x128, .f32⟩
  | 29 => ⟨S1x8448x1x128, .f32⟩
  | 30 => ⟨S2x8448x4x128, .f32⟩
  | 31 => ⟨S2x8448x4x128, .f32⟩
  | 32 => ⟨S2x8448x4x128, .f32⟩
  | 33 => ⟨S2x8448x512, .f32⟩
  | 34 => ⟨S2x8448x512, .f32⟩
  | 35 => ⟨S2x8448x256, .f32⟩
  | 36 => ⟨S2x11x768x256, .f32⟩
  | 37 => ⟨S2x11x256x768, .f32⟩
  | 38 => ⟨S22x256x768, .f32⟩
  | 39 => ⟨S16896x768, .f32⟩
  | 40 => ⟨S16896x768, .bf16⟩
  | 41 => ⟨S16896x768, .f32⟩
  | 42 => ⟨S16896x768, .bf16⟩
  | 43 => ⟨S16896x512, .f32⟩
  | 44 => ⟨S16896x512, .bf16⟩
  | 45 => ⟨S16896x512, .f32⟩
  | 46 => ⟨S16896x512, .bf16⟩
  | 47 => ⟨S22x256x768, .bf16⟩
  | 48 => ⟨S16896x256, .f32⟩
  | 49 => ⟨S16896x768, .f32⟩
  | 50 => ⟨S16896x128, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_4 : Ref sig .tc := ⟨.hbm, 93, rfl⟩
abbrev main_v75 : Ref sig .tc := ⟨.hbm, 94, rfl⟩
abbrev main_v76 : Ref sig .tc := ⟨.hbm, 95, rfl⟩
abbrev main_cst_5 : Ref sig .tc := ⟨.hbm, 96, rfl⟩
abbrev main_v77 : Ref sig .tc := ⟨.hbm, 97, rfl⟩
abbrev main_v78 : Ref sig .tc := ⟨.hbm, 98, rfl⟩
abbrev main_cst_6 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_7 : Ref sig .tc := ⟨.hbm, 123, rfl⟩
abbrev main_v102 : Ref sig .tc := ⟨.hbm, 124, rfl⟩
abbrev main_cst_8 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_9 : Ref sig .tc := ⟨.hbm, 132, rfl⟩
abbrev main_v109 : Ref sig .tc := ⟨.hbm, 133, rfl⟩
abbrev main_v110 : Ref sig .tc := ⟨.hbm, 134, rfl⟩
abbrev main_cst_10 : Ref sig .tc := ⟨.hbm, 135, rfl⟩
abbrev main_v111 : Ref sig .tc := ⟨.hbm, 136, rfl⟩
abbrev main_v112 : Ref sig .tc := ⟨.hbm, 137, rfl⟩
abbrev main_cst_11 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩

abbrev nD : Nat := 1
abbrev τ : Topo := Topo.v7x

variable {F : FTy → Type} [FloatOps F]
-- ==== Proof.MlaRun.lean ====
/-
  ONE RUN OF THE ATTENTION BODY at a point past the first of its row of points, as the program's text runs it: the buffers end with
  the pieces the run writes. What the second score buffer held before the run appears in the result only as a parameter; the
  next theorems say that nothing depends on it.
-/
module

public import proofs.«01_k».proof.Proof.Gen.KernelIdeal.Frame.RunA

@[expose] public section

set_option maxRecDepth 16384

noncomputable section

namespace Cert.MlaRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run: the pieces the output buffer and the first scratch buffer end with, the former as a function of what the second
    score buffer held before, with the proof that the body runs and leaves them. -/
noncomputable def runB (c : Dev nD) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (hc0 : ¬cond0_0 i) (hc1 : cond0_1 i)
    (x0 : Vec F S1x256x512 .bf16) (x1 : Vec F S1x8448x512 .bf16) (x2 : Vec F S1x11x256x768 .bf16) :
    Σ' (L3 : BufTy.Contents (Elt F) arg8.view.ty → List (View.Piece (Elt F) S1x256x256 .bf16)), Σ' (LT0 : List (View.Piece (Elt F) S2x512x256 .bf16)), { LT1 : List (View.Piece (Elt F) S2x768x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ g, ∃ f, arg5.view.loc (c : Thread nD τ) ↦[arg5.view.set]{fullShare} arg5.view.writes (Elt F) f (L3 g)) ∗ (∃ f, arg6.view.loc (c : Thread nD τ) ↦[arg6.view.set]{fullShare} arg6.view.writes (Elt F) f LT0) ∗ (∃ d, owns (c : Thread nD τ) arg7 fullShare d) ∗ (∃ d, owns (c : Thread nD τ) arg8 fullShare d)) -∗ K ⟨⟩))
          ⊢ wp frame (wpE (defs₀ (F := F)) Variants.none c none) E (cc0_mla_attention i arg2 harg2 arg3 harg3 arg4 harg4 arg5 harg5 arg6 harg6 arg7 harg7 arg8 harg8) K } := by
  refine ⟨?_, ?_, [], fun E K => ?run⟩
  case run =>
    simp only [cc0_mla_attention_eq_skeleton]; unfold cc0_mla_attention_skel
    simp only [k0_part12_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists fs2, f3; iexact H3
    isplitl [HS0]; · iexists _; iexact HS0
    isplitl [HS1]
    · iexists _, _; isplitr; swap; · iexact HS1
      ipureintro; rfl
    iexists _, _; isplitr; swap; · iexact HS2
    ipureintro; rfl

/-- One trip of the loop over chunks yields the same whatever the second score buffer held before it. -/
theorem trip_indep  (𝒱 : Variants) (c : Dev nD) (bd : Option 𝒱.V) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (k0_h2 : k0_cond2 i = 1#1) (v39 : FVec F S1x512 .f32) (v40 : FVec F S1x512 .f32) (v41 : FVec F S64x256 .f32) (v42 : FVec F S64x256 .f32) (v58 : FVec F S1x512 .f32) (v69 : FVec F S96x512 .f32) (X_arg3 : BufTy.Contents (Elt F) arg3.view.ty) (X_arg4 : BufTy.Contents (Elt F) arg4.view.ty) (X_arg6 : BufTy.Contents (Elt F) arg6.view.ty) (k : Fin k0_t1_loop.trips) (acc : FVec F S1x512 .f32 × FVec F S1x512 .f32 × FVec F S1x512 .f32 × FVec F S1x512 .f32 × FVec F S64x256 .f32 × FVec F S64x256 .f32 × FVec F S1x512 .f32 × FVec F S1x512 .f32 × FVec F S64x256 .f32 × FVec F S64x256 .f32)
    (f7 : BufTy.Contents (Elt F) arg7.view.ty) (f8 g8 : BufTy.Contents (Elt F) arg8.view.ty) :
    tripR_k0_t1 (F := F) 𝒱 c bd i arg2 harg2 arg3 harg3 arg4 harg4 arg5 harg5 arg6 harg6 arg7 harg7 arg8 harg8 k0_h2 v39 v40 v41 v42 v58 v69 X_arg3 X_arg4 X_arg6 k acc f7 f8 = tripR_k0_t1 (F := F) 𝒱 c bd i arg2 harg2 arg3 harg3 arg4 harg4 arg5 harg5 arg6 harg6 arg7 harg7 arg8 harg8 k0_h2 v39 v40 v41 v42 v58 v69 X_arg3 X_arg4 X_arg6 k acc f7 g8
      ∧ tripL_k0_t1 (F := F) 𝒱 c bd i arg2 harg2 arg3 harg3 arg4 harg4 arg5 harg5 arg6 harg6 arg7 harg7 arg8 harg8 k0_h2 v39 v40 v41 v42 v58 v69 X_arg3 X_arg4 X_arg6 k acc f7 f8 = tripL_k0_t1 (F := F) 𝒱 c bd i arg2 harg2 arg3 harg3 arg4 harg4 arg5 harg5 arg6 harg6 arg7 harg7 arg8 harg8 k0_h2 v39 v40 v41 v42 v58 v69 X_arg3 X_arg4 X_arg6 k acc f7 g8 := by
  unfold tripR_k0_t1 tripL_k0_t1 trip_k0_t1; exact ⟨rfl, rfl⟩

/-- The state before a trip is the same whatever the second score buffer held before the loop. -/
theorem st_indep  (𝒱 : Variants) (c : Dev nD) (bd : Option 𝒱.V) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (k0_h2 : k0_cond2 i = 1#1) (v39 : FVec F S1x512 .f32) (v40 : FVec F S1x512 .f32) (v41 : FVec F S64x256 .f32) (v42 : FVec F S64x256 .f32) (v58 : FVec F S1x512 .f32) (v69 : FVec F S96x512 .f32) (X_arg3 : BufTy.Contents (Elt F) arg3.view.ty) (X_arg4 : BufTy.Contents (Elt F) arg4.view.ty) (X_arg6 : BufTy.Contents (Elt F) arg6.view.ty) (G7 : BufTy.Contents (Elt F) arg7.view.ty) (G8 G8' : BufTy.Contents (Elt F) arg8.view.ty)
    (init : FVec F S1x512 .f32 × FVec F S1x512 .f32 × FVec F S1x512 .f32 × FVec F S1x512 .f32 × FVec F S64x256 .f32 × FVec F S64x256 .f32 × FVec F S1x512 .f32 × FVec F S1x512 .f32 × FVec F S64x256 .f32 × FVec F S64x256 .f32) (n : ℕ) :
    st_k0_t1 (F := F) 𝒱 c bd i arg2 harg2 arg3 harg3 arg4 harg4 arg5 harg5 arg6 harg6 arg7 harg7 arg8 harg8 k0_h2 v39 v40 v41 v42 v58 v69 X_arg3 X_arg4 X_arg6 G7 G8 init n = st_k0_t1 (F := F) 𝒱 c bd i arg2 harg2 arg3 harg3 arg4 harg4 arg5 harg5 arg6 harg6 arg7 harg7 arg8 harg8 k0_h2 v39 v40 v41 v42 v58 v69 X_arg3 X_arg4 X_arg6 G7 G8' init n := by
  induction n with
  | zero => rfl
  | succ n ih =>
    rw [st_k0_t1.eq_2, st_k0_t1.eq_2]; unfold st_k0_t1Step
    rw [ih]
    split
    · rename_i h
      have h1 := trip_indep 𝒱 c bd i arg2 harg2 arg3 harg3 arg4 harg4 arg5 harg5 arg6 harg6 arg7 harg7 arg8 harg8 k0_h2 v39 v40 v41 v42 v58 v69 X_arg3 X_arg4 X_arg6 ⟨n, h⟩ (st_k0_t1 (F := F) 𝒱 c bd i arg2 harg2 arg3 harg3 arg4 harg4 arg5 harg5 arg6 harg6 arg7 harg7 arg8 harg8 k0_h2 v39 v40 v41 v42 v58 v69 X_arg3 X_arg4 X_arg6 G7 G8' init n).1 (arg7.view.writes (Elt F) G7 (st_k0_t1 (F := F) 𝒱 c bd i arg2 harg2 arg3 harg3 arg4 harg4 arg5 harg5 arg6 harg6 arg7 harg7 arg8 harg8 k0_h2 v39 v40 v41 v42 v58 v69 X_arg3 X_arg4 X_arg6 G7 G8' init n).2.1)
        (arg8.view.writes (Elt F) G8 (st_k0_t1 (F := F) 𝒱 c bd i arg2 harg2 arg3 harg3 arg4 harg4 arg5 harg5 arg6 harg6 arg7 harg7 arg8 harg8 k0_h2 v39 v40 v41 v42 v58 v69 X_arg3 X_arg4 X_arg6 G7 G8' init n).2.2) (arg8.view.writes (Elt F) G8' (st_k0_t1 (F := F) 𝒱 c bd i arg2 harg2 arg3 harg3 arg4 harg4 arg5 harg5 arg6 harg6 arg7 harg7 arg8 harg8 k0_h2 v39 v40 v41 v42 v58 v69 X_arg3 X_arg4 X_arg6 G7 G8' init n).2.2)
      rw [h1.1, h1.2]
    · rfl

/-- The pieces of the output buffer are the same whatever the second score buffer held before the run. -/
theorem runB_indep (c : Dev nD) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (hc0 : ¬cond0_0 i) (hc1 : cond0_1 i)
    (x0 : Vec F S1x256x512 .bf16) (x1 : Vec F S1x8448x512 .bf16) (x2 : Vec F S1x11x256x768 .bf16) (g g' : BufTy.Contents (Elt F) arg8.view.ty) :
    (runB c i arg2 harg2 arg3 harg3 arg4 harg4 arg5 harg5 arg6 harg6 arg7 harg7 arg8 harg8 hc0 hc1 x0 x1 x2).1 g = (runB c i arg2 harg2 arg3 harg3 arg4 harg4 arg5 harg5 arg6 harg6 arg7 harg7 arg8 harg8 hc0 hc1 x0 x1 x2).1 g' := by
  unfold runB
  dsimp only
  unfold runB.sl.r_12 runB.sl.r_13 runB.sl.r_14 runB.sl.r_15 runB.sl.r_16 runB.sl.r_3 runB.sl.r_4 runB.sl.r_5 runB.sl.r_6 runB.sl.r_7
    runB.sl.r_8 runB.sl.r_9 runB.sl.r_10 runB.sl.r_11 runB.sl.v114 runB.sl.v79
  rw [st_indep (G8 := g) (G8' := g')]

/-- The body's run with one list of pieces for the output buffer. -/
noncomputable def kernelRun0_B (c : Dev nD) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (hc0 : ¬cond0_0 i) (hc1 : cond0_1 i)
    (x0 : Vec F S1x256x512 .bf16) (x1 : Vec F S1x8448x512 .bf16) (x2 : Vec F S1x11x256x768 .bf16) :
    Σ' (L3 : List (View.Piece (Elt F) S1x256x256 .bf16)), Σ' (LT0 : List (View.Piece (Elt F) S2x512x256 .bf16)), { LT1 : List (View.Piece (Elt F) S2x768x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0) ∗ (∃ d, owns (c : Thread nD τ) arg7 fullShare d) ∗ (∃ d, owns (c : Thread nD τ) arg8 fullShare d)) -∗ K ⟨⟩))
          ⊢ wp frame (wpE (defs₀ (F := F)) Variants.none c none) E (cc0_mla_attention i arg2 harg2 arg3 harg3 arg4 harg4 arg5 harg5 arg6 harg6 arg7 harg7 arg8 harg8) K } := by
  refine ⟨(runB c i arg2 harg2 arg3 harg3 arg4 harg4 arg5 harg5 arg6 harg6 arg7 harg7 arg8 harg8 hc0 hc1 x0 x1 x2).1 arg8.view.junk, (runB c i arg2 harg2 arg3 harg3 arg4 harg4 arg5 harg5 arg6 harg6 arg7 harg7 arg8 harg8 hc0 hc1 x0 x1 x2).2.1, (runB c i arg2 harg2 arg3 harg3 arg4 harg4 arg5 harg5 arg6 harg6 arg7 harg7 arg8 harg8 hc0 hc1 x0 x1 x2).2.2.1, fun E K => ?_⟩
  refine BIBase.Entails.trans ?_ ((runB c i arg2 harg2 arg3 harg3 arg4 harg4 arg5 harg5 arg6 harg6 arg7 harg7 arg8 harg8 hc0 hc1 x0 x1 x2).2.2.2 E K)
  iintro ⟨H0, H1, H2, H3, HS0, HS1, HS2, Hk⟩
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨G0, G1, G2, ⟨%g, %f, G3⟩, GS0, GS1, GS2⟩
  rw [runB_indep c i arg2 harg2 arg3 harg3 arg4 harg4 arg5 harg5 arg6 harg6 arg7 harg7 arg8 harg8 hc0 hc1 x0 x1 x2 g arg8.view.junk]
  iapply Hk
  isplitl [G0]; · iexact G0
  isplitl [G1]; · iexact G1
  isplitl [G2]; · iexact G2
  isplitl [G3]; · iexists f; iexact G3
  isplitl [GS0]; · iexact GS0
  isplitl [GS1]; · iexact GS1
  iexact GS2

end Cert.MlaRun
-- ==== Proof.MlaFrame.lean ====
/-
  THE FRAME of the attention's idealization, over the body's runs of the generated module for the first point of a row of points and of
  MlaRun.lean for the other points. It follows the generated frame of the program text (same statements, same steps), which is not
  used here because its module for the other points states the output's pieces without the parameter that MlaRun.lean removes.
-/
module

public import proofs.«01_k».proof.Proof.MlaRun
public import Idealize.ShloMosaic.Lib.Claim

@[expose] public section

-- membership in a rectangle of production extents (`View.cover_of_tiled`): the elaborator's structural look
-- recurses once per coordinate of the long axes
set_option maxRecDepth 16384

noncomputable section

namespace Cert.MlaRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block, so they cover it. -/
theorem cover0_A_3 (c : Dev nD) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (hc0 : cond0_0 i) (hc1 : ¬cond0_1 i)
    (x0 : Vec F S1x256x512 .bf16) (x1 : Vec F S1x8448x512 .bf16) (x2 : Vec F S1x11x256x768 .bf16) (y : S1x256x256.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S1x256x256.size (by sl_kernel_rfl) y

/-- What case A leaves in output 3's staging buffer: its pieces read back over junk. -/
def out0_A_3 (c : Dev nD) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (hc0 : cond0_0 i) (hc1 : ¬cond0_1 i)
    (x0 : Vec F S1x256x512 .bf16) (x1 : Vec F S1x8448x512 .bf16) (x2 : Vec F S1x11x256x768 .bf16) : Vec F S1x256x256 .bf16 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- Case B's pieces for output 3 tile its block, so they cover it. -/
theorem cover0_B_3 (c : Dev nD) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (hc0 : ¬cond0_0 i) (hc1 : cond0_1 i)
    (x0 : Vec F S1x256x512 .bf16) (x1 : Vec F S1x8448x512 .bf16) (x2 : Vec F S1x11x256x768 .bf16) (y : S1x256x256.Idx) :
    ∃ pc ∈ (kernelRun0_B c i arg2 harg2 arg3 harg3 arg4 harg4 arg5 harg5 arg6 harg6 arg7 harg7 arg8 harg8 hc0 hc1 x0 x1 x2).1, y ∈ pc.1.set :=
  View.cover_of_tiledL (kernelRun0_B c i arg2 harg2 arg3 harg3 arg4 harg4 arg5 harg5 arg6 harg6 arg7 harg7 arg8 harg8 hc0 hc1 x0 x1 x2).1 S1x256x256.size (by sl_kernel_rfl) y

/-- What case B leaves in output 3's staging buffer: its pieces read back over junk. -/
def out0_B_3 (c : Dev nD) (i : grid0.Coords) (arg2 : Memref sig .tc .vmem S1x256x512 .bf16) (harg2 : arg2.IsWhole) (arg3 : Memref sig .tc .vmem S1x8448x512 .bf16) (harg3 : arg3.IsWhole) (arg4 : Memref sig .tc .vmem S1x11x256x768 .bf16) (harg4 : arg4.IsWhole) (arg5 : Memref sig .tc .vmem S1x256x256 .bf16) (harg5 : arg5.IsWhole) (arg6 : Memref sig .tc .vmem S2x512x256 .bf16) (harg6 : arg6.IsWhole) (arg7 : Memref sig .tc .vmem S2x768x512 .f32) (harg7 : arg7.IsWhole) (arg8 : Memref sig .tc .vmem S2x768x512 .f32) (harg8 : arg8.IsWhole) (hc0 : ¬cond0_0 i) (hc1 : cond0_1 i)
    (x0 : Vec F S1x256x512 .bf16) (x1 : Vec F S1x8448x512 .bf16) (x2 : Vec F S1x11x256x768 .bf16) : Vec F S1x256x256 .bf16 :=
  VO0_3.read (Elt F) (VO0_3.writes (Elt F) VO0_3.junk (kernelRun0_B c i arg2 harg2 arg3 harg3 arg4 harg4 arg5 harg5 arg6 harg6 arg7 harg7 arg8 harg8 hc0 hc1 x0 x1 x2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x256 .bf16
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩)
  | n + 1, hn =>
    if h0 : (n + 1) % 33 = 0 then
      if h1 : 1 ≤ (n + 1) % 33 then
        False.elim (by have hN : n + 1 < 66 := lt_of_lt_of_eq hn (show cfg0.N = 66 from N_0); omega)
      else
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)
    else
      if h1 : 1 ≤ (n + 1) % 33 then
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩)
      else
        False.elim (by have hN : n + 1 < 66 := lt_of_lt_of_eq hn (show cfg0.N = 66 from N_0); omega)

/-- `outsAt0` at a point of case A: that case's contents. -/
theorem outsAt0_A (c : Dev nD) (t : Fin cfg0.N) (h0 : t.val % 33 = 0) (h1 : ¬1 ≤ t.val % 33) :
    outsAt0 m c t.val t.isLt = out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) := by
  obtain ⟨n, hn⟩ := t
  cases n with
  | zero => exact rfl
  | succ n => exact (dif_pos h0).trans ((dif_neg h1).trans rfl)

/-- `outsAt0` at a point of case B: that case's contents. -/
theorem outsAt0_B (c : Dev nD) (t : Fin cfg0.N) (h0 : ¬t.val % 33 = 0) (h1 : 1 ≤ t.val % 33) :
    outsAt0 m c t.val t.isLt = out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 66 := lt_of_lt_of_eq t.isLt (show cfg0.N = 66 from N_0)
  by_cases h0 : t.val % 33 = 0
  · by_cases h1 : 1 ≤ t.val % 33
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h))], after0_3]
      rw [outsAt0_A m c t h0 h1]
      unfold out0_A_3
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%fT0, HS0⟩, ⟨%fT1, HS1⟩, HS2⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _)
  · by_cases h1 : 1 ≤ t.val % 33
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1)], after0_3]
      rw [outsAt0_B m c t h0 h1]
      unfold out0_B_3
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) ((hcond0_1 t).mpr h1) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%fT0, HS0⟩, HS1, HS2⟩
      isplitl [HS0 HS1 HS2 Hg]
      · isplitl [HS0 HS1 HS2]
        · isplitl [HS0]
          · iexists _; unfold owns; iexists _; isplitr
            swap; · iexact HS0
            ipureintro; rfl
          isplitl [HS1]
          · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME of the attention's idealization: it runs to an end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.MlaRun

end
-- ==== Proof.FnValue.lean ====
/-
  THE FINAL NORM. The kernel's result array, after its 64 grid points, is the reference's composed term of the two
  argument arrays: each point normalises 256 rows of one batch, the row block one past the context block.
-/
module

public import proofs.«01_k».proof.Defs
public import proofs.«01_k».proof.Proof.Gen.FinalNormIdeal.Value
public import proofs.«01_k».proof.Proof.Gen.FinalNormRefIdeal.Run
public import proofs.«01_k».proof.Proof.Gen.FinalNormRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FnValue

open Cert.FinalNormIdeal Cert.FinalNormIdeal.Gen

variable (m : (ℓ : Loc nD τ sig) → Buf (Elt Ideal) ℓ)

/-- The mathematics of the norm at one element: the row element times the reciprocal root of its row's mean square plus
    the constant, times the gain. -/
def normed (row : Fin 1024 → EReal) (x g : EReal) : EReal :=
  x * Ideal.rsqrt (Ideal.div (∑ k : Fin 1024, row k * row k) (Ideal.ofBits .f32 0x44800000#32) + Ideal.ofBits .f32 0x358637BD#32) * g

/-- What the body stores, at an index of its block. -/
theorem pay_apply (x : FVec Ideal S1x256x1024 .f32) (g : FVec Ideal S1x1024 .f32) (r : Fin 256) (l : Fin 1024) :
    k0_pay1 (F := Ideal) x g (ix3 0 r l) = normed (fun k => x (ix3 0 r k)) (x (ix3 0 r l)) (g (ix2 0 l)) := by
  pointwise [k0_pay1, normed]

/-- What the reference computes, at an index of its result. -/
theorem ref_apply (h : FVec Ideal S2x8448x1024 .f32) (g : FVec Ideal S1x1024 .f32) (b : Fin 2) (r : Fin 8192) (l : Fin 1024) :
    Cert.FinalNormRefIdeal.Read.val_main_v14 (F := Ideal) h g (ix3 b r l)
      = normed (fun k => h (ix3 b ⟨256 + r, by omega⟩ k)) (h (ix3 b ⟨256 + r, by omega⟩ l)) (g (ix2 0 l)) := by
  simp only [Cert.FinalNormRefIdeal.Read.val_main_v14, Cert.FinalNormRefIdeal.Read.val_main_v13, Cert.FinalNormRefIdeal.Read.val_main_v12, Cert.FinalNormRefIdeal.Read.val_main_v11, Cert.FinalNormRefIdeal.Read.val_main_v10, Cert.FinalNormRefIdeal.Read.val_main_v9, Cert.FinalNormRefIdeal.Read.val_main_v8, Cert.FinalNormRefIdeal.Read.val_main_v7, Cert.FinalNormRefIdeal.Read.val_main_v6, Cert.FinalNormRefIdeal.Read.val_main_v5, Cert.FinalNormRefIdeal.Read.val_main_v4, Cert.FinalNormRefIdeal.Read.val_main_v3, Cert.FinalNormRefIdeal.Read.val_main_v2, Cert.FinalNormRefIdeal.Read.val_main_v1, Cert.FinalNormRefIdeal.Read.val_main_v0, Cert.FinalNormRefIdeal.Read.val_main_cst, Cert.FinalNormRefIdeal.Read.val_main_cst_0, Cert.FinalNormRefIdeal.Read.val_main_cst_1]
  pointwise [normed]

/-- The block each point reads and writes. -/
theorem idx : ∀ t : Fin cfg0.N, win0_0.index t = ![t.val / 32, t.val % 32 + 1, 0] ∧ win0_1.index t = ![0, 0]
    ∧ win0_2.index t = ![t.val / 32, t.val % 32, 0] :=
  (by decide +kernel : ∀ t : Fin grid0.N, _)

/-- What a point stores at an index of its block is the reference at the array index the block index sits at. -/
theorem point (c : Dev nD) (t : Fin cfg0.N) (y) : k0_pay1 (iblk m c 0 t) (iblk m c 1 t) y
    = Cert.FinalNormRefIdeal.Read.val_main_v14 (F := Ideal) (m ((c : Thread nD τ).loc main_arg0)) (m ((c : Thread nD τ).loc main_arg1)) (((cfg0.win 2).blk t).view.emb y) := by
  have ht : t.val < 64 := lt_of_lt_of_eq t.isLt N_0
  have hy0 : (y 0).val < 1 := (y 0).isLt
  have hy1 : (y 1).val < 256 := (y 1).isLt
  have hy2 : (y 2).val < 1024 := (y 2).isLt
  obtain ⟨e0, e1, e2⟩ := idx t
  have hy : y = ix3 0 ⟨(y 1).val, hy1⟩ ⟨(y 2).val, hy2⟩ := by
    funext a; match a with
    | ⟨0, _⟩ => exact Fin.ext (by show (y 0).val = 0; omega)
    | ⟨1, _⟩ => rfl
    | ⟨2, _⟩ => rfl
  have he : ((cfg0.win 2).blk t).view.emb y = ix3 ⟨t.val / 32, by omega⟩ ⟨t.val % 32 * 256 + (y 1).val, by omega⟩ ⟨(y 2).val, hy2⟩ := by
    blk_ext [e2]
  rw [he, ref_apply]
  conv_lhs => rw [hy]
  rw [pay_apply]
  have hx : ∀ k : Fin 1024, iblk m c 0 t (ix3 0 ⟨(y 1).val, hy1⟩ k)
      = m ((c : Thread nD τ).loc main_arg0) (ix3 ⟨t.val / 32, by omega⟩ ⟨256 + (t.val % 32 * 256 + (y 1).val), by omega⟩ k) := by
    intro k; blk_ext [iblk, V, e0]
  have hg : iblk m c 1 t (ix2 0 ⟨(y 2).val, hy2⟩) = m ((c : Thread nD τ).loc main_arg1) (ix2 0 ⟨(y 2).val, hy2⟩) := by
    blk_ext [iblk, V, e1]
  simp only [hx, hg]

/-- The result array after the run. -/
theorem final (c : Dev nD) : (dats m 0 c).arrAt 2 (cfgs 0).N
    = Cert.FinalNormRefIdeal.Read.val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- From memories agreeing on the arguments, both programs run and end with equal results. -/
theorem algebraic : Cert.algebraic_FinalNormIdeal_FinalNormRefIdeal (hFinalNormIdeal := Cert.FinalNormIdeal.Gen.facts)
    (hFinalNormRefIdeal := Cert.FinalNormRefIdeal.Gen.facts) := by
  intro m g m' g' _ hargs
  refine ⟨fun c => Cert.FinalNormRefIdeal.Read.val_main_v14 (F := Ideal) (m ((c.tc : Thread nD τ).loc main_arg0)) (m ((c.tc : Thread nD τ).loc main_arg1)), ?_, ?_⟩
  · refine (θ_run (Cert.FinalNormIdeal.defs (F := Ideal)) _ _).mono (fun r h c => ?_) (Cert.FinalNormIdeal.Value.run_blocks (F := Ideal) m g)
    obtain ⟨hv, h0, h1⟩ := h c
    exact ⟨hv.trans (final m c), h0, h1⟩
  · refine (θ_run (Cert.FinalNormRefIdeal.defs (F := Ideal)) _ _).mono (fun r h c => ?_) (Cert.FinalNormRefIdeal.Value.run (F := Ideal) m' g')
    obtain ⟨hv, h0, h1⟩ := h c
    refine ⟨(hv.trans (Cert.FinalNormRefIdeal.Read.val_main_v14_eq _ _)).trans ?_, h0, h1⟩
    rw [(hargs c).1, (hargs c).2]

end Cert.FnValue
-- ==== Proof.OmMath.lean ====
/-
  THE OUTPUT PROJECTION AND THE MLP, AS MATHEMATICS OF ONE ROW over the extended reals: what both programs are shown to compute.
-/
module

public import Idealize.ShloMosaic.Lib.Pointwise

@[expose] public section

noncomputable section

open Idealize.ShloMosaic

namespace Cert.OmMath

/-- One element of a row after the root-mean-square norm: the element times the reciprocal root of the row's mean square
    plus the constant, times the gain. `n` is the row's length as a constant. -/
def rms {N : ℕ} (n : EReal) (row g : Fin N → EReal) (l : Fin N) : EReal :=
  row l * Ideal.rsqrt (Ideal.div (∑ k, row k * row k) n + Ideal.ofBits .f32 0x358637BD#32) * g l

/-- The gated recurrence row: both scan directions added, times the gate's silu. -/
def gated (yf yb z : Fin 256 → EReal) (l : Fin 256) : EReal := (yf l + yb l) * (z l * Ideal.logistic (z l))

/-- The output projection of the four mixers' rows, one sum per mixer. -/
def proj (oa ob om od : Fin 256 → EReal) (w : Fin 1024 → EReal) : EReal :=
  (∑ k : Fin 256, oa k * w ⟨k, by omega⟩) + (∑ k : Fin 256, ob k * w ⟨256 + k, by omega⟩)
    + (∑ k : Fin 256, om k * w ⟨512 + k, by omega⟩) + (∑ k : Fin 256, od k * w ⟨768 + k, by omega⟩)

/-- A gated residual. -/
def resid (h gate o : Fin 1024 → EReal) (l : Fin 1024) : EReal := h l + gate l * o l

/-- The adaptive norm before the MLP: the normed row scaled by one plus the scale, plus the shift. -/
def ada (y g2 scale shift : Fin 1024 → EReal) (l : Fin 1024) : EReal :=
  rms (Ideal.ofBits .f32 0x44800000#32) y g2 l * (1 + scale l) + shift l

/-- A hidden unit: the squared relu. -/
def hid (a : Fin 1024 → EReal) (w1 : Fin 1024 → Fin 4096 → EReal) (j : Fin 4096) : EReal :=
  max (∑ k, a k * w1 k j) 0 * max (∑ k, a k * w1 k j) 0

/-- The MLP's output. -/
def mlp (a : Fin 1024 → EReal) (w1 : Fin 1024 → Fin 4096 → EReal) (w2 : Fin 4096 → Fin 1024 → EReal) (l : Fin 1024) : EReal :=
  ∑ j, hid a w1 j * w2 j l

/-- A sum over the 4096 hidden units is the sum over its eight stretches of 512, added one after another. -/
theorem sum_eight (f : Fin 4096 → EReal) :
    ∑ j, f j = (∑ t : Fin 512, f ⟨t, by omega⟩) + (∑ t : Fin 512, f ⟨512 + t, by omega⟩) + (∑ t : Fin 512, f ⟨1024 + t, by omega⟩)
      + (∑ t : Fin 512, f ⟨1536 + t, by omega⟩) + (∑ t : Fin 512, f ⟨2048 + t, by omega⟩) + (∑ t : Fin 512, f ⟨2560 + t, by omega⟩)
      + (∑ t : Fin 512, f ⟨3072 + t, by omega⟩) + (∑ t : Fin 512, f ⟨3584 + t, by omega⟩) := by
  have h := Fin.sum_univ_tiles 8 512 rfl f
  rw [h]
  simp only [Fin.sum_univ_eight]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;> exact Finset.sum_congr rfl fun t _ => congrArg f (Fin.ext (by simp))

/-- A sum over the 1024 columns of four rows of 256 laid side by side is four sums. -/
theorem sum_four (f : Fin 1024 → EReal) :
    ∑ k, f k = (∑ k : Fin 256, f ⟨k, by omega⟩) + (∑ k : Fin 256, f ⟨256 + k, by omega⟩)
      + (∑ k : Fin 256, f ⟨512 + k, by omega⟩) + (∑ k : Fin 256, f ⟨768 + k, by omega⟩) := by
  have h := Fin.sum_univ_tiles 4 256 rfl f
  rw [h]
  simp only [Fin.sum_univ_four]
  refine congrArg₂ (· + ·) (congrArg₂ (· + ·) (congrArg₂ (· + ·) ?_ ?_) ?_) ?_ <;>
    exact Finset.sum_congr rfl fun t _ => congrArg f (Fin.ext (by simp))

/-- The projection as one sum over the four rows laid side by side. -/
theorem proj_cat (oa ob om od : Fin 256 → EReal) (w : Fin 1024 → EReal) :
    ∑ x : Fin 1024, (if h : (x : ℕ) < 256 then oa ⟨x, h⟩ else if h : (x : ℕ) - 256 < 256 then ob ⟨x - 256, h⟩
      else if h : (x : ℕ) - 256 - 256 < 256 then om ⟨x - 256 - 256, h⟩ else od ⟨x - 256 - 256 - 256, by omega⟩) * w x
      = proj oa ob om od w := by
  rw [sum_four]
  unfold proj
  refine congrArg₂ (· + ·) (congrArg₂ (· + ·) (congrArg₂ (· + ·) ?_ ?_) ?_) ?_ <;>
    refine Finset.sum_congr rfl fun k _ => congrArg (· * _) ?_
  · rw [dif_pos k.isLt]
  · rw [dif_neg (by simp), dif_pos (by simp)]
    exact congrArg ob (Fin.ext (by simp))
  · rw [dif_neg (by simp; omega), dif_neg (by simp; omega), dif_pos (by simp; omega)]
    exact congrArg om (Fin.ext (by simp; omega))
  · rw [dif_neg (by simp; omega), dif_neg (by simp; omega), dif_neg (by simp; omega)]
    exact congrArg od (Fin.ext (by simp; omega))

/-- The whole row: the mixers projected and added under the first gate, the MLP of the adaptive norm added under the second. -/
def outRow (h : Fin 1024 → EReal) (oa ob om yf yb z gn : Fin 256 → EReal) (md : Fin 6 → Fin 1024 → EReal)
    (wo : Fin 1024 → Fin 1024 → EReal) (g2 : Fin 1024 → EReal) (w1 : Fin 1024 → Fin 4096 → EReal) (w2 : Fin 4096 → Fin 1024 → EReal)
    (l : Fin 1024) : EReal :=
  let o : Fin 1024 → EReal := fun l => proj oa ob om (rms (Ideal.ofBits .f32 0x43800000#32) (gated yf yb z) gn) (fun k => wo k l)
  let y : Fin 1024 → EReal := resid h (md 2) o
  resid y (md 5) (mlp (ada y g2 (md 4) (md 3)) w1 w2) l

end Cert.OmMath
-- ==== Proof.OmKernel.lean ====
/-
  THE KERNEL'S SIDE of the output projection and the MLP: what a grid point's body stores at row `r`, column `l` of its block is
  `OmMath.outRow` of the rows its input blocks hold.
-/
module

public import proofs.«01_k».proof.Proof.OmMath
public import proofs.«01_k».proof.Proof.Gen.OutMlpIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OmKernel

open Cert.OutMlpIdeal Cert.OutMlpIdeal.Gen Cert.OmMath

variable (x0 : FVec Ideal S512x1024 .f32) (x1 x2 x3 : FVec Ideal S512x256 .bf16) (x4 x5 x6 : FVec Ideal S512x256 .f32)
  (x7 : FVec Ideal S1x256 .f32) (x8 x9 : FVec Ideal S1x6x1024 .f32) (x10 : FVec Ideal S1x1024x1024 .bf16) (x11 : FVec Ideal S1x1024 .f32)
  (x12 : FVec Ideal S1x1024x4096 .bf16) (x13 : FVec Ideal S1x4096x1024 .bf16)

/-- The modulation rows of a block's row: the first block's for its first 256 rows, the second's for the others. -/
def mdAt (r : Fin 512) (s : Fin 6) (l : Fin 1024) : EReal := if (r : ℕ) < 256 then x8 (ix3 0 s l) else x9 (ix3 0 s l)

/-- The mixers' projection at a row. -/
def oAt (r : Fin 512) (l : Fin 1024) : EReal :=
  proj (fun k => x1 (ix2 r k)) (fun k => x2 (ix2 r k)) (fun k => x3 (ix2 r k))
    (rms (Ideal.ofBits .f32 0x43800000#32) (gated (fun k => x4 (ix2 r k)) (fun k => x5 (ix2 r k)) (fun k => x6 (ix2 r k))) (fun k => x7 (ix2 0 k)))
    (fun k => x10 (ix3 0 k l))

/-- The residual row after the projection. -/
def yAt (r : Fin 512) : Fin 1024 → EReal :=
  resid (fun l => x0 (ix2 r l)) (mdAt x8 x9 r 2) (oAt x1 x2 x3 x4 x5 x6 x7 x10 r)

/-- The adaptive norm's row. -/
def aAt (r : Fin 512) : Fin 1024 → EReal :=
  ada (yAt x0 x1 x2 x3 x4 x5 x6 x7 x8 x9 x10 r) (fun l => x11 (ix2 0 l)) (mdAt x8 x9 r 4) (mdAt x8 x9 r 3)

/-- The MLP's row. -/
def mAt (r : Fin 512) : Fin 1024 → EReal :=
  mlp (aAt x0 x1 x2 x3 x4 x5 x6 x7 x8 x9 x10 x11 r) (fun k j => x12 (ix3 0 k j)) (fun j l => x13 (ix3 0 j l))

/-- The projection's value. -/
theorem pay19_apply (r : Fin 512) (l : Fin 1024) :
    k0_pay19 (F := Ideal) x0 x1 x2 x3 x4 x5 x6 x7 x8 x9 x10 x11 x12 x13 (ix2 r l) = oAt x1 x2 x3 x4 x5 x6 x7 x10 r l := by
  unfold oAt
  rw [← proj_cat]
  unfold rms gated
  pointwise [k0_pay19, k0_pay2]

/-- The residual row's value. -/
theorem pay22_apply (r : Fin 512) (l : Fin 1024) :
    k0_pay22 (F := Ideal) x0 x1 x2 x3 x4 x5 x6 x7 x8 x9 x10 x11 x12 x13 (ix2 r l) = yAt x0 x1 x2 x3 x4 x5 x6 x7 x8 x9 x10 r l := by
  have e : ∀ (r' : Fin 512) (l : Fin 1024), k0_pay2 (F := Ideal) (View.ld x4 r0_0) (View.ld x5 r0_0) (View.ld x6 r0_0) (View.ld x7 r0_1) (View.ld x1 r0_0) (View.ld x2 r0_0) (View.ld x3 r0_0) (View.ld x10 r0_2) (ix2 r' l) = oAt x1 x2 x3 x4 x5 x6 x7 x10 r' l :=
    pay19_apply x0 x1 x2 x3 x4 x5 x6 x7 x8 x9 x10 x11 x12 x13
  unfold yAt resid mdAt
  by_cases h : (r : ℕ) < 256
  · pointwise [k0_pay22, k0_pay5, k0_pay20, k0_pay21, k0_pay3, k0_pay4, k0_pay19, e, h]
  · have hr : (⟨256 + ((r : ℕ) - 256), by omega⟩ : Fin 512) = r := Fin.ext (by simp; omega)
    pointwise [k0_pay22, k0_pay5, k0_pay20, k0_pay21, k0_pay3, k0_pay4, k0_pay19, e, h]
    rw [hr]

/-- The adaptive norm's value. -/
theorem pay26_apply (r : Fin 512) (l : Fin 1024) :
    k0_pay26 (F := Ideal) x0 x1 x2 x3 x4 x5 x6 x7 x8 x9 x10 x11 x12 x13 (ix2 r l) = aAt x0 x1 x2 x3 x4 x5 x6 x7 x8 x9 x10 x11 r l := by
  have e := pay22_apply x0 x1 x2 x3 x4 x5 x6 x7 x8 x9 x10 x11 x12 x13
  unfold k0_pay22 at e
  unfold aAt ada rms mdAt
  by_cases h : (r : ℕ) < 256
  · pointwise [k0_pay26, k0_pay10, k0_pay23, k0_pay24, k0_pay25, k0_pay9, k0_pay8, k0_pay7, k0_pay6, e, h]
  · have hr : (⟨256 + ((r : ℕ) - 256), by omega⟩ : Fin 512) = r := Fin.ext (by simp; omega)
    pointwise [k0_pay26, k0_pay10, k0_pay23, k0_pay24, k0_pay25, k0_pay9, k0_pay8, k0_pay7, k0_pay6, e, h]
    simp only [hr]

/-- The MLP's value. -/
theorem pay15_apply (r : Fin 512) (l : Fin 1024) :
    k0_pay15 (F := Ideal) (k0_pay26 x0 x1 x2 x3 x4 x5 x6 x7 x8 x9 x10 x11 x12 x13) (k0_pay27 x0 x1 x2 x3 x4 x5 x6 x7 x8 x9 x10 x11 x12 x13)
      (k0_pay28 x0 x1 x2 x3 x4 x5 x6 x7 x8 x9 x10 x11 x12 x13) (View.ld x13 r0_20) (View.ld x12 r0_21) (View.ld x13 r0_22)
      (View.ld x12 r0_23) (View.ld x13 r0_24) (ix2 r l) = mAt x0 x1 x2 x3 x4 x5 x6 x7 x8 x9 x10 x11 x12 x13 r l := by
  have e := pay26_apply x0 x1 x2 x3 x4 x5 x6 x7 x8 x9 x10 x11 x12 x13
  have e' : ∀ (r : Fin 512) (l : Fin 1024), k0_pay10 (F := Ideal) (k0_pay23 x0 x1 x2 x3 x4 x5 x6 x7 x8 x9 x10 x11 x12 x13) (k0_pay24 x0 x1 x2 x3 x4 x5 x6 x7 x8 x9 x10 x11 x12 x13) (k0_pay25 x0 x1 x2 x3 x4 x5 x6 x7 x8 x9 x10 x11 x12 x13) (View.ld x9 r0_8) (ix2 r l) = aAt x0 x1 x2 x3 x4 x5 x6 x7 x8 x9 x10 x11 r l := e
  unfold mAt mlp
  rw [sum_eight]
  unfold hid
  pointwise [k0_pay15, k0_pay27, k0_pay28, k0_pay14, k0_pay13, k0_pay12, k0_pay11, e, e']

/-- The stored block's value: the residual row plus the second gate times the MLP. -/
theorem out_apply (r : Fin 512) (l : Fin 1024) :
    k0_pay1 (F := Ideal) (k0_pay22 x0 x1 x2 x3 x4 x5 x6 x7 x8 x9 x10 x11 x12 x13) (k0_pay15 (k0_pay26 x0 x1 x2 x3 x4 x5 x6 x7 x8 x9 x10 x11 x12 x13) (k0_pay27 x0 x1 x2 x3 x4 x5 x6 x7 x8 x9 x10 x11 x12 x13) (k0_pay28 x0 x1 x2 x3 x4 x5 x6 x7 x8 x9 x10 x11 x12 x13) (View.ld x13 r0_20) (View.ld x12 r0_21) (View.ld x13 r0_22) (View.ld x12 r0_23) (View.ld x13 r0_24)) (k0_pay16 (k0_pay22 x0 x1 x2 x3 x4 x5 x6 x7 x8 x9 x10 x11 x12 x13)) (k0_pay17 (View.ld x8 r0_25)) (k0_pay18 (k0_pay26 x0 x1 x2 x3 x4 x5 x6 x7 x8 x9 x10 x11 x12 x13) (k0_pay27 x0 x1 x2 x3 x4 x5 x6 x7 x8 x9 x10 x11 x12 x13) (k0_pay28 x0 x1 x2 x3 x4 x5 x6 x7 x8 x9 x10 x11 x12 x13) (View.ld x13 r0_20) (View.ld x12 r0_21) (View.ld x13 r0_22) (View.ld x12 r0_23) (View.ld x13 r0_24)) (View.ld x9 r0_25) (ix2 r l)
      = resid (yAt x0 x1 x2 x3 x4 x5 x6 x7 x8 x9 x10 r) (mdAt x8 x9 r 5) (mAt x0 x1 x2 x3 x4 x5 x6 x7 x8 x9 x10 x11 x12 x13 r) l := by
  have e := pay22_apply x0 x1 x2 x3 x4 x5 x6 x7 x8 x9 x10 x11 x12 x13
  have e' := pay15_apply x0 x1 x2 x3 x4 x5 x6 x7 x8 x9 x10 x11 x12 x13
  unfold resid mdAt
  by_cases h : (r : ℕ) < 256
  · pointwise [k0_pay1, k0_pay16, k0_pay17, k0_pay18, e, e', h]
  · have hr : (⟨256 + ((r : ℕ) - 256), by omega⟩ : Fin 512) = r := Fin.ext (by simp; omega)
    pointwise [k0_pay1, k0_pay16, k0_pay17, k0_pay18, e, e', h]
    rw [hr]

end Cert.OmKernel
-- ==== Proof.OmRef.lean ====
/-
  THE REFERENCE'S SIDE of the output projection and the MLP: its result at a row and a column is `OmMath.outRow` of the
  arguments' rows.
-/
module

public import proofs.«01_k».proof.Proof.OmMath
public import proofs.«01_k».proof.Proof.Gen.OutMlpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OmRef

open Cert.OutMlpRefIdeal Cert.OutMlpRefIdeal.Gen Cert.OutMlpRefIdeal.Read Cert.OmMath

variable (x0 : FVec Ideal S16896x1024 .f32) (x1 x2 x3 : FVec Ideal S16896x256 .bf16) (x4 x5 x6 : FVec Ideal S16896x256 .f32)
  (x7 : FVec Ideal S1x256 .f32) (x8 : FVec Ideal S8x6x1024 .f32) (x9 : FVec Ideal S4x1024x1024 .bf16) (x10 : FVec Ideal S1x1024 .f32)
  (x11 : FVec Ideal S4x1024x4096 .bf16) (x12 : FVec Ideal S4x4096x1024 .bf16)

/-- The flat row of row `r` of batch `b`. -/
abbrev flat (b : Fin 2) (r : Fin 8448) : Fin 16896 := ⟨b * 8448 + r, by omega⟩

/-- The mixers' projection at a flat row. -/
def oR (R : Fin 16896) (l : Fin 1024) : EReal :=
  proj (fun k => x1 (ix2 R k)) (fun k => x2 (ix2 R k)) (fun k => x3 (ix2 R k))
    (rms (Ideal.ofBits .f32 0x43800000#32) (gated (fun k => x4 (ix2 R k)) (fun k => x5 (ix2 R k)) (fun k => x6 (ix2 R k))) (fun k => x7 (ix2 0 k)))
    (fun k => x9 (ix3 0 k l))

/-- The modulation a row takes: the first entry for a context row, the batch's own for the others. -/
def mdR (b : Fin 2) (r : Fin 8448) : Fin 8 := if (r : ℕ) < 256 then 0 else ⟨1 + b, by omega⟩

/-- The residual row after the projection, with modulation `q`. -/
def yR (q : Fin 8) (R : Fin 16896) : Fin 1024 → EReal :=
  resid (fun l => x0 (ix2 R l)) (fun l => x8 (ix3 q 2 l)) (oR x1 x2 x3 x4 x5 x6 x7 x9 R)

/-- The adaptive norm's row. -/
def aR (q : Fin 8) (R : Fin 16896) : Fin 1024 → EReal :=
  ada (yR x0 x1 x2 x3 x4 x5 x6 x7 x8 x9 q R) (fun l => x10 (ix2 0 l)) (fun l => x8 (ix3 q 4 l)) (fun l => x8 (ix3 q 3 l))

/-- The result's row. -/
def outR (q : Fin 8) (R : Fin 16896) : Fin 1024 → EReal :=
  resid (yR x0 x1 x2 x3 x4 x5 x6 x7 x8 x9 q R) (fun l => x8 (ix3 q 5 l))
    (mlp (aR x0 x1 x2 x3 x4 x5 x6 x7 x8 x9 x10 q R) (fun k j => x11 (ix3 0 k j)) (fun j l => x12 (ix3 0 j l)))

/-- The gated recurrence row. -/
theorem v21_apply (b : Fin 2) (r : Fin 8448) (l : Fin 256) :
    val_main_v21 (F := Ideal) x4 x5 x6 (ix3 b r l) =
      gated (fun k => x4 (ix2 (flat b r) k)) (fun k => x5 (ix2 (flat b r) k)) (fun k => x6 (ix2 (flat b r) k)) l := by
  unfold gated Ideal.logistic
  pointwise [val_main_call0_v0, val_main_call0_v1, val_main_call0_v2, val_main_call0_v3, val_main_call0_v4, val_main_call0_v5, val_main_call0_cst, val_main_call0_cst_0, val_main_v16, val_main_v17, val_main_v18, val_main_v19, val_main_v20, val_main_v21]

/-- The projection. -/
theorem v37_apply (b : Fin 2) (r : Fin 8448) (l : Fin 1024) :
    val_main_v37 (F := Ideal) x1 x2 x3 x4 x5 x6 x7 x9 (ix3 b r l) = oR x1 x2 x3 x4 x5 x6 x7 x9 (flat b r) l := by
  have e := v21_apply x4 x5 x6
  unfold oR
  rw [← proj_cat]
  unfold rms
  pointwise [val_main_cst, val_main_cst_0, val_main_cst_1, e, val_main_v0, val_main_v1, val_main_v2, val_main_v10, val_main_v11, val_main_v12, val_main_v13, val_main_v14, val_main_v15, val_main_v22, val_main_v23, val_main_v24, val_main_v25, val_main_v26, val_main_v27, val_main_v28, val_main_v29, val_main_v30, val_main_v31, val_main_v32, val_main_v33, val_main_v34, val_main_v35, val_main_v36, val_main_v37]

/-- The residual row of a context row. -/
theorem v73_apply (b : Fin 2) (r : Fin 256) (l : Fin 1024) :
    val_main_v73 (F := Ideal) x0 x1 x2 x3 x4 x5 x6 x7 x8 x9 (ix3 b r l) = yR x0 x1 x2 x3 x4 x5 x6 x7 x8 x9 0 (flat b ⟨r, by omega⟩) l := by
  have e := v37_apply x1 x2 x3 x4 x5 x6 x7 x9
  unfold yR resid
  pointwise [e, val_main_v9, val_main_v38, val_main_v39, val_main_v40, val_main_v41, val_main_v42, val_main_v43, val_main_v44, val_main_v45, val_main_v46, val_main_v47, val_main_v48, val_main_v49, val_main_v68, val_main_v69, val_main_v70, val_main_v71, val_main_v72, val_main_v73]

/-- The adaptive norm's row of a context row. -/
theorem v95_apply (b : Fin 2) (r : Fin 256) (l : Fin 1024) :
    val_main_v95 (F := Ideal) x0 x1 x2 x3 x4 x5 x6 x7 x8 x9 x10 (ix3 b r l) = aR x0 x1 x2 x3 x4 x5 x6 x7 x8 x9 x10 0 (flat b ⟨r, by omega⟩) l := by
  have e := v73_apply x0 x1 x2 x3 x4 x5 x6 x7 x8 x9
  unfold aR ada rms
  pointwise [val_main_cst_2, val_main_cst_3, val_main_cst_4, val_main_cst_5, e, val_main_v38, val_main_v39, val_main_v40, val_main_v41, val_main_v42, val_main_v43, val_main_v44, val_main_v45, val_main_v46, val_main_v47, val_main_v48, val_main_v49, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95]

/-- The result of a context row. -/
theorem v103_apply (b : Fin 2) (r : Fin 256) (l : Fin 1024) :
    val_main_v103 (F := Ideal) x0 x1 x2 x3 x4 x5 x6 x7 x8 x9 x10 x11 x12 (ix3 b r l) = outR x0 x1 x2 x3 x4 x5 x6 x7 x8 x9 x10 x11 x12 0 (flat b ⟨r, by omega⟩) l := by
  have e := v73_apply x0 x1 x2 x3 x4 x5 x6 x7 x8 x9
  have e' := v95_apply x0 x1 x2 x3 x4 x5 x6 x7 x8 x9 x10
  unfold outR resid mlp hid
  pointwise [val_main_call1_cst, val_main_call1_v0, e, e', val_main_v3, val_main_v4, val_main_v5, val_main_v6, val_main_v7, val_main_v8, val_main_v38, val_main_v39, val_main_v40, val_main_v41, val_main_v42, val_main_v43, val_main_v44, val_main_v45, val_main_v46, val_main_v47, val_main_v48, val_main_v49, val_main_v96, val_main_v97, val_main_v98, val_main_v99, val_main_v100, val_main_v101, val_main_v102, val_main_v103]

/-- The residual row of another row. -/
theorem v108_apply (b : Fin 2) (r : Fin 8192) (l : Fin 1024) :
    val_main_v108 (F := Ideal) x0 x1 x2 x3 x4 x5 x6 x7 x8 x9 (ix3 b r l) = yR x0 x1 x2 x3 x4 x5 x6 x7 x8 x9 ⟨1 + b, by omega⟩ (flat b ⟨256 + r, by omega⟩) l := by
  have e := v37_apply x1 x2 x3 x4 x5 x6 x7 x9
  unfold yR resid
  pointwise [e, val_main_v9, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v104, val_main_v105, val_main_v106, val_main_v107, val_main_v108]

/-- The adaptive norm's row of another row. -/
theorem v128_apply (b : Fin 2) (r : Fin 8192) (l : Fin 1024) :
    val_main_v128 (F := Ideal) x0 x1 x2 x3 x4 x5 x6 x7 x8 x9 x10 (ix3 b r l) = aR x0 x1 x2 x3 x4 x5 x6 x7 x8 x9 x10 ⟨1 + b, by omega⟩ (flat b ⟨256 + r, by omega⟩) l := by
  have e := v108_apply x0 x1 x2 x3 x4 x5 x6 x7 x8 x9
  unfold aR ada rms
  pointwise [val_main_cst_6, val_main_cst_7, val_main_cst_8, val_main_cst_9, e, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128]

/-- The result of another row. -/
theorem v135_apply (b : Fin 2) (r : Fin 8192) (l : Fin 1024) :
    val_main_v135 (F := Ideal) x0 x1 x2 x3 x4 x5 x6 x7 x8 x9 x10 x11 x12 (ix3 b r l) = outR x0 x1 x2 x3 x4 x5 x6 x7 x8 x9 x10 x11 x12 ⟨1 + b, by omega⟩ (flat b ⟨256 + r, by omega⟩) l := by
  have e := v108_apply x0 x1 x2 x3 x4 x5 x6 x7 x8 x9
  have e' := v128_apply x0 x1 x2 x3 x4 x5 x6 x7 x8 x9 x10
  unfold outR resid mlp hid
  pointwise [val_main_call2_cst, val_main_call2_v0, e, e', val_main_v3, val_main_v4, val_main_v5, val_main_v6, val_main_v7, val_main_v8, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v129, val_main_v130, val_main_v131, val_main_v132, val_main_v133, val_main_v134, val_main_v135]

/-- The reference's result at a flat row and a column. -/
theorem ref_apply (R : Fin 16896) (l : Fin 1024) :
    val_main_v137 (F := Ideal) x0 x1 x2 x3 x4 x5 x6 x7 x8 x9 x10 x11 x12 (ix2 R l)
      = outR x0 x1 x2 x3 x4 x5 x6 x7 x8 x9 x10 x11 x12 (mdR ⟨R / 8448, by omega⟩ ⟨R % 8448, by omega⟩) R l := by
  have e := v103_apply x0 x1 x2 x3 x4 x5 x6 x7 x8 x9 x10 x11 x12
  have e' := v135_apply x0 x1 x2 x3 x4 x5 x6 x7 x8 x9 x10 x11 x12
  unfold mdR
  by_cases h : (R : ℕ) % 8448 < 256
  · pointwise [val_main_v137, val_main_v136, e, e', h]
    congr 1
    exact Fin.ext (by simp; omega)
  · pointwise [val_main_v137, val_main_v136, e, e', h]
    congr 1
    exact Fin.ext (by simp; omega)

end Cert.OmRef
-- ==== Proof.OmValue.lean ====
/-
  THE OUTPUT PROJECTION AND THE MLP: the kernel's result array is the reference's, and the claim that says so.
-/
module

public import proofs.«01_k».proof.Defs
public import proofs.«01_k».proof.Proof.OmKernel
public import proofs.«01_k».proof.Proof.OmRef
public import proofs.«01_k».proof.Proof.Gen.OutMlpRefIdeal.Run

@[expose] public section

set_option maxRecDepth 16384

noncomputable section

open Idealize.ShloMosaic Idealize.ShloMosaic.TcCoe Idealize.SL.Sem
open Idealize.ShloMosaic.Pipeline (Dat)

namespace Cert.OmValue

open Cert.OutMlpIdeal Cert.OutMlpIdeal.Gen Cert.OutMlpIdeal.Value Cert.OmMath Cert.OmKernel Cert.OmRef

variable (m : (ℓ : Loc nD τ sig) → Buf (Elt Ideal) ℓ)

/-- Where each block lies at a grid point: the row blocks one after another, the modulations by half tile, the weights fixed. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![if 2 * t.val % 33 = 0 then 0 else 1 + 2 * t.val / 33, 0, 0]
    ∧ win0_9.index t = ![if (2 * t.val + 1) % 33 = 0 then 0 else 1 + (2 * t.val + 1) / 33, 0, 0]
    ∧ win0_10.index t = ![0, 0, 0] ∧ win0_11.index t = ![0, 0] ∧ win0_12.index t = ![0, 0, 0] ∧ win0_13.index t = ![0, 0, 0]
    ∧ win0_14.index t = ![t.val, 0] :=
  (by decide +kernel : ∀ t : Fin grid0.N, _)

/-- Blocks whose rows are the arrays' give the array's row. -/
theorem row_of {x0 : FVec Ideal S512x1024 .f32} {x1 x2 x3 : FVec Ideal S512x256 .bf16} {x4 x5 x6 : FVec Ideal S512x256 .f32}
    {x7 : FVec Ideal S1x256 .f32} {x8 x9 : FVec Ideal S1x6x1024 .f32} {x10 : FVec Ideal S1x1024x1024 .bf16} {x11 : FVec Ideal S1x1024 .f32}
    {x12 : FVec Ideal S1x1024x4096 .bf16} {x13 : FVec Ideal S1x4096x1024 .bf16}
    {X0 : FVec Ideal S16896x1024 .f32} {X1 X2 X3 : FVec Ideal S16896x256 .bf16} {X4 X5 X6 : FVec Ideal S16896x256 .f32}
    {X7 : FVec Ideal S1x256 .f32} {X8 : FVec Ideal S8x6x1024 .f32} {X9 : FVec Ideal S4x1024x1024 .bf16} {X10 : FVec Ideal S1x1024 .f32}
    {X11 : FVec Ideal S4x1024x4096 .bf16} {X12 : FVec Ideal S4x4096x1024 .bf16}
    (r : Fin 512) (l : Fin 1024) (R : Fin 16896) (q : Fin 8)
    (h0 : ∀ k : Fin 1024, x0 (ix2 r k) = X0 (ix2 R k)) (h1 : ∀ k : Fin 256, x1 (ix2 r k) = X1 (ix2 R k))
    (h2 : ∀ k : Fin 256, x2 (ix2 r k) = X2 (ix2 R k)) (h3 : ∀ k : Fin 256, x3 (ix2 r k) = X3 (ix2 R k))
    (h4 : ∀ k : Fin 256, x4 (ix2 r k) = X4 (ix2 R k)) (h5 : ∀ k : Fin 256, x5 (ix2 r k) = X5 (ix2 R k))
    (h6 : ∀ k : Fin 256, x6 (ix2 r k) = X6 (ix2 R k)) (h7 : ∀ k : Fin 256, x7 (ix2 0 k) = X7 (ix2 0 k))
    (h8 : ∀ (s : Fin 6) (l : Fin 1024), mdAt x8 x9 r s l = X8 (ix3 q s l))
    (h9 : ∀ k l : Fin 1024, x10 (ix3 0 k l) = X9 (ix3 0 k l)) (h10 : ∀ k : Fin 1024, x11 (ix2 0 k) = X10 (ix2 0 k))
    (h11 : ∀ (k : Fin 1024) (j : Fin 4096), x12 (ix3 0 k j) = X11 (ix3 0 k j))
    (h12 : ∀ (j : Fin 4096) (l : Fin 1024), x13 (ix3 0 j l) = X12 (ix3 0 j l)) :
    resid (yAt x0 x1 x2 x3 x4 x5 x6 x7 x8 x9 x10 r) (mdAt x8 x9 r 5) (mAt x0 x1 x2 x3 x4 x5 x6 x7 x8 x9 x10 x11 x12 x13 r) l
      = outR X0 X1 X2 X3 X4 X5 X6 X7 X8 X9 X10 X11 X12 q R l := by
  have h8' : ∀ s : Fin 6, mdAt x8 x9 r s = fun l => X8 (ix3 q s l) := fun s => funext (h8 s)
  have hO : oAt x1 x2 x3 x4 x5 x6 x7 x10 r = oR X1 X2 X3 X4 X5 X6 X7 X9 R := by
    funext l; unfold oAt oR
    simp only [h1, h2, h3, h4, h5, h6, h7, h9]
  unfold outR mAt aAt aR yAt yR
  simp only [hO, h0, h8', h10, h11, h12]

set_option maxHeartbeats 2000000 in
/-- A row of the block the body stores at a grid point is the reference's at that row. -/
theorem row (c : Dev nD) (t : Fin cfg0.N) (r : Fin 512) (l : Fin 1024) (R : Fin 16896) (hR : (R : ℕ) = t.val * 512 + r) :
    resid (yAt (iblk m c 0 t) (iblk m c 1 t) (iblk m c 2 t) (iblk m c 3 t) (iblk m c 4 t) (iblk m c 5 t) (iblk m c 6 t) (iblk m c 7 t) (iblk m c 8 t) (iblk m c 9 t) (iblk m c 10 t) r)
        (mdAt (iblk m c 8 t) (iblk m c 9 t) r 5)
        (mAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r) l
      = outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (mdR ⟨R / 8448, by omega⟩ ⟨R % 8448, by omega⟩) R l := by
  have ht : t.val < 33 := t.isLt
  have hr : (r : ℕ) < 512 := r.isLt
  obtain ⟨e0, e1, e2, e3, e4, e5, e6, e7, e8, e9, e10, e11, e12, e13, -⟩ := idx t
  have hR' : R = ⟨t.val * 512 + r, by omega⟩ := Fin.ext hR
  have h0 : ∀ k : Fin 1024, iblk m c 0 t (ix2 r k) = m ((c : Thread nD τ).loc main_arg0) (ix2 R k) := by
    intro k; rw [hR']; blk_ext [iblk, V, e0]
  have h1 : ∀ k : Fin 256, iblk m c 1 t (ix2 r k) = m ((c : Thread nD τ).loc main_arg1) (ix2 R k) := by
    intro k; rw [hR']; blk_ext [iblk, V, e1]
  have h2 : ∀ k : Fin 256, iblk m c 2 t (ix2 r k) = m ((c : Thread nD τ).loc main_arg2) (ix2 R k) := by
    intro k; rw [hR']; blk_ext [iblk, V, e2]
  have h3 : ∀ k : Fin 256, iblk m c 3 t (ix2 r k) = m ((c : Thread nD τ).loc main_arg3) (ix2 R k) := by
    intro k; rw [hR']; blk_ext [iblk, V, e3]
  have h4 : ∀ k : Fin 256, iblk m c 4 t (ix2 r k) = m ((c : Thread nD τ).loc main_arg4) (ix2 R k) := by
    intro k; rw [hR']; blk_ext [iblk, V, e4]
  have h5 : ∀ k : Fin 256, iblk m c 5 t (ix2 r k) = m ((c : Thread nD τ).loc main_arg5) (ix2 R k) := by
    intro k; rw [hR']; blk_ext [iblk, V, e5]
  have h6 : ∀ k : Fin 256, iblk m c 6 t (ix2 r k) = m ((c : Thread nD τ).loc main_arg6) (ix2 R k) := by
    intro k; rw [hR']; blk_ext [iblk, V, e6]
  have h7 : ∀ k : Fin 256, iblk m c 7 t (ix2 0 k) = m ((c : Thread nD τ).loc main_arg7) (ix2 0 k) := by
    intro k; blk_ext [iblk, V, e7]
  have h8 : ∀ (s : Fin 6) (l : Fin 1024), mdAt (iblk m c 8 t) (iblk m c 9 t) r s l
      = m ((c : Thread nD τ).loc main_arg8) (ix3 (mdR ⟨R / 8448, by omega⟩ ⟨R % 8448, by omega⟩) s l) := by
    intro s l
    unfold mdAt mdR
    by_cases h : (r : ℕ) < 256
    · rw [if_pos h]
      by_cases h' : (R : ℕ) % 8448 < 256
      · have e8' : win0_8.index t = ![0, 0, 0] := by rw [e8, if_pos (by omega)]
        simp only [h', if_true]
        blk_ext [iblk, V, e8']
      · have e8' : win0_8.index t = ![1 + (R : ℕ) / 8448, 0, 0] := by
          rw [e8, if_neg (by omega), show 2 * t.val / 33 = (R : ℕ) / 8448 by omega]
        simp only [h', if_false]
        blk_ext [iblk, V, e8']
    · rw [if_neg h]
      by_cases h' : (R : ℕ) % 8448 < 256
      · have e9' : win0_9.index t = ![0, 0, 0] := by rw [e9, if_pos (by omega)]
        simp only [h', if_true]
        blk_ext [iblk, V, e9']
      · have e9' : win0_9.index t = ![1 + (R : ℕ) / 8448, 0, 0] := by
          rw [e9, if_neg (by omega), show (2 * t.val + 1) / 33 = (R : ℕ) / 8448 by omega]
        simp only [h', if_false]
        blk_ext [iblk, V, e9']
  have h9 : ∀ k l : Fin 1024, iblk m c 10 t (ix3 0 k l) = m ((c : Thread nD τ).loc main_arg9) (ix3 0 k l) := by
    intro k l; blk_ext [iblk, V, e10]
  have h10 : ∀ k : Fin 1024, iblk m c 11 t (ix2 0 k) = m ((c : Thread nD τ).loc main_arg10) (ix2 0 k) := by
    intro k; blk_ext [iblk, V, e11]
  have h11 : ∀ (k : Fin 1024) (j : Fin 4096), iblk m c 12 t (ix3 0 k j) = m ((c : Thread nD τ).loc main_arg11) (ix3 0 k j) := by
    intro k j; blk_ext [iblk, V, e12]
  have h12 : ∀ (j : Fin 4096) (l : Fin 1024), iblk m c 13 t (ix3 0 j l) = m ((c : Thread nD τ).loc main_arg12) (ix3 0 j l) := by
    intro j l; blk_ext [iblk, V, e13]
  exact row_of r l R _ h0 h1 h2 h3 h4 h5 h6 h7 h8 h9 h10 h11 h12

/-- The result array after the run. -/
theorem final (c : Dev nD) : (dats m 0 c).arrAt 14 (cfgs 0).N
    = Cert.OutMlpRefIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t _ y => ?_
  have ht : t.val < 33 := t.isLt
  have hy0 : (y 0).val < 512 := (y 0).isLt
  have hy1 : (y 1).val < 1024 := (y 1).isLt
  obtain ⟨-, -, -, -, -, -, -, -, -, -, -, -, -, -, e14⟩ := idx t
  have hy : y = ix2 ⟨(y 0).val, hy0⟩ ⟨(y 1).val, hy1⟩ := by
    funext a; match a with
    | ⟨0, _⟩ => rfl
    | ⟨1, _⟩ => rfl
  have he : ((cfg0.win 14).blk t).view.emb y = ix2 ⟨t.val * 512 + (y 0).val, by omega⟩ ⟨(y 1).val, hy1⟩ := by
    blk_ext [e14]
  blk_simp
  rw [after0_14]; frame_out
  rw [he, ref_apply]
  conv_lhs => rw [hy]
  rw [out_apply]
  exact row m c t _ _ _ rfl

/-- From memories agreeing on the arguments, both programs run and end with equal results. -/
theorem algebraic : Cert.algebraic_OutMlpIdeal_OutMlpRefIdeal (hOutMlpIdeal := Cert.OutMlpIdeal.Gen.facts)
    (hOutMlpRefIdeal := Cert.OutMlpRefIdeal.Gen.facts) := by
  intro m g m' g' _ hargs
  refine ⟨fun c => Cert.OutMlpRefIdeal.Read.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)), ?_, ?_⟩
  · refine (θ_run (Cert.OutMlpIdeal.defs (F := Ideal)) _ _).mono (fun r h c => ?_) (Cert.OutMlpIdeal.Value.run_blocks (F := Ideal) m g)
    obtain ⟨hv, h⟩ := h c
    exact ⟨hv.trans (final m c), h⟩
  · refine (θ_run (Cert.OutMlpRefIdeal.defs (F := Ideal)) _ _).mono (fun r h c => ?_) (Cert.OutMlpRefIdeal.Value.run (F := Ideal) m' g')
    obtain ⟨hv, h⟩ := h c
    refine ⟨hv.trans ?_, h⟩
    rw [Cert.OutMlpRefIdeal.Read.val_main_v137_eq]
    obtain ⟨h0, h1, h2, h3, h4, h5, h6, h7, h8, h9, h10, h11, h12⟩ := hargs c
    rw [h0, h1, h2, h3, h4, h5, h6, h7, h8, h9, h10, h11, h12]

end Cert.OmValue
-- ==== Proof.MlaBlocks.lean ====
/-
  THE BLOCKS of the attention's idealization: what each grid point writes back, and the result after the run block by block, over the
  frame of MlaFrame.lean. It follows the generated value module of the program text.
-/
module

public import proofs.«01_k».proof.Proof.MlaFrame
public import Idealize.ShloMosaic.Lib.Pipeline.Value

@[expose] public section

noncomputable section

namespace Cert.MlaRun

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 33 = 0) (h1 : ¬1 ≤ t.val % 33) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  simp only [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 33 = 0) (h1 : 1 ≤ t.val % 33) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t)) := by
  simp only [flushed3, outsAt0_B m c t h0 h1]

/-- The index map sends distinct grid points to distinct block indices (decided over the 66 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S2x8448x256.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.MlaRun

end
-- ==== Proof.MlaMath.lean ====
/-
  SOFTMAX IN PIECES, AS MATHEMATICS OF ONE COLUMN: keys arrive in chunks, a running maximum, a running sum of powers of
  two and a running weighted sum of values are kept, and the quotient of the last two at the end is the values' sum under
  the softmax weights of all keys. The scores are real; the values are any extended reals.
-/
module

public import Idealize.ShloMosaic.Lib.Pointwise

@[expose] public section

noncomputable section

open Idealize.ShloMosaic

namespace Cert.MlaMath

/-- The power of two of a key's score less a base point. -/
def pw (s : ℕ → ℝ) (M : ℝ) (i : ℕ) : ℝ := Real.rpow 2 (s i - M)

theorem pw_pos (s : ℕ → ℝ) (M : ℝ) (i : ℕ) : 0 < pw s M i := Real.rpow_pos_of_pos two_pos _

/-- Moving the base point multiplies the power by a factor that is the same for every key. -/
theorem pw_shift (s : ℕ → ℝ) (M M' : ℝ) (i : ℕ) : Real.rpow 2 (M - M') * pw s M i = pw s M' i := by
  unfold pw
  show (2 : ℝ) ^ (M - M') * (2 : ℝ) ^ (s i - M) = (2 : ℝ) ^ (s i - M')
  rw [← Real.rpow_add two_pos]
  congr 1; ring

/-- A nonnegative real factor goes into a sum of extended reals. -/
theorem mul_sum {ι : Type*} (I : Finset ι) (c : ℝ) (hc : 0 ≤ c) (f : ι → EReal) : (c : EReal) * ∑ i ∈ I, f i = ∑ i ∈ I, (c : EReal) * f i := by
  classical
  induction I using Finset.induction_on with
  | empty => simp
  | insert a I ha ih =>
    rw [Finset.sum_insert ha, Finset.sum_insert ha,
      EReal.left_distrib_of_nonneg_of_ne_top (EReal.coe_nonneg.2 hc) (EReal.coe_ne_top c), ih]

/-- A sum of reals, read as an extended real. -/
theorem coe_sum {ι : Type*} (I : Finset ι) (f : ι → ℝ) : ((∑ i ∈ I, f i : ℝ) : EReal) = ∑ i ∈ I, (f i : EReal) := by
  classical
  induction I using Finset.induction_on with
  | empty => simp
  | insert a I ha ih => rw [Finset.sum_insert ha, Finset.sum_insert ha, EReal.coe_add, ih]

/-- The greatest of finitely many reals is a real. -/
theorem fold_real {ι : Type*} [Fintype ι] [Nonempty ι] (f : ι → EReal) (h : ∀ i, ∃ r : ℝ, f i = r) :
    ∃ r : ℝ, Finset.univ.fold max (⊥ : EReal) f = r := by
  have e : Finset.univ.fold max (⊥ : EReal) f = Finset.univ.sup f := rfl
  obtain ⟨i, -, hi⟩ := Finset.exists_mem_eq_sup Finset.univ Finset.univ_nonempty f
  obtain ⟨r, hr⟩ := h i
  exact ⟨r, by rw [e, hi, hr]⟩

/-- The greater of two reals, read as an extended real. -/
theorem coe_max (a b : ℝ) : ((max a b : ℝ) : EReal) = max (a : EReal) (b : EReal) :=
  (EReal.coe_strictMono.monotone.map_max)

/-- The greater of two reals is a real. -/
theorem max_real {x y : EReal} (hx : ∃ r : ℝ, x = r) (hy : ∃ r : ℝ, y = r) : ∃ r : ℝ, max x y = r := by
  obtain ⟨a, rfl⟩ := hx
  obtain ⟨b, rfl⟩ := hy
  exact ⟨max a b, (coe_max a b).symm⟩

/-- A sum of products of reals is a real. -/
theorem sum_mul_real {ι : Type*} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

/-- What is kept of the first `n` keys of a column: the base point, the sum of powers and the weighted sum of values. -/
def Col (n : ℕ) (s : ℕ → ℝ) (v : ℕ → EReal) (m den acc : EReal) : Prop :=
  ∃ M : ℝ, m = M ∧ den = ((∑ i ∈ Finset.range n, pw s M i : ℝ) : EReal) ∧ acc = ∑ i ∈ Finset.range n, v i * (pw s M i : EReal)

/-- Nothing read yet: any real base point, and two zeros. -/
theorem col_zero (s : ℕ → ℝ) (v : ℕ → EReal) (M : ℝ) : Col 0 s v M 0 0 := ⟨M, rfl, by simp, by simp⟩

/-- One more chunk of `W` keys, with any real as the chunk's bound. -/
theorem col_step {n : ℕ} {s : ℕ → ℝ} {v : ℕ → EReal} {m den acc : EReal} (h : Col n s v m den acc) (W : ℕ) (S V : Fin W → EReal)
    (mx : EReal) (hx : ∃ r : ℝ, mx = r) (hS : ∀ r, S r = (s (n + r) : EReal)) (hV : ∀ r, V r = v (n + r)) :
    Col (n + W) s v (max m mx) (Ideal.exp2 (m - max m mx) * den + ∑ r, Ideal.exp2 (S r - max m mx))
      (Ideal.exp2 (m - max m mx) * acc + ∑ r, V r * Ideal.exp2 (S r - max m mx)) := by
  obtain ⟨M, rfl, rfl, rfl⟩ := h
  obtain ⟨X, rfl⟩ := hx
  rw [← coe_max]
  have e : ∀ r : Fin W, Ideal.exp2 (S r - ((max M X : ℝ) : EReal)) = (pw s (max M X) (n + r) : EReal) := fun r => by
    rw [hS, ← EReal.coe_sub, Ideal.exp2_coe]; rfl
  have e0 : Ideal.exp2 ((M : EReal) - ((max M X : ℝ) : EReal)) = ((Real.rpow 2 (M - max M X) : ℝ) : EReal) := by
    rw [← EReal.coe_sub, Ideal.exp2_coe]
  have hp : (0 : ℝ) ≤ Real.rpow 2 (M - max M X) := Real.rpow_nonneg zero_le_two _
  refine ⟨max M X, rfl, ?_, ?_⟩
  · simp only [e, e0]
    rw [← coe_sum, ← EReal.coe_mul, ← EReal.coe_add, Finset.mul_sum, Finset.sum_range_add]
    simp only [pw_shift]
    rw [Finset.sum_range (fun x => pw s (max M X) (n + x))]
  · simp only [e, e0, hV]
    rw [mul_sum _ _ hp, Finset.sum_range_add, Finset.sum_range (fun x => v (n + x) * (pw s (max M X) (n + x) : EReal))]
    congr 1
    refine Finset.sum_congr rfl fun i _ => ?_
    rw [mul_left_comm, ← EReal.coe_mul, pw_shift]

/-- A key's softmax weight among `n`, in base two. -/
def wt (n : ℕ) (s : ℕ → ℝ) (i : ℕ) : ℝ := pw s 0 i / ∑ k ∈ Finset.range n, pw s 0 k

/-- The weight does not depend on the base point. -/
theorem wt_base (n : ℕ) (s : ℕ → ℝ) (M : ℝ) (i : ℕ) : pw s M i / ∑ k ∈ Finset.range n, pw s M k = wt n s i := by
  unfold wt
  have hc : (0 : ℝ) < Real.rpow 2 (M - 0) := Real.rpow_pos_of_pos two_pos _
  simp only [← pw_shift s M 0]
  rw [← Finset.mul_sum, mul_div_mul_left _ _ hc.ne']

/-- The values under the softmax weights of the column's scores. -/
def mix (n : ℕ) (s : ℕ → ℝ) (v : ℕ → EReal) : EReal := ∑ i : Fin n, v i * (wt n s i : EReal)

/-- At the end the weighted sum over the sum of powers is the softmax mix. -/
theorem col_div {n : ℕ} (hn : 0 < n) {s : ℕ → ℝ} {v : ℕ → EReal} {m den acc : EReal} (h : Col n s v m den acc) :
    Ideal.div acc den = mix n s v := by
  obtain ⟨M, -, rfl, rfl⟩ := h
  have hD : 0 < ∑ i ∈ Finset.range n, pw s M i := Finset.sum_pos (fun i _ => pw_pos s M i) ⟨0, Finset.mem_range.2 hn⟩
  rw [Ideal.div_coe hD.ne', mul_comm, mul_sum _ _ (by positivity)]
  unfold mix
  rw [← Finset.sum_range (fun i => v i * (wt n s i : EReal))]
  refine Finset.sum_congr rfl fun i _ => ?_
  rw [mul_left_comm, ← EReal.coe_mul, ← wt_base n s M i]
  congr 2; field_simp

/-- A natural softmax weight: the exponential of the score less a bound, over the sum of those of all keys. -/
def soft {n : ℕ} (x : Fin n → EReal) (b : EReal) (i : Fin n) : EReal := Ideal.div (Ideal.exp (x i - b)) (∑ k, Ideal.exp (x k - b))

/-- Of scores times the logarithm of two it is the weight in base two. -/
theorem soft_eq {n : ℕ} (s : ℕ → ℝ) (b : EReal) (hb : ∃ r : ℝ, b = r) (x : Fin n → EReal)
    (hx : ∀ i, x i = (s i : EReal) * ((Real.log 2 : ℝ) : EReal)) (i : Fin n) : soft x b i = (wt n s i : EReal) := by
  obtain ⟨B, rfl⟩ := hb
  unfold soft
  have e : ∀ k : Fin n, Ideal.exp (x k - (B : EReal)) = (pw s (B / Real.log 2) k : EReal) := fun k => by
    have hl : Real.log 2 ≠ 0 := (Real.log_pos one_lt_two).ne'
    rw [hx, ← EReal.coe_mul, ← EReal.coe_sub, Ideal.exp_coe]
    unfold pw
    show _ = (((2 : ℝ) ^ (s k - B / Real.log 2) : ℝ) : EReal)
    rw [Real.rpow_def_of_pos two_pos]
    congr 2; field_simp
  simp only [e]
  rw [← coe_sum]
  have hD : 0 < ∑ k : Fin n, pw s (B / Real.log 2) k := Finset.sum_pos (fun k _ => pw_pos s _ k) ⟨i, Finset.mem_univ _⟩
  rw [Ideal.div_coe hD.ne', ← EReal.coe_mul, ← wt_base n s (B / Real.log 2) i, Finset.sum_range]
  congr 1; field_simp

end Cert.MlaMath
-- ==== Proof.MlaPay.lean ====
/-
  THE ATTENTION'S VECTOR TERMS, READ AT AN INDEX: the scores of a chunk of keys, the chunk's bound, and one chunk's update of the
  running maximum, the running sum and the two running weighted sums of values. The same text stands several times in the kernel, once
  for each place a chunk is handled; each is shown equal to the first.
-/
module

public import proofs.«01_k».proof.Proof.MlaMath
public import proofs.«01_k».proof.Proof.MlaFrame
public import Idealize.ShloMosaic.Lib.Pointwise

@[expose] public section

set_option maxRecDepth 16384

noncomputable section

open Idealize.ShloMosaic Idealize.ShloMosaic.TcCoe Idealize.SL.Sem

namespace Cert.MlaPay

open Cert.KernelIdeal Cert.KernelIdeal.Gen Cert.MlaMath

/-! ## The scores of a chunk of 768 keys, and their bound -/

section Scores
variable (k : FVec Ideal S1x768x256 .bf16) (q : FVec Ideal S1x512x256 .bf16)

/-- A score is the product of a key's row with a query's row. -/
theorem pay35_at (r : Fin 768) (l : Fin 512) :
    k0_pay35 (F := Ideal) k q (ix3 0 r l) = ∑ x : Fin 256, k (ix3 0 r x) * q (ix3 0 l x) := by
  pointwise [k0_pay35, k0_pay34]

/-- The chunk's bound is a real where the scores are. -/
theorem pay36_real (h : ∀ (r : Fin 768) (l : Fin 512), ∃ y : ℝ, ∑ x : Fin 256, k (ix3 0 r x) * q (ix3 0 l x) = y) (l : Fin 512) :
    ∃ y : ℝ, k0_pay36 (F := Ideal) k q (ix2 0 l) = y := by
  have e0 : Ideal.ofBits FTy.f32 4286578688#32 = (⊥ : EReal) := by simp [Ideal.ofBits, Ideal.ieee]
  pointwise [k0_pay36, k0_pay34]
  simp only [e0]
  exact fold_real _ fun x => fold_real _ fun x1 => fold_real _ fun x2 => h _ _

theorem pay87_eq : k0_pay87 (F := Ideal) k q = k0_pay35 k q := rfl
theorem pay38_eq : k0_pay38 (F := Ideal) k q = k0_pay35 k q := rfl
theorem pay61_eq : k0_pay61 (F := Ideal) (k0_pay59 k) q = k0_pay35 k q := rfl
theorem pay64_eq : k0_pay64 (F := Ideal) k q = k0_pay35 k q := rfl
theorem pay90_eq : k0_pay90 (F := Ideal) k q = k0_pay35 k q := rfl
theorem pay88_eq : k0_pay88 (F := Ideal) k q = k0_pay36 k q := rfl
theorem pay40_eq : k0_pay40 (F := Ideal) (k0_pay39 k q) = k0_pay36 k q := rfl
theorem pay62_eq : k0_pay62 (F := Ideal) (k0_pay59 k) q = k0_pay36 k q := rfl
theorem pay65_eq : k0_pay65 (F := Ideal) k q = k0_pay36 k q := rfl
theorem pay92_eq : k0_pay92 (F := Ideal) (k0_pay91 k q) = k0_pay36 k q := rfl

end Scores

/-! ## One chunk's update -/

section Update
variable (mx m den : FVec Ideal S1x512 .f32) (a b : FVec Ideal S64x256 .f32) (s : FVec Ideal S1x768x512 .f32)
  (va vb : FVec Ideal S1x1x64x768 .bf16)

theorem pay41_at (l : Fin 512) : k0_pay41 (F := Ideal) mx m (ix2 0 l) = max (m (ix2 0 l)) (mx (ix2 0 l)) := by
  pointwise [k0_pay41]

theorem pay47_lo (l : Fin 256) : k0_pay47 (F := Ideal) mx m den s va vb (ix2 0 ⟨l, by omega⟩)
      = Ideal.exp2 (m (ix2 0 ⟨l, by omega⟩) - max (m (ix2 0 ⟨l, by omega⟩)) (mx (ix2 0 ⟨l, by omega⟩))) * den (ix2 0 ⟨l, by omega⟩)
        + ∑ r : Fin 768, Ideal.exp2 (s (ix3 0 r ⟨l, by omega⟩) - max (m (ix2 0 ⟨l, by omega⟩)) (mx (ix2 0 ⟨l, by omega⟩))) := by
  pointwise [k0_pay47, k0_pay41, k0_pay42, k0_pay43, k0_pay44, k0_pay45, k0_pay46]
  rfl

theorem pay47_hi (l : Fin 256) : k0_pay47 (F := Ideal) mx m den s va vb (ix2 0 ⟨256 + l, by omega⟩)
      = Ideal.exp2 (m (ix2 0 ⟨256 + l, by omega⟩) - max (m (ix2 0 ⟨256 + l, by omega⟩)) (mx (ix2 0 ⟨256 + l, by omega⟩))) * den (ix2 0 ⟨256 + l, by omega⟩)
        + ∑ r : Fin 768, Ideal.exp2 (s (ix3 0 r ⟨256 + l, by omega⟩) - max (m (ix2 0 ⟨256 + l, by omega⟩)) (mx (ix2 0 ⟨256 + l, by omega⟩))) := by
  pointwise [k0_pay47, k0_pay41, k0_pay42, k0_pay43, k0_pay44, k0_pay45, k0_pay46]
  rfl

theorem pay48_at (d : Fin 64) (l : Fin 256) : k0_pay48 (F := Ideal) mx m a s va (ix2 d l)
      = Ideal.exp2 (m (ix2 0 ⟨l, by omega⟩) - max (m (ix2 0 ⟨l, by omega⟩)) (mx (ix2 0 ⟨l, by omega⟩))) * a (ix2 d l)
        + ∑ r : Fin 768, va (ix4 0 0 d r)
            * Ideal.exp2 (s (ix3 0 r ⟨l, by omega⟩) - max (m (ix2 0 ⟨l, by omega⟩)) (mx (ix2 0 ⟨l, by omega⟩))) := by
  pointwise [k0_pay48, k0_pay41, k0_pay42, k0_pay43, k0_pay44, k0_pay45, k0_pay46]
  rfl

theorem pay49_at (d : Fin 64) (l : Fin 256) : k0_pay49 (F := Ideal) mx m b s vb (ix2 d l)
      = Ideal.exp2 (m (ix2 0 ⟨256 + l, by omega⟩) - max (m (ix2 0 ⟨256 + l, by omega⟩)) (mx (ix2 0 ⟨256 + l, by omega⟩))) * b (ix2 d l)
        + ∑ r : Fin 768, vb (ix4 0 0 d r)
            * Ideal.exp2 (s (ix3 0 r ⟨256 + l, by omega⟩) - max (m (ix2 0 ⟨256 + l, by omega⟩)) (mx (ix2 0 ⟨256 + l, by omega⟩))) := by
  pointwise [k0_pay49, k0_pay41, k0_pay42, k0_pay43, k0_pay44, k0_pay45, k0_pay46]
  rfl

theorem pay50_eq : k0_pay50 (F := Ideal) mx m = k0_pay41 mx m := rfl
theorem pay66_eq : k0_pay66 (F := Ideal) mx m = k0_pay41 mx m := rfl
theorem pay77_eq : k0_pay77 (F := Ideal) mx m = k0_pay41 mx m := rfl
theorem pay98_eq : k0_pay98 (F := Ideal) mx m = k0_pay41 mx m := rfl
theorem pay108_eq : k0_pay108 (F := Ideal) mx m = k0_pay41 mx m := rfl
theorem pay56_eq : k0_pay56 (F := Ideal) den (k0_pay50 mx m) (k0_pay51 mx m) s va vb = k0_pay47 mx m den s va vb := rfl
theorem pay57_eq : k0_pay57 (F := Ideal) a (k0_pay50 mx m) (k0_pay51 mx m) s va = k0_pay48 mx m a s va := rfl
theorem pay58_eq : k0_pay58 (F := Ideal) b (k0_pay50 mx m) (k0_pay51 mx m) s vb = k0_pay49 mx m b s vb := rfl
theorem pay74_eq : k0_pay74 (F := Ideal) den (k0_pay67 mx m) (k0_pay68 s) (k0_pay69 mx m) va vb = k0_pay47 mx m den s va vb := rfl
theorem pay75_eq : k0_pay75 (F := Ideal) a (k0_pay67 mx m) (k0_pay68 s) (k0_pay69 mx m) va = k0_pay48 mx m a s va := rfl
theorem pay76_eq : k0_pay76 (F := Ideal) b (k0_pay67 mx m) (k0_pay68 s) (k0_pay69 mx m) vb = k0_pay49 mx m b s vb := rfl
theorem pay95_eq : k0_pay95 (F := Ideal) den (k0_pay78 mx m) (k0_pay79 mx m s) k0_pay80 (k0_pay81 va) vb = k0_pay47 mx m den s va vb := rfl
theorem pay96_eq : k0_pay96 (F := Ideal) a (k0_pay78 mx m) (k0_pay79 mx m s) k0_pay80 (k0_pay81 va) = k0_pay48 mx m a s va := rfl
theorem pay97_eq : k0_pay97 (F := Ideal) b (k0_pay78 mx m) (k0_pay79 mx m s) k0_pay80 vb = k0_pay49 mx m b s vb := rfl
theorem pay104_eq : k0_pay104 (F := Ideal) mx m den s va vb = k0_pay47 mx m den s va vb := rfl
theorem pay105_eq : k0_pay105 (F := Ideal) mx m a s va = k0_pay48 mx m a s va := rfl
theorem pay114_eq : k0_pay114 (F := Ideal) mx m den s va vb = k0_pay47 mx m den s va vb := rfl
theorem pay115_eq : k0_pay115 (F := Ideal) mx m b s vb = k0_pay49 mx m b s vb := rfl

theorem pay116_at (d : Fin 64) (l : Fin 256) :
    k0_pay116 (F := Ideal) den a (ix2 d l) = Ideal.div (a (ix2 d l)) (den (ix2 0 ⟨l, by omega⟩)) := by
  pointwise [k0_pay116]

theorem pay117_at (d : Fin 64) (l : Fin 256) :
    k0_pay117 (F := Ideal) den (k0_pay106 mx m b) (k0_pay107 mx m s vb) (ix2 d l)
      = Ideal.div (k0_pay49 mx m b s vb (ix2 d l)) (den (ix2 0 ⟨256 + l, by omega⟩)) := by
  pointwise [k0_pay117]
  rfl

theorem pay118_eq : k0_pay118 (F := Ideal) mx m den a s va vb = k0_pay116 (k0_pay47 mx m den s va vb) (k0_pay48 mx m a s va) := rfl

/-- The block written back: the four heads' columns side by side, the last divided here. -/
theorem pay3_h0 (c d : FVec Ideal S64x256 .f32) (e : FVec Ideal S1x256 .f32) (r : Fin 256) (x : Fin 64) :
    k0_pay3 (F := Ideal) b c d a e (ix3 0 r ⟨x, by omega⟩) = c (ix2 x r) := by
  pointwise [k0_pay3]

theorem pay3_h1 (c d : FVec Ideal S64x256 .f32) (e : FVec Ideal S1x256 .f32) (r : Fin 256) (x : Fin 64) :
    k0_pay3 (F := Ideal) b c d a e (ix3 0 r ⟨64 + x, by omega⟩) = d (ix2 x r) := by
  pointwise [k0_pay3]

theorem pay3_h2 (c d : FVec Ideal S64x256 .f32) (e : FVec Ideal S1x256 .f32) (r : Fin 256) (x : Fin 64) :
    k0_pay3 (F := Ideal) b c d a e (ix3 0 r ⟨128 + x, by omega⟩) = a (ix2 x r) := by
  have hx := x.isLt
  pointwise [k0_pay3]
  rw [dif_neg (by omega), dif_neg (by omega), dif_pos (by omega)]
  congr 2; apply Fin.ext; dsimp only; omega

theorem pay3_h3 (c d : FVec Ideal S64x256 .f32) (e : FVec Ideal S1x256 .f32) (r : Fin 256) (x : Fin 64) :
    k0_pay3 (F := Ideal) b c d a e (ix3 0 r ⟨192 + x, by omega⟩) = Ideal.div (b (ix2 x r)) (e (ix2 0 r)) := by
  have hx := x.isLt
  pointwise [k0_pay3]
  rw [dif_neg (by omega), dif_neg (by omega), dif_neg (by omega)]
  congr 3; apply Fin.ext; dsimp only; omega

theorem pay119_at (l : Fin 256) : k0_pay119 (F := Ideal) mx m den s va vb (ix2 0 l) = k0_pay47 mx m den s va vb (ix2 0 ⟨256 + l, by omega⟩) := by
  rw [← pay114_eq]
  pointwise [k0_pay119]

end Update

/-! ## What is kept of two heads after some keys -/

/-- Two heads' running values after `n` keys: the columns of the left half of the queries' axis are one head's, those of the right half
    another's. -/
def Inv (n : ℕ) (sL sR : Fin 256 → ℕ → ℝ) (vL vR : Fin 64 → ℕ → EReal) (m den : FVec Ideal S1x512 .f32) (a b : FVec Ideal S64x256 .f32) : Prop :=
  (∀ (l : Fin 256) (d : Fin 64), Col n (sL l) (vL d) (m (ix2 0 ⟨l, by omega⟩)) (den (ix2 0 ⟨l, by omega⟩)) (a (ix2 d l)))
  ∧ (∀ (l : Fin 256) (d : Fin 64), Col n (sR l) (vR d) (m (ix2 0 ⟨256 + l, by omega⟩)) (den (ix2 0 ⟨256 + l, by omega⟩)) (b (ix2 d l)))

/-- A chunk's scores are the two heads' at the keys from `n` on. -/
def Sc (n : ℕ) (sL sR : Fin 256 → ℕ → ℝ) (s : FVec Ideal S1x768x512 .f32) : Prop :=
  (∀ (r : Fin 768) (l : Fin 256), s (ix3 0 r ⟨l, by omega⟩) = (sL l (n + r) : EReal))
  ∧ (∀ (r : Fin 768) (l : Fin 256), s (ix3 0 r ⟨256 + l, by omega⟩) = (sR l (n + r) : EReal))

/-- A chunk's values are the head's at the keys from `n` on. -/
def Vc (n : ℕ) (v : Fin 64 → ℕ → EReal) (va : FVec Ideal S1x1x64x768 .bf16) : Prop :=
  ∀ (d : Fin 64) (r : Fin 768), va (ix4 0 0 d r) = v d (n + r)

/-- Every entry of a row is a real. -/
def Re (x : FVec Ideal S1x512 .f32) : Prop := ∀ l : Fin 512, ∃ y : ℝ, x (ix2 0 l) = y

section Steps
variable {n : ℕ} {sL sR : Fin 256 → ℕ → ℝ} {vL vR : Fin 64 → ℕ → EReal} {mx m den : FVec Ideal S1x512 .f32} {a b : FVec Ideal S64x256 .f32}
  {s : FVec Ideal S1x768x512 .f32} {va vb : FVec Ideal S1x1x64x768 .bf16}

/-- Handling one chunk keeps the running values. -/
theorem inv_step (h : Inv n sL sR vL vR m den a b) (hx : Re mx) (hs : Sc n sL sR s) (ha : Vc n vL va) (hb : Vc n vR vb) :
    Inv (n + 768) sL sR vL vR (k0_pay41 mx m) (k0_pay47 mx m den s va vb) (k0_pay48 mx m a s va) (k0_pay49 mx m b s vb) := by
  refine ⟨fun l d => ?_, fun l d => ?_⟩
  · rw [pay41_at, pay47_lo, pay48_at]
    exact col_step (h.1 l d) 768 (fun r => s (ix3 0 r ⟨l, by omega⟩)) (fun r => va (ix4 0 0 d r)) _ (hx _) (fun r => hs.1 r l) (fun r => ha d r)
  · rw [pay41_at, pay47_hi, pay49_at]
    exact col_step (h.2 l d) 768 (fun r => s (ix3 0 r ⟨256 + l, by omega⟩)) (fun r => vb (ix4 0 0 d r)) _ (hx _) (fun r => hs.2 r l) (fun r => hb d r)

/-- The products of a block of keys with the two heads' queries are the scores from key `n` on. -/
def KQ (n : ℕ) (sL sR : Fin 256 → ℕ → ℝ) (k : FVec Ideal S1x768x256 .bf16) (q : FVec Ideal S1x512x256 .bf16) : Prop :=
  (∀ (r : Fin 768) (l : Fin 256), ∑ x : Fin 256, k (ix3 0 r x) * q (ix3 0 ⟨l, by omega⟩ x) = (sL l (n + r) : EReal))
  ∧ (∀ (r : Fin 768) (l : Fin 256), ∑ x : Fin 256, k (ix3 0 r x) * q (ix3 0 ⟨256 + l, by omega⟩ x) = (sR l (n + r) : EReal))

variable {k : FVec Ideal S1x768x256 .bf16} {q : FVec Ideal S1x512x256 .bf16}

theorem sc_of_kq (h : KQ n sL sR k q) : Sc n sL sR (k0_pay35 k q) :=
  ⟨fun r l => (pay35_at k q r _).trans (h.1 r l), fun r l => (pay35_at k q r _).trans (h.2 r l)⟩

theorem re_of_kq (h : KQ n sL sR k q) : Re (k0_pay36 k q) := fun l => pay36_real k q (fun r l => by
  by_cases hl : l.val < 256
  · exact ⟨_, h.1 r ⟨l, hl⟩⟩
  · have e : l = ⟨256 + (⟨l - 256, by omega⟩ : Fin 256).val, by dsimp only; omega⟩ := Fin.ext (by dsimp only; omega)
    rw [e]; exact ⟨_, h.2 r ⟨l - 256, by omega⟩⟩) l

/-- Nothing handled yet. -/
theorem inv_zero : Inv 0 sL sR vL vR (k0_pay82 (F := Ideal)) k0_pay83 k0_pay84 k0_pay85 := by
  have e : ∃ y : ℝ, Ideal.ofBits .f32 0xF149F2CA#32 = y := by
    unfold Ideal.ofBits Ideal.ieee
    dsimp only
    rw [if_neg (by decide), if_neg (by decide)]
    exact ⟨_, rfl⟩
  have e0 : Ideal.ofBits .f32 0x00000000#32 = 0 := by simp [Ideal.ofBits, Ideal.ieee]
  obtain ⟨y, hy⟩ := e
  refine ⟨fun l d => ?_, fun l d => ?_⟩
  all_goals
    show Col 0 _ _ (Ideal.ofBits .f32 0xF149F2CA#32) (Ideal.ofBits .f32 0x00000000#32) (Ideal.ofBits .f32 0x00000000#32)
    rw [hy, e0]
    exact col_zero _ _ y

end Steps

end Cert.MlaPay
-- ==== Proof.MlaRead.lean ====
/-
  WHAT THE ATTENTION'S LOADS READ: blocks of the staged keys and values, and the planes of the scratch buffers its own stores filled.
-/
module

public import proofs.«01_k».proof.Proof.MlaPay
public import Idealize.ShloMosaic.Lib.WritesUnit

@[expose] public section

set_option maxRecDepth 16384

noncomputable section

open Idealize.ShloMosaic Idealize.ShloMosaic.TcCoe Idealize.SL.Sem

namespace Cert.MlaRead

open Cert.KernelIdeal Cert.KernelIdeal.Gen Cert.MlaMath Cert.MlaPay

/-- A load of a unit-stride box from a whole buffer holding `x`, at an index: `x` at the index moved by the box's offsets. -/
theorem readAt_unit {s : Shape} {e : EltTy} (a : Memref sig .tc .vmem s e) (h : a.IsWhole) (x : s.Idx → Elt Ideal e) {off off' size : Fin s.rank → ℕ}
    (inb : ∀ a, off a + size a ≤ s.size a) (i : (Rect.unit off size inb).shape.Idx) (y : s.Idx) (heq : off = off')
    (hy : ∀ a, (y a).val = off' a + (i a).val) :
    View.readAt (Elt Ideal) a.view (Rect.unit off size inb).toLoadRect (h.unread x) i = x y := by
  subst heq
  rw [View.readAt_apply, h.read_unread]
  congr 1
  funext a
  apply Fin.ext
  rw [hy a]
  show off a + 1 * (i a).val = _
  rw [Nat.one_mul]

/-- The products of the keys with the two heads' queries, the keys' columns from `o` on, are the heads' scores. -/
def QOK (x1 : FVec Ideal S1x8448x512 .bf16) (o : ℕ) (ho : o ≤ 256) (sL sR : Fin 256 → ℕ → ℝ) (q : FVec Ideal S1x512x256 .bf16) : Prop :=
  (∀ (i : Fin 8448) (l : Fin 256), ∑ x : Fin 256, x1 (ix3 0 i ⟨o + x, by omega⟩) * q (ix3 0 ⟨l, by omega⟩ x) = (sL l i : EReal))
  ∧ (∀ (i : Fin 8448) (l : Fin 256), ∑ x : Fin 256, x1 (ix3 0 i ⟨o + x, by omega⟩) * q (ix3 0 ⟨256 + l, by omega⟩ x) = (sR l i : EReal))

/-- The value a head and a column of it takes at a key. -/
def val (x2 : FVec Ideal S1x11x256x768 .bf16) (h : Fin 4) (d : Fin 64) (i : ℕ) : EReal :=
  if hi : i < 8448 then x2 (ix4 0 ⟨i / 768, by omega⟩ ⟨64 * h + d, by omega⟩ ⟨i % 768, by omega⟩) else 0

variable (arg3 : Memref sig .tc .vmem S1x8448x512 .bf16) (harg3 : arg3.IsWhole) (arg4 : Memref sig .tc .vmem S1x11x256x768 .bf16) (harg4 : arg4.IsWhole)
  (x1 : FVec Ideal S1x8448x512 .bf16) (x2 : FVec Ideal S1x11x256x768 .bf16)

/-- A chunk of keys read from the staged keys. -/
theorem kq_of {o : ℕ} {ho : o ≤ 256} {sL sR : Fin 256 → ℕ → ℝ} {q : FVec Ideal S1x512x256 .bf16} (h : QOK x1 o ho sL sR q) {n : ℕ} (hn : n + 768 ≤ 8448)
    {off : Fin 3 → ℕ} (inb : ∀ a, off a + S1x768x256.size a ≤ S1x8448x512.size a) (heq : off = ![0, n, o]) :
    KQ n sL sR (View.readAt (Elt Ideal) arg3.view (Rect.unit (s := S1x8448x512) off S1x768x256.size inb).toLoadRect (harg3.unread x1)) q := by
  have e : ∀ (r : Fin 768) (x : Fin 256), View.readAt (Elt Ideal) arg3.view (Rect.unit (s := S1x8448x512) off S1x768x256.size inb).toLoadRect (harg3.unread x1) (ix3 0 r x)
      = x1 (ix3 0 ⟨n + r, by omega⟩ ⟨o + x, by omega⟩) := fun r x =>
    readAt_unit arg3 harg3 x1 inb (ix3 0 r x) (ix3 0 ⟨n + r, by omega⟩ ⟨o + x, by omega⟩) heq (by
      intro a; fin_cases a <;> rfl)
  refine ⟨fun r l => ?_, fun r l => ?_⟩
  · rw [← h.1 ⟨n + r, by omega⟩ l]
    exact Finset.sum_congr rfl fun x _ => by rw [e]
  · rw [← h.2 ⟨n + r, by omega⟩ l]
    exact Finset.sum_congr rfl fun x _ => by rw [e]

/-- A chunk of a head's values read from the staged values. -/
theorem vc_of {c : ℕ} (hc : c < 11) (h : Fin 4) {off : Fin 4 → ℕ} (inb : ∀ a, off a + S1x1x64x768.size a ≤ S1x11x256x768.size a)
    (heq : off = ![0, c, 64 * h, 0]) :
    Vc (768 * c) (val x2 h) (View.readAt (Elt Ideal) arg4.view (Rect.unit (s := S1x11x256x768) off S1x1x64x768.size inb).toLoadRect (harg4.unread x2)) := by
  intro d r
  unfold val
  rw [dif_pos (by omega)]
  refine readAt_unit arg4 harg4 x2 inb (ix4 0 0 d r) _ heq ?_
  intro a
  fin_cases a
  · rfl
  · show (768 * c + r.val) / 768 = c + 0
    omega
  · rfl
  · show (768 * c + r.val) % 768 = 0 + r.val
    omega

/-- The first plane of a buffer of two planes, just written plane by plane. -/
theorem plane0 (a : Memref sig .tc .vmem S2x768x512 .f32) (f : a.view.ty.Contents (Elt Ideal)) (w0 w1 : FVec Ideal S1x768x512 .f32)
    (L : List (View.Piece (Elt Ideal) S2x768x512 .f32)) :
    View.readAt (Elt Ideal) a.view (Rect.unit (s := S2x768x512) ![0, 0, 0] S1x768x512.size inb_S2x768x512_S1x768x512_0_0_0).toLoadRect
      (a.view.writes (Elt Ideal) f (⟨Rect.unit (s := S2x768x512) ![1, 0, 0] S1x768x512.size inb_S2x768x512_S1x768x512_1_0_0, w1⟩
        :: ⟨Rect.unit (s := S2x768x512) ![0, 0, 0] S1x768x512.size inb_S2x768x512_S1x768x512_0_0_0, w0⟩ :: L)) = w0 := by
  funext j
  rw [View.readAt_apply]
  refine (View.read_writes_cons_unit_of_not_mem a.view f _ w1 _ _ rfl 0 (Or.inl ?_)).trans ?_
  · show 0 + 1 * (j 0).val < 1
    have := (j 0).isLt
    have e : S1x768x512.size 0 = 1 := rfl
    have : (j 0).val < 1 := this
    omega
  · exact View.read_writes_cons_unit_of_mem a.view f _ w0 _ _ j rfl fun a => by
      show _ + 1 * (j a).val = _
      rw [Nat.one_mul]; rfl

/-- The second plane likewise. -/
theorem plane1 (a : Memref sig .tc .vmem S2x768x512 .f32) (f : a.view.ty.Contents (Elt Ideal)) (w1 : FVec Ideal S1x768x512 .f32)
    (L : List (View.Piece (Elt Ideal) S2x768x512 .f32)) :
    View.readAt (Elt Ideal) a.view (Rect.unit (s := S2x768x512) ![1, 0, 0] S1x768x512.size inb_S2x768x512_S1x768x512_1_0_0).toLoadRect
      (a.view.writes (Elt Ideal) f (⟨Rect.unit (s := S2x768x512) ![1, 0, 0] S1x768x512.size inb_S2x768x512_S1x768x512_1_0_0, w1⟩ :: L)) = w1 := by
  funext j
  rw [View.readAt_apply]
  exact View.read_writes_cons_unit_of_mem a.view f _ w1 _ _ j rfl fun a => by
    show _ + 1 * (j a).val = _
    rw [Nat.one_mul]; rfl

/-! ## Where the loop's loads are -/

theorem off1_eq : ∀ k : Fin k0_t1_loop.trips, k0_off1 k 1#32 = ![0, 768 * (2 * k.val + 1), 0] ∧ k0_off1 k 2#32 = ![0, 768 * (2 * k.val + 2), 0]
    ∧ k0_off2 k 1#32 = ![0, 768 * (2 * k.val + 1), 256] ∧ k0_off2 k 2#32 = ![0, 768 * (2 * k.val + 2), 256] := by decide +kernel

theorem off3_eq : ∀ k : Fin k0_t1_loop.trips, k0_off3 k = ![0, 2 * k.val, 0, 0] ∧ k0_off4 k = ![0, 2 * k.val, 64, 0]
    ∧ k0_off5 k = ![0, 2 * k.val, 128, 0] ∧ k0_off6 k = ![0, 2 * k.val, 192, 0]
    ∧ k0_off7 k = ![0, 2 * k.val + 1, 0, 0] ∧ k0_off8 k = ![0, 2 * k.val + 1, 64, 0]
    ∧ k0_off9 k = ![0, 2 * k.val + 1, 128, 0] ∧ k0_off10 k = ![0, 2 * k.val + 1, 192, 0] := by decide +kernel

theorem inb1a : ∀ (k : Fin k0_t1_loop.trips) (a : Fin 3), k0_off1 k 1#32 a + S1x768x256.size a ≤ S1x8448x512.size a := by decide +kernel
theorem inb1b : ∀ (k : Fin k0_t1_loop.trips) (a : Fin 3), k0_off1 k 2#32 a + S1x768x256.size a ≤ S1x8448x512.size a := by decide +kernel
theorem inb2a : ∀ (k : Fin k0_t1_loop.trips) (a : Fin 3), k0_off2 k 1#32 a + S1x768x256.size a ≤ S1x8448x512.size a := by decide +kernel
theorem inb2b : ∀ (k : Fin k0_t1_loop.trips) (a : Fin 3), k0_off2 k 2#32 a + S1x768x256.size a ≤ S1x8448x512.size a := by decide +kernel
theorem inb3 : ∀ (k : Fin k0_t1_loop.trips) (a : Fin 4), k0_off3 k a + S1x1x64x768.size a ≤ S1x11x256x768.size a := by decide +kernel
theorem inb4 : ∀ (k : Fin k0_t1_loop.trips) (a : Fin 4), k0_off4 k a + S1x1x64x768.size a ≤ S1x11x256x768.size a := by decide +kernel
theorem inb5 : ∀ (k : Fin k0_t1_loop.trips) (a : Fin 4), k0_off5 k a + S1x1x64x768.size a ≤ S1x11x256x768.size a := by decide +kernel
theorem inb6 : ∀ (k : Fin k0_t1_loop.trips) (a : Fin 4), k0_off6 k a + S1x1x64x768.size a ≤ S1x11x256x768.size a := by decide +kernel
theorem inb7 : ∀ (k : Fin k0_t1_loop.trips) (a : Fin 4), k0_off7 k a + S1x1x64x768.size a ≤ S1x11x256x768.size a := by decide +kernel
theorem inb8 : ∀ (k : Fin k0_t1_loop.trips) (a : Fin 4), k0_off8 k a + S1x1x64x768.size a ≤ S1x11x256x768.size a := by decide +kernel
theorem inb9 : ∀ (k : Fin k0_t1_loop.trips) (a : Fin 4), k0_off9 k a + S1x1x64x768.size a ≤ S1x11x256x768.size a := by decide +kernel
theorem inb10 : ∀ (k : Fin k0_t1_loop.trips) (a : Fin 4), k0_off10 k a + S1x1x64x768.size a ≤ S1x11x256x768.size a := by decide +kernel

end Cert.MlaRead
-- ==== Proof.MlaQuery.lean ====
/-
  THE QUERIES AS THE KERNEL ARRANGES THEM: of each pair of heads one block of rows, the first head's queries over the second's, each with
  the other head's columns put to zero, so that one product with the keys gives both heads' scores.
-/
module

public import proofs.«01_k».proof.Proof.MlaRead

@[expose] public section

set_option maxRecDepth 16384

noncomputable section

open Idealize.ShloMosaic Idealize.ShloMosaic.TcCoe Idealize.SL.Sem

namespace Cert.MlaQuery

open Cert.KernelIdeal Cert.KernelIdeal.Gen Cert.MlaMath Cert.MlaPay Cert.MlaRead

/-- A head's score of a key for a query of the block. -/
def sc (x0 : FVec Ideal S1x256x512 .bf16) (x1 : FVec Ideal S1x8448x512 .bf16) (h : Fin 4) (l : Fin 256) (i : ℕ) : ℝ :=
  if hi : i < 8448 then (∑ d : Fin 128, x1 (ix3 0 ⟨i, hi⟩ ⟨128 * h + d, by omega⟩) * x0 (ix3 0 l ⟨128 * h + d, by omega⟩)).toReal else 0

/-- It is the product of the two rows, where the entries are reals. -/
theorem sc_coe {x0 : FVec Ideal S1x256x512 .bf16} {x1 : FVec Ideal S1x8448x512 .bf16} (h0 : ∀ i, ∃ r : ℝ, x0 i = r) (h1 : ∀ i, ∃ r : ℝ, x1 i = r)
    (h : Fin 4) (l : Fin 256) (i : Fin 8448) :
    ((sc x0 x1 h l i : ℝ) : EReal) = ∑ d : Fin 128, x1 (ix3 0 i ⟨128 * h + d, by omega⟩) * x0 (ix3 0 l ⟨128 * h + d, by omega⟩) := by
  unfold sc
  rw [dif_pos i.isLt]
  obtain ⟨r, hr⟩ := sum_mul_real (fun d : Fin 128 => x1 (ix3 0 i ⟨128 * h + d, by omega⟩)) (fun d : Fin 128 => x0 (ix3 0 l ⟨128 * h + d, by omega⟩))
    (fun d => h1 _) (fun d => h0 _)
  show ((EReal.toReal (∑ d : Fin 128, x1 (ix3 0 i ⟨128 * h + d, by omega⟩) * x0 (ix3 0 l ⟨128 * h + d, by omega⟩)) : ℝ) : EReal) = _
  rw [hr, EReal.toReal_coe]

theorem slt_eq : ∀ d : Fin 256, IntOp.cmpi .slt (BitVec.ofNat 32 d.val) 128#32 = if d.val < 128 then 1#1 else 0#1 := by decide +kernel
theorem sge_eq : ∀ d : Fin 256, IntOp.cmpi .sge (BitVec.ofNat 32 d.val) 128#32 = if d.val < 128 then 0#1 else 1#1 := by decide +kernel

section Halves
variable (x : FVec Ideal S1x256x256 .bf16)

theorem pay121_at (r d : Fin 256) : k0_pay121 (F := Ideal) x (ix3 0 r d) = if d.val < 128 then x (ix3 0 r d) else 0 := by
  pointwise [k0_pay121, k0_pay120]
  rw [slt_eq]
  by_cases h : d.val < 128
  · rw [if_pos h, if_pos h]; rfl
  · rw [if_neg h, if_neg h]; rfl

theorem pay122_at (r d : Fin 256) : k0_pay122 (F := Ideal) x (ix3 0 r d) = if d.val < 128 then 0 else x (ix3 0 r d) := by
  pointwise [k0_pay122, k0_pay120]
  rw [sge_eq]
  by_cases h : d.val < 128
  · rw [if_pos h, if_pos h]; rfl
  · rw [if_neg h, if_neg h]; rfl

theorem pay124_eq : k0_pay124 (F := Ideal) x = k0_pay121 x := rfl
theorem pay1_eq : k0_pay1 (F := Ideal) (k0_pay125 x) = k0_pay122 x := rfl

end Halves

/-- A plane's query rows: the two halves of the staged queries' columns from `o` on. -/
def QP (x0 : FVec Ideal S1x256x512 .bf16) (o : ℕ) (ho : o ≤ 256) (q : FVec Ideal S1x512x256 .bf16) : Prop :=
  (∀ (l : Fin 256) (x : Fin 256), q (ix3 0 ⟨l, by omega⟩ x) = if x.val < 128 then x0 (ix3 0 l ⟨o + x, by omega⟩) else 0)
  ∧ (∀ (l : Fin 256) (x : Fin 256), q (ix3 0 ⟨256 + l, by omega⟩ x) = if x.val < 128 then 0 else x0 (ix3 0 l ⟨o + x, by omega⟩))

/-- Of a sum over 256 places of which the upper half is zero, the lower half is left. -/
theorem sum_lo (f g : Fin 256 → EReal) : ∑ x : Fin 256, f x * (if x.val < 128 then g x else 0)
    = ∑ d : Fin 128, f ⟨d, by omega⟩ * g ⟨d, by omega⟩ := by
  rw [show (∑ x : Fin 256, f x * (if x.val < 128 then g x else 0)) = ∑ x : Fin (128 + 128), f x * (if x.val < 128 then g x else 0) from rfl, Fin.sum_univ_add]
  have e : ∑ i : Fin 128, f (Fin.natAdd 128 i) * (if (Fin.natAdd 128 i).val < 128 then g (Fin.natAdd 128 i) else 0) = 0 :=
    Finset.sum_eq_zero fun i _ => by
      rw [if_neg (by rw [Fin.val_natAdd]; omega), mul_zero]
  rw [e, add_zero]
  exact Finset.sum_congr rfl fun i _ => by rw [if_pos (by rw [Fin.val_castAdd]; exact i.isLt)]; rfl

/-- Of one of which the lower half is zero, the upper. -/
theorem sum_hi (f g : Fin 256 → EReal) : ∑ x : Fin 256, f x * (if x.val < 128 then 0 else g x)
    = ∑ d : Fin 128, f ⟨128 + d, by omega⟩ * g ⟨128 + d, by omega⟩ := by
  rw [show (∑ x : Fin 256, f x * (if x.val < 128 then 0 else g x)) = ∑ x : Fin (128 + 128), f x * (if x.val < 128 then 0 else g x) from rfl, Fin.sum_univ_add]
  have e : ∑ i : Fin 128, f (Fin.castAdd 128 i) * (if (Fin.castAdd 128 i).val < 128 then 0 else g (Fin.castAdd 128 i)) = 0 :=
    Finset.sum_eq_zero fun i _ => by
      rw [if_pos (by rw [Fin.val_castAdd]; exact i.isLt), mul_zero]
  rw [e, zero_add]
  exact Finset.sum_congr rfl fun i _ => by rw [if_neg (by rw [Fin.val_natAdd]; omega)]; rfl

/-- The first pair's plane gives the scores of heads 0 and 1. -/
theorem qok0 {x0 : FVec Ideal S1x256x512 .bf16} {x1 : FVec Ideal S1x8448x512 .bf16} (h0 : ∀ i, ∃ r : ℝ, x0 i = r) (h1 : ∀ i, ∃ r : ℝ, x1 i = r)
    {q : FVec Ideal S1x512x256 .bf16} (h : QP x0 0 (by omega) q) : QOK x1 0 (by omega) (sc x0 x1 0) (sc x0 x1 1) q := by
  refine ⟨fun i l => ?_, fun i l => ?_⟩
  · rw [sc_coe h0 h1]
    simp only [h.1]
    rw [sum_lo (fun x => x1 (ix3 0 i ⟨0 + x, by omega⟩)) (fun x => x0 (ix3 0 l ⟨0 + x, by omega⟩))]
    exact Finset.sum_congr rfl fun d _ => by
      congr 3 <;> (apply Fin.ext; simp)
  · rw [sc_coe h0 h1]
    simp only [h.2]
    rw [sum_hi (fun x => x1 (ix3 0 i ⟨0 + x, by omega⟩)) (fun x => x0 (ix3 0 l ⟨0 + x, by omega⟩))]
    exact Finset.sum_congr rfl fun d _ => by
      congr 3 <;> (apply Fin.ext; simp)

/-- The second pair's plane gives those of heads 2 and 3. -/
theorem qok1 {x0 : FVec Ideal S1x256x512 .bf16} {x1 : FVec Ideal S1x8448x512 .bf16} (h0 : ∀ i, ∃ r : ℝ, x0 i = r) (h1 : ∀ i, ∃ r : ℝ, x1 i = r)
    {q : FVec Ideal S1x512x256 .bf16} (h : QP x0 256 (by omega) q) : QOK x1 256 (by omega) (sc x0 x1 2) (sc x0 x1 3) q := by
  refine ⟨fun i l => ?_, fun i l => ?_⟩
  · rw [sc_coe h0 h1]
    simp only [h.1]
    rw [sum_lo (fun x => x1 (ix3 0 i ⟨256 + x, by omega⟩)) (fun x => x0 (ix3 0 l ⟨256 + x, by omega⟩))]
    exact Finset.sum_congr rfl fun d _ => by
      congr 3
  · rw [sc_coe h0 h1]
    simp only [h.2]
    rw [sum_hi (fun x => x1 (ix3 0 i ⟨256 + x, by omega⟩)) (fun x => x0 (ix3 0 l ⟨256 + x, by omega⟩))]
    exact Finset.sum_congr rfl fun d _ => by
      congr 3 <;> (apply Fin.ext; dsimp only; show 256 + (128 + d.val) = 128 * 3 + d.val; omega)

/-! ## The planes in the scratch buffer -/

section Planes
variable (arg2 : Memref sig .tc .vmem S1x256x512 .bf16) (harg2 : arg2.IsWhole) (arg6 : Memref sig .tc .vmem S2x512x256 .bf16)
  (x0 : FVec Ideal S1x256x512 .bf16)

/-- The staged queries' left columns. -/
abbrev qa : FVec Ideal S1x256x256 .bf16 :=
  View.readAt (Elt Ideal) arg2.view (Rect.unit (s := S1x256x512) ![0, 0, 0] S1x256x256.size inb_S1x256x512_S1x256x256_0_0_0).toLoadRect (harg2.unread x0)
/-- The staged queries' right columns. -/
abbrev qb : FVec Ideal S1x256x256 .bf16 :=
  View.readAt (Elt Ideal) arg2.view (Rect.unit (s := S1x256x512) ![0, 0, 256] S1x256x256.size inb_S1x256x512_S1x256x256_0_0_256).toLoadRect (harg2.unread x0)

theorem qa_at (l x : Fin 256) : qa arg2 harg2 x0 (ix3 0 l x) = x0 (ix3 0 l ⟨0 + x, by omega⟩) :=
  readAt_unit arg2 harg2 x0 _ (ix3 0 l x) _ rfl (by intro a; fin_cases a <;> first | rfl | exact (Nat.zero_add _).symm)
theorem qb_at (l x : Fin 256) : qb arg2 harg2 x0 (ix3 0 l x) = x0 (ix3 0 l ⟨256 + x, by omega⟩) :=
  readAt_unit arg2 harg2 x0 _ (ix3 0 l x) _ rfl (by intro a; fin_cases a <;> first | rfl | exact (Nat.zero_add _).symm)

/-- The four blocks the kernel stores. -/
abbrev qL (w3 w2 w1 w0 : FVec Ideal S1x256x256 .bf16) : List (View.Piece (Elt Ideal) S2x512x256 .bf16) :=
  [⟨Rect.unit (s := S2x512x256) ![1, 256, 0] S1x256x256.size inb_S2x512x256_S1x256x256_1_256_0, w3⟩,
   ⟨Rect.unit (s := S2x512x256) ![1, 0, 0] S1x256x256.size inb_S2x512x256_S1x256x256_1_0_0, w2⟩,
   ⟨Rect.unit (s := S2x512x256) ![0, 256, 0] S1x256x256.size inb_S2x512x256_S1x256x256_0_256_0, w1⟩,
   ⟨Rect.unit (s := S2x512x256) ![0, 0, 0] S1x256x256.size inb_S2x512x256_S1x256x256_0_0_0, w0⟩]

/-- A place under the newest of the stored blocks reads that block. -/
theorem q_hit (arg6 : Memref sig .tc .vmem S2x512x256 .bf16) (f : arg6.view.ty.Contents (Elt Ideal)) {off : Fin 3 → ℕ}
    (inb : ∀ a, off a + S1x256x256.size a ≤ S2x512x256.size a)
    (w : FVec Ideal S1x256x256 .bf16) (L : List (View.Piece (Elt Ideal) S2x512x256 .bf16)) (y : S2x512x256.Idx) (x : S1x256x256.Idx)
    (hx : ∀ a : Fin 3, (y a).val = off a + (x a).val) :
    arg6.view.read (Elt Ideal) (arg6.view.writes (Elt Ideal) f (⟨Rect.unit (s := S2x512x256) off S1x256x256.size inb, w⟩ :: L)) y = w x :=
  View.read_writes_cons_unit_of_mem arg6.view f inb w L y x rfl hx

variable (w3 w2 w1 w0 : FVec Ideal S1x256x256 .bf16)

theorem q00 (l x : Fin 256) : arg6.view.readCov (Val := Elt Ideal) (qL w3 w2 w1 w0) (Rect.unit (s := S2x512x256) ![0, 0, 0] S1x512x256.size inb_S2x512x256_S1x512x256_0_0_0).toLoadRect
    (ix3 0 ⟨l, by omega⟩ x) = w0 (ix3 0 l x) := by
  unfold View.readCov
  rw [View.readAt_apply]
  refine (View.read_writes_cons_unit_of_not_mem _ _ _ _ _ _ rfl 0 (Or.inl Nat.one_pos)).trans ?_
  refine (View.read_writes_cons_unit_of_not_mem _ _ _ _ _ _ rfl 0 (Or.inl Nat.one_pos)).trans ?_
  refine (View.read_writes_cons_unit_of_not_mem _ _ _ _ _ _ rfl 1 (Or.inl ?_)).trans ?_
  · show 0 + 1 * l.val < 256
    omega
  · refine q_hit arg6 _ inb_S2x512x256_S1x256x256_0_0_0 w0 _ _ (ix3 0 l x) ?_
    intro a
    fin_cases a
    · rfl
    · show 0 + 1 * l.val = 0 + l.val
      omega
    · show 0 + 1 * x.val = 0 + x.val
      omega

theorem q01 (l x : Fin 256) : arg6.view.readCov (Val := Elt Ideal) (qL w3 w2 w1 w0) (Rect.unit (s := S2x512x256) ![0, 0, 0] S1x512x256.size inb_S2x512x256_S1x512x256_0_0_0).toLoadRect
    (ix3 0 ⟨256 + l, by omega⟩ x) = w1 (ix3 0 l x) := by
  unfold View.readCov
  rw [View.readAt_apply]
  refine (View.read_writes_cons_unit_of_not_mem _ _ _ _ _ _ rfl 0 (Or.inl Nat.one_pos)).trans ?_
  refine (View.read_writes_cons_unit_of_not_mem _ _ _ _ _ _ rfl 0 (Or.inl Nat.one_pos)).trans ?_
  refine q_hit arg6 _ inb_S2x512x256_S1x256x256_0_256_0 w1 _ _ (ix3 0 l x) ?_
  intro a
  fin_cases a
  · rfl
  · show 0 + 1 * (256 + l.val) = 256 + l.val
    omega
  · show 0 + 1 * x.val = 0 + x.val
    omega

theorem q10 (l x : Fin 256) : arg6.view.readCov (Val := Elt Ideal) (qL w3 w2 w1 w0) (Rect.unit (s := S2x512x256) ![1, 0, 0] S1x512x256.size inb_S2x512x256_S1x512x256_1_0_0).toLoadRect
    (ix3 0 ⟨l, by omega⟩ x) = w2 (ix3 0 l x) := by
  unfold View.readCov
  rw [View.readAt_apply]
  refine (View.read_writes_cons_unit_of_not_mem _ _ _ _ _ _ rfl 1 (Or.inl ?_)).trans ?_
  · show 0 + 1 * l.val < 256
    omega
  · refine q_hit arg6 _ inb_S2x512x256_S1x256x256_1_0_0 w2 _ _ (ix3 0 l x) ?_
    intro a
    fin_cases a
    · rfl
    · show 0 + 1 * l.val = 0 + l.val
      omega
    · show 0 + 1 * x.val = 0 + x.val
      omega

theorem q11 (l x : Fin 256) : arg6.view.readCov (Val := Elt Ideal) (qL w3 w2 w1 w0) (Rect.unit (s := S2x512x256) ![1, 0, 0] S1x512x256.size inb_S2x512x256_S1x512x256_1_0_0).toLoadRect
    (ix3 0 ⟨256 + l, by omega⟩ x) = w3 (ix3 0 l x) := by
  unfold View.readCov
  rw [View.readAt_apply]
  refine q_hit arg6 _ inb_S2x512x256_S1x256x256_1_256_0 w3 _ _ (ix3 0 l x) ?_
  intro a
  fin_cases a
  · rfl
  · show 0 + 1 * (256 + l.val) = 256 + l.val
    omega
  · show 0 + 1 * x.val = 0 + x.val
    omega

/-- The four blocks, of the staged queries. -/
abbrev qS : List (View.Piece (Elt Ideal) S2x512x256 .bf16) :=
  qL (k0_pay1 (k0_pay125 (qb arg2 harg2 x0))) (k0_pay124 (qb arg2 harg2 x0)) (k0_pay122 (qa arg2 harg2 x0)) (k0_pay121 (qa arg2 harg2 x0))

theorem qp0 : QP x0 0 (by omega) (arg6.view.readCov (Val := Elt Ideal) (qS arg2 harg2 x0)
    (Rect.unit (s := S2x512x256) ![0, 0, 0] S1x512x256.size inb_S2x512x256_S1x512x256_0_0_0).toLoadRect) := by
  refine ⟨fun l x => ?_, fun l x => ?_⟩
  · rw [q00, pay121_at, qa_at]
  · rw [q01, pay122_at, qa_at]

theorem qp1 : QP x0 256 (by omega) (arg6.view.readCov (Val := Elt Ideal) (qS arg2 harg2 x0)
    (Rect.unit (s := S2x512x256) ![1, 0, 0] S1x512x256.size inb_S2x512x256_S1x512x256_1_0_0).toLoadRect) := by
  refine ⟨fun l x => ?_, fun l x => ?_⟩
  · rw [q10, pay124_eq, pay121_at, qb_at]
  · rw [q11, pay1_eq, pay122_at, qb_at]

end Planes

end Cert.MlaQuery
-- ==== Proof.MlaFirst.lean ====
/-
  THE ATTENTION'S FIRST POINT OF A ROW: the context's queries, which see the first 256 keys only, handled as one chunk. The output block's
  entry is the mix of the head's values under the softmax weights of its scores of these keys.
-/
module

public import proofs.«01_k».proof.Proof.MlaQuery

@[expose] public section

set_option maxRecDepth 16384

noncomputable section

open Idealize.ShloMosaic Idealize.ShloMosaic.TcCoe Idealize.SL.Sem

namespace Cert.MlaFirst

open Cert.KernelIdeal Cert.KernelIdeal.Gen Cert.MlaMath Cert.MlaPay Cert.MlaRead Cert.MlaQuery Cert.MlaRun

/-! ## The vector terms at an index -/

section Scores
variable (k : FVec Ideal S1x256x256 .bf16) (q : FVec Ideal S1x512x256 .bf16)

theorem pay9_at (r : Fin 256) (l : Fin 512) :
    k0_pay9 (F := Ideal) k q (ix3 0 r l) = ∑ x : Fin 256, k (ix3 0 r x) * q (ix3 0 l x) := by
  pointwise [k0_pay9, k0_pay8]

theorem pay10_real (h : ∀ (r : Fin 256) (l : Fin 512), ∃ y : ℝ, ∑ x : Fin 256, k (ix3 0 r x) * q (ix3 0 l x) = y) (l : Fin 512) :
    ∃ y : ℝ, k0_pay10 (F := Ideal) k q (ix2 0 l) = y := by
  have e0 : Ideal.ofBits FTy.f32 4286578688#32 = (⊥ : EReal) := by simp [Ideal.ofBits, Ideal.ieee]
  pointwise [k0_pay10, k0_pay8]
  simp only [e0]
  exact fold_real _ fun x => fold_real _ fun x1 => fold_real _ fun x2 => h _ _

theorem pay12_eq : k0_pay12 (F := Ideal) k q = k0_pay9 k q := rfl
theorem pay23_eq (m : FVec Ideal S1x512 .f32) : k0_pay23 (F := Ideal) m (k0_pay13 k q) = k0_pay14 m (k0_pay10 k q) := rfl

end Scores

section Update
variable (mx m den : FVec Ideal S1x512 .f32) (a b : FVec Ideal S64x256 .f32) (s : FVec Ideal S1x256x512 .f32)
  (va vb : FVec Ideal S1x1x64x256 .bf16)

theorem pay14_at (l : Fin 512) : k0_pay14 (F := Ideal) m mx (ix2 0 l) = max (m (ix2 0 l)) (mx (ix2 0 l)) := by
  pointwise [k0_pay14]

theorem pay20_lo (l : Fin 256) : k0_pay20 (F := Ideal) m den mx s va vb (ix2 0 ⟨l, by omega⟩)
      = Ideal.exp2 (m (ix2 0 ⟨l, by omega⟩) - max (m (ix2 0 ⟨l, by omega⟩)) (mx (ix2 0 ⟨l, by omega⟩))) * den (ix2 0 ⟨l, by omega⟩)
        + ∑ r : Fin 256, Ideal.exp2 (s (ix3 0 r ⟨l, by omega⟩) - max (m (ix2 0 ⟨l, by omega⟩)) (mx (ix2 0 ⟨l, by omega⟩))) := by
  pointwise [k0_pay20, k0_pay14, k0_pay15, k0_pay16, k0_pay17, k0_pay18, k0_pay19]
  rfl

theorem pay20_hi (l : Fin 256) : k0_pay20 (F := Ideal) m den mx s va vb (ix2 0 ⟨256 + l, by omega⟩)
      = Ideal.exp2 (m (ix2 0 ⟨256 + l, by omega⟩) - max (m (ix2 0 ⟨256 + l, by omega⟩)) (mx (ix2 0 ⟨256 + l, by omega⟩))) * den (ix2 0 ⟨256 + l, by omega⟩)
        + ∑ r : Fin 256, Ideal.exp2 (s (ix3 0 r ⟨256 + l, by omega⟩) - max (m (ix2 0 ⟨256 + l, by omega⟩)) (mx (ix2 0 ⟨256 + l, by omega⟩))) := by
  pointwise [k0_pay20, k0_pay14, k0_pay15, k0_pay16, k0_pay17, k0_pay18, k0_pay19]
  rfl

theorem pay21_at (d : Fin 64) (l : Fin 256) : k0_pay21 (F := Ideal) m a mx s va (ix2 d l)
      = Ideal.exp2 (m (ix2 0 ⟨l, by omega⟩) - max (m (ix2 0 ⟨l, by omega⟩)) (mx (ix2 0 ⟨l, by omega⟩))) * a (ix2 d l)
        + ∑ r : Fin 256, va (ix4 0 0 d r)
            * Ideal.exp2 (s (ix3 0 r ⟨l, by omega⟩) - max (m (ix2 0 ⟨l, by omega⟩)) (mx (ix2 0 ⟨l, by omega⟩))) := by
  pointwise [k0_pay21, k0_pay14, k0_pay15, k0_pay16, k0_pay17, k0_pay18]
  rfl

theorem pay22_at (d : Fin 64) (l : Fin 256) : k0_pay22 (F := Ideal) m b mx s vb (ix2 d l)
      = Ideal.exp2 (m (ix2 0 ⟨256 + l, by omega⟩) - max (m (ix2 0 ⟨256 + l, by omega⟩)) (mx (ix2 0 ⟨256 + l, by omega⟩))) * b (ix2 d l)
        + ∑ r : Fin 256, vb (ix4 0 0 d r)
            * Ideal.exp2 (s (ix3 0 r ⟨256 + l, by omega⟩) - max (m (ix2 0 ⟨256 + l, by omega⟩)) (mx (ix2 0 ⟨256 + l, by omega⟩))) := by
  pointwise [k0_pay22, k0_pay14, k0_pay15, k0_pay16, k0_pay17, k0_pay19]
  rfl

theorem pay30_at (d : Fin 64) (l : Fin 256) : k0_pay30 (F := Ideal) den a (ix2 d l) = Ideal.div (a (ix2 d l)) (den (ix2 0 ⟨l, by omega⟩)) := by
  pointwise [k0_pay30]

theorem pay31_at (d : Fin 64) (l : Fin 256) : k0_pay31 (F := Ideal) den b (ix2 d l) = Ideal.div (b (ix2 d l)) (den (ix2 0 ⟨256 + l, by omega⟩)) := by
  pointwise [k0_pay31]

theorem pay32_eq : k0_pay32 (F := Ideal) m den a (k0_pay14 m mx) s va vb = k0_pay30 (k0_pay20 m den mx s va vb) (k0_pay21 m a mx s va) := rfl
theorem pay33_eq : k0_pay33 (F := Ideal) m den b (k0_pay14 m mx) s va vb = k0_pay31 (k0_pay20 m den mx s va vb) (k0_pay22 m b mx s vb) := rfl

theorem pay2_h0 (c d e f : FVec Ideal S64x256 .f32) (r : Fin 256) (x : Fin 64) :
    k0_pay2 (F := Ideal) c d e f (ix3 0 r ⟨x, by omega⟩) = c (ix2 x r) := by
  pointwise [k0_pay2]

theorem pay2_h1 (c d e f : FVec Ideal S64x256 .f32) (r : Fin 256) (x : Fin 64) :
    k0_pay2 (F := Ideal) c d e f (ix3 0 r ⟨64 + x, by omega⟩) = d (ix2 x r) := by
  pointwise [k0_pay2]

theorem pay2_h2 (c d e f : FVec Ideal S64x256 .f32) (r : Fin 256) (x : Fin 64) :
    k0_pay2 (F := Ideal) c d e f (ix3 0 r ⟨128 + x, by omega⟩) = e (ix2 x r) := by
  have hx := x.isLt
  pointwise [k0_pay2]
  rw [dif_neg (by omega), dif_neg (by omega), dif_pos (by omega)]
  congr 2; apply Fin.ext; dsimp only; omega

theorem pay2_h3 (c d e f : FVec Ideal S64x256 .f32) (r : Fin 256) (x : Fin 64) :
    k0_pay2 (F := Ideal) c d e f (ix3 0 r ⟨192 + x, by omega⟩) = f (ix2 x r) := by
  have hx := x.isLt
  pointwise [k0_pay2]
  rw [dif_neg (by omega), dif_neg (by omega), dif_neg (by omega)]
  congr 2; apply Fin.ext; dsimp only; omega

end Update

/-! ## What the loads read -/

section Reads
variable (arg3 : Memref sig .tc .vmem S1x8448x512 .bf16) (harg3 : arg3.IsWhole) (arg4 : Memref sig .tc .vmem S1x11x256x768 .bf16) (harg4 : arg4.IsWhole)
  (x1 : FVec Ideal S1x8448x512 .bf16) (x2 : FVec Ideal S1x11x256x768 .bf16)

/-- The products of the first 256 keys with the two heads' queries are their scores. -/
theorem kq_first {o : ℕ} {ho : o ≤ 256} {sL sR : Fin 256 → ℕ → ℝ} {q : FVec Ideal S1x512x256 .bf16} (h : QOK x1 o ho sL sR q)
    {off : Fin 3 → ℕ} (inb : ∀ a, off a + S1x256x256.size a ≤ S1x8448x512.size a) (heq : off = ![0, 0, o]) :
    (∀ (r : Fin 256) (l : Fin 256), ∑ x : Fin 256, View.readAt (Elt Ideal) arg3.view (Rect.unit (s := S1x8448x512) off S1x256x256.size inb).toLoadRect (harg3.unread x1) (ix3 0 r x) * q (ix3 0 ⟨l, by omega⟩ x) = (sL l r : EReal))
    ∧ (∀ (r : Fin 256) (l : Fin 256), ∑ x : Fin 256, View.readAt (Elt Ideal) arg3.view (Rect.unit (s := S1x8448x512) off S1x256x256.size inb).toLoadRect (harg3.unread x1) (ix3 0 r x) * q (ix3 0 ⟨256 + l, by omega⟩ x) = (sR l r : EReal)) := by
  have e : ∀ (r : Fin 256) (x : Fin 256), View.readAt (Elt Ideal) arg3.view (Rect.unit (s := S1x8448x512) off S1x256x256.size inb).toLoadRect (harg3.unread x1) (ix3 0 r x)
      = x1 (ix3 0 ⟨r, by omega⟩ ⟨o + x, by omega⟩) := fun r x =>
    readAt_unit arg3 harg3 x1 inb (ix3 0 r x) (ix3 0 ⟨r, by omega⟩ ⟨o + x, by omega⟩) heq (by
      intro a; fin_cases a
      · rfl
      · exact (Nat.zero_add _).symm
      · rfl)
  refine ⟨fun r l => ?_, fun r l => ?_⟩
  · refine Eq.trans ?_ (h.1 ⟨r, by omega⟩ l)
    exact Finset.sum_congr rfl fun x _ => by rw [e]
  · refine Eq.trans ?_ (h.2 ⟨r, by omega⟩ l)
    exact Finset.sum_congr rfl fun x _ => by rw [e]

/-- The first 256 of a head's values. -/
theorem vc_first (h : Fin 4) {off : Fin 4 → ℕ} (inb : ∀ a, off a + S1x1x64x256.size a ≤ S1x11x256x768.size a) (heq : off = ![0, 0, 64 * h.val, 0])
    (d : Fin 64) (r : Fin 256) :
    View.readAt (Elt Ideal) arg4.view (Rect.unit (s := S1x11x256x768) off S1x1x64x256.size inb).toLoadRect (harg4.unread x2) (ix4 0 0 d r) = val x2 h d (0 + r) := by
  unfold val
  rw [dif_pos (by omega)]
  refine readAt_unit arg4 harg4 x2 inb (ix4 0 0 d r) _ heq ?_
  intro a
  fin_cases a
  · rfl
  · show (0 + r.val) / 768 = 0 + 0
    omega
  · rfl
  · show (0 + r.val) % 768 = 0 + r.val
    omega

/-- The corner of the first plane just written. -/
theorem corner0 (a : Memref sig .tc .vmem S2x768x512 .f32) (f : a.view.ty.Contents (Elt Ideal)) (w0 w1 : FVec Ideal S1x256x512 .f32)
    (L : List (View.Piece (Elt Ideal) S2x768x512 .f32)) :
    View.readAt (Elt Ideal) a.view (Rect.unit (s := S2x768x512) ![0, 0, 0] S1x256x512.size inb_S2x768x512_S1x256x512_0_0_0).toLoadRect
      (a.view.writes (Elt Ideal) f (⟨Rect.unit (s := S2x768x512) ![1, 0, 0] S1x256x512.size inb_S2x768x512_S1x256x512_1_0_0, w1⟩
        :: ⟨Rect.unit (s := S2x768x512) ![0, 0, 0] S1x256x512.size inb_S2x768x512_S1x256x512_0_0_0, w0⟩ :: L)) = w0 := by
  funext j
  rw [View.readAt_apply]
  refine (View.read_writes_cons_unit_of_not_mem a.view f _ w1 _ _ rfl 0 (Or.inl ?_)).trans ?_
  · show 0 + 1 * (j 0).val < 1
    have : (j 0).val < 1 := (j 0).isLt
    omega
  · exact View.read_writes_cons_unit_of_mem a.view f _ w0 _ _ j rfl fun a => by
      show _ + 1 * (j a).val = _
      rw [Nat.one_mul]; rfl

/-- The corner of the second plane. -/
theorem corner1 (a : Memref sig .tc .vmem S2x768x512 .f32) (f : a.view.ty.Contents (Elt Ideal)) (w1 : FVec Ideal S1x256x512 .f32)
    (L : List (View.Piece (Elt Ideal) S2x768x512 .f32)) :
    View.readAt (Elt Ideal) a.view (Rect.unit (s := S2x768x512) ![1, 0, 0] S1x256x512.size inb_S2x768x512_S1x256x512_1_0_0).toLoadRect
      (a.view.writes (Elt Ideal) f (⟨Rect.unit (s := S2x768x512) ![1, 0, 0] S1x256x512.size inb_S2x768x512_S1x256x512_1_0_0, w1⟩ :: L)) = w1 := by
  funext j
  rw [View.readAt_apply]
  exact View.read_writes_cons_unit_of_mem a.view f _ w1 _ _ j rfl fun a => by
    show _ + 1 * (j a).val = _
    rw [Nat.one_mul]; rfl

end Reads

/-! ## One pair of heads -/

section Pair
variable {sL sR : Fin 256 → ℕ → ℝ} {vL vR : Fin 64 → ℕ → EReal} {m den : FVec Ideal S1x512 .f32} {a b : FVec Ideal S64x256 .f32}
  {va vb : FVec Ideal S1x1x64x256 .bf16} {k : FVec Ideal S1x256x256 .bf16} {q : FVec Ideal S1x512x256 .bf16}

theorem pair_step (h : Inv 0 sL sR vL vR m den a b)
    (hk : (∀ (r : Fin 256) (l : Fin 256), ∑ x : Fin 256, k (ix3 0 r x) * q (ix3 0 ⟨l, by omega⟩ x) = (sL l r : EReal))
      ∧ (∀ (r : Fin 256) (l : Fin 256), ∑ x : Fin 256, k (ix3 0 r x) * q (ix3 0 ⟨256 + l, by omega⟩ x) = (sR l r : EReal)))
    (ha : ∀ (d : Fin 64) (r : Fin 256), va (ix4 0 0 d r) = vL d (0 + r)) (hb : ∀ (d : Fin 64) (r : Fin 256), vb (ix4 0 0 d r) = vR d (0 + r)) :
    Inv 256 sL sR vL vR (k0_pay14 m (k0_pay10 k q)) (k0_pay20 m den (k0_pay10 k q) (k0_pay9 (F := Ideal) k q) va vb)
      (k0_pay21 m a (k0_pay10 k q) (k0_pay9 (F := Ideal) k q) va) (k0_pay22 m b (k0_pay10 k q) (k0_pay9 (F := Ideal) k q) vb) := by
  have hx : ∀ l : Fin 512, ∃ y : ℝ, k0_pay10 (F := Ideal) k q (ix2 0 l) = y := fun l => pay10_real k q (fun r l => by
    by_cases hl : l.val < 256
    · exact ⟨_, hk.1 r ⟨l, hl⟩⟩
    · have e : l = ⟨256 + (⟨l - 256, by omega⟩ : Fin 256).val, by dsimp only; omega⟩ := Fin.ext (by dsimp only; omega)
      rw [e]; exact ⟨_, hk.2 r ⟨l - 256, by omega⟩⟩) l
  refine ⟨fun l d => ?_, fun l d => ?_⟩
  · rw [pay14_at, pay20_lo, pay21_at]
    refine col_step (n := 0) (h.1 l d) 256 (fun r => k0_pay9 (F := Ideal) k q (ix3 0 r ⟨l, by omega⟩)) (fun r => va (ix4 0 0 d r)) _ (hx _) (fun r => ?_) (fun r => ha d r)
    rw [pay9_at, hk.1, Nat.zero_add]
  · rw [pay14_at, pay20_hi, pay22_at]
    refine col_step (n := 0) (h.2 l d) 256 (fun r => k0_pay9 (F := Ideal) k q (ix3 0 r ⟨256 + l, by omega⟩)) (fun r => vb (ix4 0 0 d r)) _ (hx _) (fun r => ?_) (fun r => hb d r)
    rw [pay9_at, hk.2, Nat.zero_add]

end Pair

theorem inv_start {sL sR : Fin 256 → ℕ → ℝ} {vL vR : Fin 64 → ℕ → EReal} : Inv 0 sL sR vL vR (k0_pay4 (F := Ideal)) k0_pay5 k0_pay6 k0_pay7 := inv_zero

/-! ## The output block -/

theorem outA_at (c : Dev nD) (i : grid0.Coords) (arg2 : Memref sig .tc .vmem S1x256x512 .bf16) (harg2 : arg2.IsWhole)
  (arg3 : Memref sig .tc .vmem S1x8448x512 .bf16) (harg3 : arg3.IsWhole) (arg4 : Memref sig .tc .vmem S1x11x256x768 .bf16) (harg4 : arg4.IsWhole)
  (arg5 : Memref sig .tc .vmem S1x256x256 .bf16) (harg5 : arg5.IsWhole) (arg6 : Memref sig .tc .vmem S2x512x256 .bf16) (harg6 : arg6.IsWhole)
  (arg7 : Memref sig .tc .vmem S2x768x512 .f32) (harg7 : arg7.IsWhole) (arg8 : Memref sig .tc .vmem S2x768x512 .f32) (harg8 : arg8.IsWhole)
  (hc0 : cond0_0 i) (hc1 : ¬cond0_1 i) (x0 : FVec Ideal S1x256x512 .bf16) (x1 : FVec Ideal S1x8448x512 .bf16) (x2 : FVec Ideal S1x11x256x768 .bf16)
  (h0 : ∀ i, ∃ r : ℝ, x0 i = r) (h1 : ∀ i, ∃ r : ℝ, x1 i = r) (l : Fin 256) (h : Fin 4) (d : Fin 64) :
    out0_A_3 (F := Ideal) c i arg2 harg2 arg3 harg3 arg4 harg4 arg5 harg5 arg6 harg6 arg7 harg7 arg8 harg8 hc0 hc1 x0 x1 x2 (ix3 0 l ⟨64 * h + d, by omega⟩) = mix 256 (sc x0 x1 h l) (val x2 h d) := by
  have Q0 := qok0 h0 h1 (qp0 arg2 harg2 arg6 x0)
  have Q1 := qok1 h0 h1 (qp1 arg2 harg2 arg6 x0)
  have e47 : kernelRun0_A.sl.v47 (F := Ideal) c arg2 harg2 arg6 x0 = arg6.view.readCov (Val := Elt Ideal) (qS arg2 harg2 x0) (Rect.unit (s := S2x512x256) ![0, 0, 0] S1x512x256.size inb_S2x512x256_S1x512x256_0_0_0).toLoadRect := rfl
  have e62 : kernelRun0_A.sl.v62 (F := Ideal) c arg2 harg2 arg6 x0 = arg6.view.readCov (Val := Elt Ideal) (qS arg2 harg2 x0) (Rect.unit (s := S2x512x256) ![1, 0, 0] S1x512x256.size inb_S2x512x256_S1x512x256_1_0_0).toLoadRect := rfl
  have p0 := pair_step inv_start (kq_first arg3 harg3 x1 Q0 inb_S1x8448x512_S1x256x256_0_0_0 rfl)
    (vc_first arg4 harg4 x2 0 inb_S1x11x256x768_S1x1x64x256_0_0_0_0 rfl) (vc_first arg4 harg4 x2 1 inb_S1x11x256x768_S1x1x64x256_0_0_64_0 rfl)
  have p1 := pair_step inv_start (kq_first arg3 harg3 x1 Q1 inb_S1x8448x512_S1x256x256_0_0_256 rfl)
    (vc_first arg4 harg4 x2 2 inb_S1x11x256x768_S1x1x64x256_0_0_128_0 rfl) (vc_first arg4 harg4 x2 3 inb_S1x11x256x768_S1x1x64x256_0_0_192_0 rfl)
  rw [← e47] at p0
  rw [← e62] at p1
  have c0 := col_div (by omega) (p0.1 l d)
  have c1 := col_div (by omega) (p0.2 l d)
  have c2 := col_div (by omega) (p1.1 l d)
  have c3 := col_div (by omega) (p1.2 l d)
  unfold out0_A_3 kernelRun0_A
  dsimp only
  refine (View.read_writes_cons_unit_of_mem VO0_3 _ _ _ _ _ (ix3 0 l ⟨64 * h + d, by omega⟩) rfl ?_).trans ?_
  · intro a
    fin_cases a <;> exact (Nat.zero_add _).symm
  have s0 : kernelRun0_A.sl.v78 (F := Ideal) c arg2 harg2 arg3 harg3 arg6 arg7 x0 x1 = k0_pay9 (View.readAt (Elt Ideal) arg3.view (Rect.unit (s := S1x8448x512) ![0, 0, 0] S1x256x256.size inb_S1x8448x512_S1x256x256_0_0_0).toLoadRect (harg3.unread x1)) (kernelRun0_A.sl.v47 c arg2 harg2 arg6 x0) := by
    unfold kernelRun0_A.sl.v78 kernelRun0_A.sl.HS1_2
    exact corner0 arg7 _ _ _ []
  have s1 : kernelRun0_A.sl.v113 (F := Ideal) c arg2 harg2 arg3 harg3 arg6 arg7 x0 x1 = k0_pay9 (View.readAt (Elt Ideal) arg3.view (Rect.unit (s := S1x8448x512) ![0, 0, 256] S1x256x256.size inb_S1x8448x512_S1x256x256_0_0_256).toLoadRect (harg3.unread x1)) (kernelRun0_A.sl.v62 c arg2 harg2 arg6 x0) := by
    unfold kernelRun0_A.sl.v113 kernelRun0_A.sl.HS1_2
    exact corner1 arg7 _ _ _
  unfold kernelRun0_A.sl.r_7 kernelRun0_A.sl.r_8 kernelRun0_A.sl.r_9 kernelRun0_A.sl.r_10 kernelRun0_A.sl.r_3 kernelRun0_A.sl.r_4 kernelRun0_A.sl.r_5
    kernelRun0_A.sl.r_6 kernelRun0_A.sl.r_1 kernelRun0_A.sl.r_2
  rw [s0, s1, pay23_eq, pay32_eq, pay33_eq]
  match h with
  | 0 =>
    rw [show (⟨64 * (0 : Fin 4).val + d.val, by omega⟩ : Fin 256) = ⟨d, by omega⟩ from Fin.ext (Nat.zero_add _)]
    refine (pay2_h0 _ _ _ _ l d).trans ?_
    rw [pay30_at]
    exact c0
  | 1 =>
    refine (pay2_h1 _ _ _ _ l d).trans ?_
    rw [pay31_at]
    exact c1
  | 2 =>
    refine (pay2_h2 _ _ _ _ l d).trans ?_
    rw [pay30_at]
    exact c2
  | 3 =>
    refine (pay2_h3 _ _ _ _ l d).trans ?_
    rw [pay31_at]
    exact c3

end Cert.MlaFirst
-- ==== Proof.MlaTrip.lean ====
/-
  THE ATTENTION'S LOOP. A trip takes the scores of one chunk of keys, left in a scratch buffer by the trip before, and those of the next,
  computed here, into the running values, and leaves the scores of the chunk after for the next trip. The trips' invariant: the running
  values are those of all keys of the chunks handled, and the buffer holds the next chunk's scores.
-/
module

public import proofs.«01_k».proof.Proof.MlaRead

@[expose] public section

set_option maxRecDepth 16384

noncomputable section

open Idealize.ShloMosaic Idealize.ShloMosaic.TcCoe Idealize.SL.Sem

namespace Cert.MlaTrip

open Cert.KernelIdeal Cert.KernelIdeal.Gen Cert.MlaMath Cert.MlaPay Cert.MlaRead

/-- What the loop carries: two chunk bounds, then for each of the two pairs of heads the running maximum, the running sum and the two
    heads' running weighted sums. -/
abbrev Carry : Type := FVec Ideal S1x512 .f32 × FVec Ideal S1x512 .f32 × FVec Ideal S1x512 .f32 × FVec Ideal S1x512 .f32 × FVec Ideal S64x256 .f32 × FVec Ideal S64x256 .f32 × FVec Ideal S1x512 .f32 × FVec Ideal S1x512 .f32 × FVec Ideal S64x256 .f32 × FVec Ideal S64x256 .f32

/-- The invariant after `n` keys. -/
structure Good (sc : Fin 4 → Fin 256 → ℕ → ℝ) (x2 : FVec Ideal S1x11x256x768 .bf16) (n : ℕ) (acc : Carry) (S0 S1 : FVec Ideal S1x768x512 .f32) : Prop where
  p0 : Inv n (sc 0) (sc 1) (val x2 0) (val x2 1) acc.2.2.1 acc.2.2.2.1 acc.2.2.2.2.1 acc.2.2.2.2.2.1
  p1 : Inv n (sc 2) (sc 3) (val x2 2) (val x2 3) acc.2.2.2.2.2.2.1 acc.2.2.2.2.2.2.2.1 acc.2.2.2.2.2.2.2.2.1 acc.2.2.2.2.2.2.2.2.2
  r0 : Re acc.1
  r1 : Re acc.2.1
  s0 : Sc n (sc 0) (sc 1) S0
  s1 : Sc n (sc 2) (sc 3) S1

variable (𝒱 : Variants) (c : Dev nD) (bd : Option 𝒱.V) (i : grid0.Coords) (arg2 : Memref sig .tc .vmem S1x256x512 .bf16) (harg2 : arg2.IsWhole)
  (arg3 : Memref sig .tc .vmem S1x8448x512 .bf16) (harg3 : arg3.IsWhole) (arg4 : Memref sig .tc .vmem S1x11x256x768 .bf16) (harg4 : arg4.IsWhole)
  (arg5 : Memref sig .tc .vmem S1x256x256 .bf16) (harg5 : arg5.IsWhole) (arg6 : Memref sig .tc .vmem S2x512x256 .bf16) (harg6 : arg6.IsWhole)
  (arg7 : Memref sig .tc .vmem S2x768x512 .f32) (harg7 : arg7.IsWhole) (arg8 : Memref sig .tc .vmem S2x768x512 .f32) (harg8 : arg8.IsWhole)
  (k0_h2 : k0_cond2 i = 1#1) (v39 v40 : FVec Ideal S1x512 .f32) (v41 v42 : FVec Ideal S64x256 .f32) (v58 : FVec Ideal S1x512 .f32) (v69 : FVec Ideal S96x512 .f32)
  (x1 : FVec Ideal S1x8448x512 .bf16) (x2 : FVec Ideal S1x11x256x768 .bf16) (X6 : BufTy.Contents (Elt Ideal) arg6.view.ty)

theorem trip_good (sc : Fin 4 → Fin 256 → ℕ → ℝ)
    (h0 : QOK x1 0 (by omega) (sc 0) (sc 1) (View.readAt (Elt Ideal) arg6.view (Rect.unit (s := S2x512x256) (![0, 0, 0]) S1x512x256.size inb_S2x512x256_S1x512x256_0_0_0).toLoadRect X6))
    (h1 : QOK x1 256 (by omega) (sc 2) (sc 3) (View.readAt (Elt Ideal) arg6.view (Rect.unit (s := S2x512x256) (![1, 0, 0]) S1x512x256.size inb_S2x512x256_S1x512x256_1_0_0).toLoadRect X6))
    (k : Fin k0_t1_loop.trips) (acc : Carry) (f7 : BufTy.Contents (Elt Ideal) arg7.view.ty) (f8 : BufTy.Contents (Elt Ideal) arg8.view.ty)
    (hg : Good sc x2 (768 * (2 * k.val)) acc (View.readAt (Elt Ideal) arg7.view (Rect.unit (s := S2x768x512) (![0, 0, 0]) S1x768x512.size inb_S2x768x512_S1x768x512_0_0_0).toLoadRect f7) (View.readAt (Elt Ideal) arg7.view (Rect.unit (s := S2x768x512) (![1, 0, 0]) S1x768x512.size inb_S2x768x512_S1x768x512_1_0_0).toLoadRect f7)) (L : List (View.Piece (Elt Ideal) S2x768x512 .f32)) :
    Good sc x2 (768 * (2 * (k.val + 1))) (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8)
      (View.readAt (Elt Ideal) arg7.view (Rect.unit (s := S2x768x512) (![0, 0, 0]) S1x768x512.size inb_S2x768x512_S1x768x512_0_0_0).toLoadRect (arg7.view.writes (Elt Ideal) f7 (tripL_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).1))
      (View.readAt (Elt Ideal) arg7.view (Rect.unit (s := S2x768x512) (![1, 0, 0]) S1x768x512.size inb_S2x768x512_S1x768x512_1_0_0).toLoadRect (arg7.view.writes (Elt Ideal) f7 (tripL_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).1)) := by
  have hk : k.val < 5 := Nat.lt_of_lt_of_le k.isLt k0_t1_abs.2.1
  have a0 := kq_of arg3 harg3 x1 h0 (n := 768 * (2 * k.val + 1)) (by omega) (inb1a k) (off1_eq k).1
  have b0 := kq_of arg3 harg3 x1 h0 (n := 768 * (2 * k.val + 2)) (by omega) (inb1b k) (off1_eq k).2.1
  have a1 := kq_of arg3 harg3 x1 h1 (n := 768 * (2 * k.val + 1)) (by omega) (inb2a k) (off1_eq k).2.2.1
  have b1 := kq_of arg3 harg3 x1 h1 (n := 768 * (2 * k.val + 2)) (by omega) (inb2b k) (off1_eq k).2.2.2
  have v3 := vc_of arg4 harg4 x2 (c := 2 * k.val) (by omega) 0 (inb3 k) (off3_eq k).1
  have v4 := vc_of arg4 harg4 x2 (c := 2 * k.val) (by omega) 1 (inb4 k) (off3_eq k).2.1
  have v5 := vc_of arg4 harg4 x2 (c := 2 * k.val) (by omega) 2 (inb5 k) (off3_eq k).2.2.1
  have v6 := vc_of arg4 harg4 x2 (c := 2 * k.val) (by omega) 3 (inb6 k) (off3_eq k).2.2.2.1
  have v7 := vc_of arg4 harg4 x2 (c := 2 * k.val + 1) (by omega) 0 (inb7 k) (off3_eq k).2.2.2.2.1
  have v8 := vc_of arg4 harg4 x2 (c := 2 * k.val + 1) (by omega) 1 (inb8 k) (off3_eq k).2.2.2.2.2.1
  have v9 := vc_of arg4 harg4 x2 (c := 2 * k.val + 1) (by omega) 2 (inb9 k) (off3_eq k).2.2.2.2.2.2.1
  have v10 := vc_of arg4 harg4 x2 (c := 2 * k.val + 1) (by omega) 3 (inb10 k) (off3_eq k).2.2.2.2.2.2.2
  have i0 := inv_step hg.p0 hg.r0 hg.s0 v3 v4
  have i1 := inv_step hg.p1 hg.r1 hg.s1 v5 v6
  have e1 : 768 * (2 * k.val) + 768 = 768 * (2 * k.val + 1) := by omega
  have e2 : 768 * (2 * k.val + 1) + 768 = 768 * (2 * (k.val + 1)) := by omega
  have e3 : 768 * (2 * k.val + 2) = 768 * (2 * (k.val + 1)) := by omega
  rw [e1] at i0 i1
  rw [e3] at b0 b1
  have w0 : trip_k0_t1.sl.v312 i arg3 arg6 arg8 k0_h2 (harg3.unread x1) X6 k
      = k0_pay35 (F := Ideal) (View.readAt (Elt Ideal) arg3.view (Rect.unit (s := S1x8448x512) (k0_off1 k 1#32) S1x768x256.size (inb1a k)).toLoadRect (harg3.unread x1)) (View.readAt (Elt Ideal) arg6.view (Rect.unit (s := S2x512x256) (![0, 0, 0]) S1x512x256.size inb_S2x512x256_S1x512x256_0_0_0).toLoadRect X6) := by
    unfold trip_k0_t1.sl.v312 trip_k0_t1.sl.HW_arg8_2
    exact plane0 arg8 arg8.view.junk _ _ []
  have w1 : trip_k0_t1.sl.v349 i arg3 arg6 arg8 k0_h2 (harg3.unread x1) X6 k
      = k0_pay35 (F := Ideal) (View.readAt (Elt Ideal) arg3.view (Rect.unit (s := S1x8448x512) (k0_off2 k 1#32) S1x768x256.size (inb2a k)).toLoadRect (harg3.unread x1)) (View.readAt (Elt Ideal) arg6.view (Rect.unit (s := S2x512x256) (![1, 0, 0]) S1x512x256.size inb_S2x512x256_S1x512x256_1_0_0).toLoadRect X6) := by
    unfold trip_k0_t1.sl.v349 trip_k0_t1.sl.HW_arg8_2
    exact plane1 arg8 arg8.view.junk _ _
  have j0 := inv_step i0 (re_of_kq a0) (sc_of_kq a0) v7 v8
  have j1 := inv_step i1 (re_of_kq a1) (sc_of_kq a1) v9 v10
  rw [e2, ← w0] at j0
  rw [e2, ← w1] at j1
  have u0 : View.readAt (Elt Ideal) arg7.view (Rect.unit (s := S2x768x512) (![0, 0, 0]) S1x768x512.size inb_S2x768x512_S1x768x512_0_0_0).toLoadRect (arg7.view.writes (Elt Ideal) f7 (tripL_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).1)
      = k0_pay35 (F := Ideal) (View.readAt (Elt Ideal) arg3.view (Rect.unit (s := S1x8448x512) (k0_off1 k 2#32) S1x768x256.size (inb1b k)).toLoadRect (harg3.unread x1)) (View.readAt (Elt Ideal) arg6.view (Rect.unit (s := S2x512x256) (![0, 0, 0]) S1x512x256.size inb_S2x512x256_S1x512x256_0_0_0).toLoadRect X6) := by
    unfold tripL_k0_t1 trip_k0_t1
    exact plane0 arg7 f7 _ _ []
  have u1 : View.readAt (Elt Ideal) arg7.view (Rect.unit (s := S2x768x512) (![1, 0, 0]) S1x768x512.size inb_S2x768x512_S1x768x512_1_0_0).toLoadRect (arg7.view.writes (Elt Ideal) f7 (tripL_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).1)
      = k0_pay35 (F := Ideal) (View.readAt (Elt Ideal) arg3.view (Rect.unit (s := S1x8448x512) (k0_off2 k 2#32) S1x768x256.size (inb2b k)).toLoadRect (harg3.unread x1)) (View.readAt (Elt Ideal) arg6.view (Rect.unit (s := S2x512x256) (![1, 0, 0]) S1x512x256.size inb_S2x512x256_S1x512x256_1_0_0).toLoadRect X6) := by
    unfold tripL_k0_t1 trip_k0_t1
    exact plane1 arg7 f7 _ _
  have q1 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.1 = trip_k0_t1.sl.r_16 i arg3 arg6 k0_h2 (harg3.unread x1) X6 k acc := by
    unfold tripR_k0_t1 trip_k0_t1
    rfl
  have q2 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.2.1 = trip_k0_t1.sl.r_20 i arg3 arg4 arg6 arg7 arg8 k0_h2 (harg3.unread x1) (harg4.unread x2) X6 k acc f7 := by
    unfold tripR_k0_t1 trip_k0_t1
    rfl
  have q3 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.2.2.1 = trip_k0_t1.sl.r_21 i arg3 arg4 arg6 arg7 arg8 k0_h2 (harg3.unread x1) (harg4.unread x2) X6 k acc f7 := by
    unfold tripR_k0_t1 trip_k0_t1
    rfl
  have q4 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.2.2.2.1 = trip_k0_t1.sl.r_22 i arg3 arg4 arg6 arg7 arg8 k0_h2 (harg3.unread x1) (harg4.unread x2) X6 k acc f7 := by
    unfold tripR_k0_t1 trip_k0_t1
    rfl
  have q5 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.2.2.2.2.1 = (trip_k0_t1.sl.r_23 i arg3 arg6 k0_h2 (harg3.unread x1) X6 k acc) := by
    unfold tripR_k0_t1 trip_k0_t1
    rfl
  have q6 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.2.2.2.2.2.1 = k0_pay95 (trip_k0_t1.sl.r_9 i arg4 arg7 k0_h2 (harg4.unread x2) k acc f7) (trip_k0_t1.sl.r_24 i arg3 arg6 k0_h2 (harg3.unread x1) X6 k acc) (trip_k0_t1.sl.r_25 i arg3 arg6 arg8 k0_h2 (harg3.unread x1) X6 k acc) k0_pay80 (trip_k0_t1.sl.r_26 (F := Ideal) i arg4 k0_h2 (harg4.unread x2) k) (View.readAt (Elt Ideal) arg4.view (Rect.unit (s := S1x11x256x768) (k0_off10 k) S1x1x64x768.size (inb10 k)).toLoadRect (harg4.unread x2)) := by
    unfold tripR_k0_t1 trip_k0_t1
    rfl
  have q7 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.2.2.2.2.2.2.1 = k0_pay96 (trip_k0_t1.sl.r_10 i arg4 arg7 k0_h2 (harg4.unread x2) k acc f7) (trip_k0_t1.sl.r_24 i arg3 arg6 k0_h2 (harg3.unread x1) X6 k acc) (trip_k0_t1.sl.r_25 i arg3 arg6 arg8 k0_h2 (harg3.unread x1) X6 k acc) k0_pay80 (trip_k0_t1.sl.r_26 (F := Ideal) i arg4 k0_h2 (harg4.unread x2) k) := by
    unfold tripR_k0_t1 trip_k0_t1
    rfl
  have q8 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.2.2.2.2.2.2.2.2 = k0_pay97 (trip_k0_t1.sl.r_11 i arg4 arg7 k0_h2 (harg4.unread x2) k acc f7) (trip_k0_t1.sl.r_24 i arg3 arg6 k0_h2 (harg3.unread x1) X6 k acc) (trip_k0_t1.sl.r_25 i arg3 arg6 arg8 k0_h2 (harg3.unread x1) X6 k acc) k0_pay80 (View.readAt (Elt Ideal) arg4.view (Rect.unit (s := S1x11x256x768) (k0_off10 k) S1x1x64x768.size (inb10 k)).toLoadRect (harg4.unread x2)) := by
    unfold tripR_k0_t1 trip_k0_t1
    rfl
  have q9 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).1 = trip_k0_t1.sl.r_14 i arg3 arg6 k0_h2 (harg3.unread x1) X6 k := by
    unfold tripR_k0_t1 trip_k0_t1
    rfl
  have q10 : (tripR_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 k acc f7 f8).2.1 = trip_k0_t1.sl.r_15 i arg3 arg6 k0_h2 (harg3.unread x1) X6 k := by
    unfold tripR_k0_t1 trip_k0_t1
    rfl
  refine ⟨?_, ?_, ?_, ?_, ?_, ?_⟩
  · rw [q1, q2, q3, q4]
    unfold trip_k0_t1.sl.r_16 trip_k0_t1.sl.r_20 trip_k0_t1.sl.r_21 trip_k0_t1.sl.r_22 trip_k0_t1.sl.r_17 trip_k0_t1.sl.r_18 trip_k0_t1.sl.r_19 trip_k0_t1.sl.r_3 trip_k0_t1.sl.r_4 trip_k0_t1.sl.r_5 trip_k0_t1.sl.r_6 trip_k0_t1.sl.r
    rw [pay66_eq, pay74_eq, pay75_eq, pay76_eq]
    exact j0
  · rw [q5, q6, q7, q8]
    unfold trip_k0_t1.sl.r_23 trip_k0_t1.sl.r_24 trip_k0_t1.sl.r_25 trip_k0_t1.sl.r_26 trip_k0_t1.sl.r_2 trip_k0_t1.sl.r_1 trip_k0_t1.sl.r_9 trip_k0_t1.sl.r_10 trip_k0_t1.sl.r_11 trip_k0_t1.sl.r_7 trip_k0_t1.sl.r_8
    rw [pay77_eq, pay95_eq, pay96_eq, pay97_eq, pay56_eq, pay57_eq, pay58_eq, pay50_eq, pay40_eq]
    exact j1
  · rw [q9]
    unfold trip_k0_t1.sl.r_14 trip_k0_t1.sl.r_12 trip_k0_t1.sl.r_13
    rw [pay62_eq]
    exact re_of_kq b0
  · rw [q10]
    unfold trip_k0_t1.sl.r_15
    rw [pay65_eq]
    exact re_of_kq b1
  · rw [u0]; exact sc_of_kq b0
  · rw [u1]; exact sc_of_kq b1

end Cert.MlaTrip
-- ==== Proof.MlaKernel.lean ====
/-
  THE ATTENTION'S POINTS BUT THE FIRST OF A ROW: the loop over the chunks of keys, the last chunk after it, and the division. The output
  block's entry is the mix of the head's values under the softmax weights of its scores of all 8448 keys.
-/
module

public import proofs.«01_k».proof.Proof.MlaTrip
public import proofs.«01_k».proof.Proof.MlaQuery

@[expose] public section

set_option maxRecDepth 16384

noncomputable section

open Idealize.ShloMosaic Idealize.ShloMosaic.TcCoe Idealize.SL.Sem

namespace Cert.MlaKernel

open Cert.KernelIdeal Cert.KernelIdeal.Gen Cert.MlaMath Cert.MlaPay Cert.MlaRead Cert.MlaTrip Cert.MlaQuery Cert.MlaRun

section Loop
variable (𝒱 : Variants) (c : Dev nD) (bd : Option 𝒱.V) (i : grid0.Coords) (arg2 : Memref sig .tc .vmem S1x256x512 .bf16) (harg2 : arg2.IsWhole)
  (arg3 : Memref sig .tc .vmem S1x8448x512 .bf16) (harg3 : arg3.IsWhole) (arg4 : Memref sig .tc .vmem S1x11x256x768 .bf16) (harg4 : arg4.IsWhole)
  (arg5 : Memref sig .tc .vmem S1x256x256 .bf16) (harg5 : arg5.IsWhole) (arg6 : Memref sig .tc .vmem S2x512x256 .bf16) (harg6 : arg6.IsWhole)
  (arg7 : Memref sig .tc .vmem S2x768x512 .f32) (harg7 : arg7.IsWhole) (arg8 : Memref sig .tc .vmem S2x768x512 .f32) (harg8 : arg8.IsWhole)
  (k0_h2 : k0_cond2 i = 1#1) (v39 v40 : FVec Ideal S1x512 .f32) (v41 v42 : FVec Ideal S64x256 .f32) (v58 : FVec Ideal S1x512 .f32) (v69 : FVec Ideal S96x512 .f32)
  (x1 : FVec Ideal S1x8448x512 .bf16) (x2 : FVec Ideal S1x11x256x768 .bf16) (X6 : BufTy.Contents (Elt Ideal) arg6.view.ty)

/-- The invariant before every trip. -/
theorem loop_good (sc : Fin 4 → Fin 256 → ℕ → ℝ)
    (h0 : QOK x1 0 (by omega) (sc 0) (sc 1) (View.readAt (Elt Ideal) arg6.view (Rect.unit (s := S2x512x256) ![0, 0, 0] S1x512x256.size inb_S2x512x256_S1x512x256_0_0_0).toLoadRect X6))
    (h1 : QOK x1 256 (by omega) (sc 2) (sc 3) (View.readAt (Elt Ideal) arg6.view (Rect.unit (s := S2x512x256) ![1, 0, 0] S1x512x256.size inb_S2x512x256_S1x512x256_1_0_0).toLoadRect X6))
    (G7 : BufTy.Contents (Elt Ideal) arg7.view.ty) (G8 : BufTy.Contents (Elt Ideal) arg8.view.ty) (init : Carry)
    (hg : Good sc x2 0 init (View.readAt (Elt Ideal) arg7.view (Rect.unit (s := S2x768x512) ![0, 0, 0] S1x768x512.size inb_S2x768x512_S1x768x512_0_0_0).toLoadRect G7) (View.readAt (Elt Ideal) arg7.view (Rect.unit (s := S2x768x512) ![1, 0, 0] S1x768x512.size inb_S2x768x512_S1x768x512_1_0_0).toLoadRect G7)) (n : ℕ) (hn : n ≤ k0_t1_loop.trips) :
    Good sc x2 (768 * (2 * n)) (st_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 G7 G8 init n).1
      (View.readAt (Elt Ideal) arg7.view (Rect.unit (s := S2x768x512) ![0, 0, 0] S1x768x512.size inb_S2x768x512_S1x768x512_0_0_0).toLoadRect (arg7.view.writes (Elt Ideal) G7 (st_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 G7 G8 init n).2.1))
      (View.readAt (Elt Ideal) arg7.view (Rect.unit (s := S2x768x512) ![1, 0, 0] S1x768x512.size inb_S2x768x512_S1x768x512_1_0_0).toLoadRect (arg7.view.writes (Elt Ideal) G7 (st_k0_t1 (F := Ideal) 𝒱 c bd i arg2 harg2 arg3 harg3 arg4 harg4 arg5 harg5 arg6 harg6 arg7 harg7 arg8 harg8 k0_h2 v39 v40 v41 v42 v58 v69 (harg3.unread x1) (harg4.unread x2) X6 G7 G8 init n).2.1)) := by
  induction n with
  | zero => exact hg
  | succ n ih =>
    have h := ih (Nat.le_of_succ_le hn)
    have e := st_k0_t1_succ (F := Ideal) 𝒱 c bd i arg2 harg2 arg3 harg3 arg4 harg4 arg5 harg5 arg6 harg6 arg7 harg7 arg8 harg8 k0_h2 v39 v40 v41 v42 v58 v69 (harg3.unread x1) (harg4.unread x2) X6 G7 G8 init ⟨n, hn⟩
    rw [show (⟨n, hn⟩ : Fin k0_t1_loop.trips).val + 1 = n + 1 from rfl] at e
    rw [e]
    dsimp only
    rw [View.writes_append]
    exact trip_good 𝒱 c bd i arg2 harg2 arg3 harg3 arg4 harg4 arg5 harg5 arg6 harg6 arg7 harg7 arg8 harg8 k0_h2 v39 v40 v41 v42 v58 v69 x1 x2 X6 sc h0 h1 ⟨n, hn⟩ _ _ _ h []

end Loop

/-! ## The last chunk, and the division -/

section Finish
variable {sc : Fin 4 → Fin 256 → ℕ → ℝ} {x2 : FVec Ideal S1x11x256x768 .bf16} {acc : Carry} {S0 S1 : FVec Ideal S1x768x512 .f32}
  {va vb vc vd : FVec Ideal S1x1x64x768 .bf16}

/-- The block the kernel writes back, of what the loop leaves. -/
abbrev last (acc : Carry) (S0 S1 : FVec Ideal S1x768x512 .f32) (va vb vc vd : FVec Ideal S1x1x64x768 .bf16) : FVec Ideal S1x256x256 .bf16 :=
  k0_pay3 (k0_pay115 acc.2.1 acc.2.2.2.2.2.2.1 acc.2.2.2.2.2.2.2.2.2 S1 vd)
    (k0_pay116 (k0_pay104 acc.1 acc.2.2.1 acc.2.2.2.1 S0 va vb) (k0_pay105 acc.1 acc.2.2.1 acc.2.2.2.2.1 S0 va))
    (k0_pay117 (k0_pay104 acc.1 acc.2.2.1 acc.2.2.2.1 S0 va vb) (k0_pay106 acc.1 acc.2.2.1 acc.2.2.2.2.2.1) (k0_pay107 acc.1 acc.2.2.1 S0 vb))
    (k0_pay118 acc.2.1 acc.2.2.2.2.2.2.1 acc.2.2.2.2.2.2.2.1 acc.2.2.2.2.2.2.2.2.1 S1 vc vd)
    (k0_pay119 acc.2.1 acc.2.2.2.2.2.2.1 acc.2.2.2.2.2.2.2.1 S1 vc vd)

theorem last_at (hg : Good sc x2 7680 acc S0 S1) (ha : Vc 7680 (val x2 0) va) (hb : Vc 7680 (val x2 1) vb) (hc : Vc 7680 (val x2 2) vc)
    (hd : Vc 7680 (val x2 3) vd) (l : Fin 256) (h : Fin 4) (d : Fin 64) :
    last acc S0 S1 va vb vc vd (ix3 0 l ⟨64 * h + d, by omega⟩) = mix 8448 (sc h l) (val x2 h d) := by
  have p0 := inv_step hg.p0 hg.r0 hg.s0 ha hb
  have p1 := inv_step hg.p1 hg.r1 hg.s1 hc hd
  have c0 := col_div (by omega) (p0.1 l d)
  have c1 := col_div (by omega) (p0.2 l d)
  have c2 := col_div (by omega) (p1.1 l d)
  have c3 := col_div (by omega) (p1.2 l d)
  match h with
  | 0 =>
    rw [show (⟨64 * (0 : Fin 4).val + d.val, by omega⟩ : Fin 256) = ⟨d, by omega⟩ from Fin.ext (Nat.zero_add _)]
    refine (pay3_h0 _ _ _ _ _ l d).trans ?_
    rw [pay116_at, pay104_eq, pay105_eq]
    exact c0
  | 1 =>
    refine (pay3_h1 _ _ _ _ _ l d).trans ?_
    rw [pay117_at, pay104_eq]
    exact c1
  | 2 =>
    refine (pay3_h2 _ _ _ _ _ l d).trans ?_
    rw [pay118_eq, pay116_at]
    exact c2
  | 3 =>
    refine (pay3_h3 _ _ _ _ _ l d).trans ?_
    rw [pay119_at, pay115_eq]
    exact c3

end Finish

/-! ## The output block -/

theorem outB_at (c : Dev nD) (i : grid0.Coords) (arg2 : Memref sig .tc .vmem S1x256x512 .bf16) (harg2 : arg2.IsWhole)
  (arg3 : Memref sig .tc .vmem S1x8448x512 .bf16) (harg3 : arg3.IsWhole) (arg4 : Memref sig .tc .vmem S1x11x256x768 .bf16) (harg4 : arg4.IsWhole)
  (arg5 : Memref sig .tc .vmem S1x256x256 .bf16) (harg5 : arg5.IsWhole) (arg6 : Memref sig .tc .vmem S2x512x256 .bf16) (harg6 : arg6.IsWhole)
  (arg7 : Memref sig .tc .vmem S2x768x512 .f32) (harg7 : arg7.IsWhole) (arg8 : Memref sig .tc .vmem S2x768x512 .f32) (harg8 : arg8.IsWhole)
  (hc0 : ¬cond0_0 i) (hc1 : cond0_1 i) (x0 : FVec Ideal S1x256x512 .bf16) (x1 : FVec Ideal S1x8448x512 .bf16) (x2 : FVec Ideal S1x11x256x768 .bf16)
  (h0 : ∀ i, ∃ r : ℝ, x0 i = r) (h1 : ∀ i, ∃ r : ℝ, x1 i = r) (l : Fin 256) (h : Fin 4) (d : Fin 64) :
    out0_B_3 (F := Ideal) c i arg2 harg2 arg3 harg3 arg4 harg4 arg5 harg5 arg6 harg6 arg7 harg7 arg8 harg8 hc0 hc1 x0 x1 x2 (ix3 0 l ⟨64 * h + d, by omega⟩) = mix 8448 (sc x0 x1 h l) (val x2 h d) := by
  have eq6 : runB.sl.HS0_4 (F := Ideal) c arg2 harg2 x0 = qS arg2 harg2 x0 := rfl
  have Q0 := qok0 h0 h1 (qp0 arg2 harg2 arg6 x0)
  have Q1 := qok1 h0 h1 (qp1 arg2 harg2 arg6 x0)
  have k0 := kq_of arg3 harg3 x1 Q0 (n := 0) (by omega) inb_S1x8448x512_S1x768x256_0_0_0 rfl
  have k1 := kq_of arg3 harg3 x1 Q1 (n := 0) (by omega) inb_S1x8448x512_S1x768x256_0_0_256 rfl
  have e47 : runB.sl.v47 (F := Ideal) c arg2 harg2 arg6 x0 = arg6.view.readCov (Val := Elt Ideal) (qS arg2 harg2 x0) (Rect.unit (s := S2x512x256) ![0, 0, 0] S1x512x256.size inb_S2x512x256_S1x512x256_0_0_0).toLoadRect := rfl
  have e62 : runB.sl.v62 (F := Ideal) c arg2 harg2 arg6 x0 = arg6.view.readCov (Val := Elt Ideal) (qS arg2 harg2 x0) (Rect.unit (s := S2x512x256) ![1, 0, 0] S1x512x256.size inb_S2x512x256_S1x512x256_1_0_0).toLoadRect := rfl
  have base : Good (sc x0 x1) x2 0 (runB.sl.r_1 (F := Ideal) c arg2 harg2 arg3 harg3 arg6 x0 x1, k0_pay92 (runB.sl.r_2 c arg2 harg2 arg3 harg3 arg6 x0 x1), k0_pay82, k0_pay83, k0_pay84, k0_pay85, k0_pay82, k0_pay83, k0_pay84, k0_pay85)
      (View.readAt (Elt Ideal) arg7.view (Rect.unit (s := S2x768x512) ![0, 0, 0] S1x768x512.size inb_S2x768x512_S1x768x512_0_0_0).toLoadRect (arg7.view.writes (Elt Ideal) arg7.view.junk (runB.sl.HS1_2 (F := Ideal) c arg2 harg2 arg3 harg3 arg6 x0 x1)))
      (View.readAt (Elt Ideal) arg7.view (Rect.unit (s := S2x768x512) ![1, 0, 0] S1x768x512.size inb_S2x768x512_S1x768x512_1_0_0).toLoadRect (arg7.view.writes (Elt Ideal) arg7.view.junk (runB.sl.HS1_2 (F := Ideal) c arg2 harg2 arg3 harg3 arg6 x0 x1))) := by
    unfold runB.sl.HS1_2 runB.sl.r_1 runB.sl.r_2
    rw [e47, e62]
    refine ⟨inv_zero, inv_zero, ?_, ?_, ?_, ?_⟩
    · rw [pay88_eq]; exact re_of_kq k0
    · rw [pay92_eq]; exact re_of_kq k1
    · refine (congrArg (Sc 0 _ _) (plane0 arg7 _ _ _ [])).mpr ?_
      rw [pay87_eq]; exact sc_of_kq k0
    · refine (congrArg (Sc 0 _ _) (plane1 arg7 _ _ _)).mpr ?_
      rw [pay90_eq]; exact sc_of_kq k1
  have G := loop_good Variants.none c none i arg2 harg2 arg3 harg3 arg4 harg4 arg5 harg5 arg6 harg6 arg7 harg7 arg8 harg8 hc1 k0_pay82 k0_pay83 k0_pay84 k0_pay85
    (runB.sl.r_1 c arg2 harg2 arg3 harg3 arg6 x0 x1) (runB.sl.r_2 c arg2 harg2 arg3 harg3 arg6 x0 x1) x1 x2
    (arg6.view.writes (Elt Ideal) arg6.view.junk (runB.sl.HS0_4 c arg2 harg2 x0)) (sc x0 x1) Q0 Q1
    (arg7.view.writes (Elt Ideal) arg7.view.junk (runB.sl.HS1_2 (F := Ideal) c arg2 harg2 arg3 harg3 arg6 x0 x1)) arg8.view.junk
    _ base k0_t1_loop.trips le_rfl
  have V0 := vc_of arg4 harg4 x2 (c := 10) (by omega) 0 inb_S1x11x256x768_S1x1x64x768_0_10_0_0 rfl
  have V1 := vc_of arg4 harg4 x2 (c := 10) (by omega) 1 inb_S1x11x256x768_S1x1x64x768_0_10_64_0 rfl
  have V2 := vc_of arg4 harg4 x2 (c := 10) (by omega) 2 inb_S1x11x256x768_S1x1x64x768_0_10_128_0 rfl
  have V3 := vc_of arg4 harg4 x2 (c := 10) (by omega) 3 inb_S1x11x256x768_S1x1x64x768_0_10_192_0 rfl
  rw [show k0_t1_loop.trips = 5 from by decide +kernel] at G
  refine Eq.trans ?_ (last_at G V0 V1 V2 V3 l h d)
  unfold out0_B_3 kernelRun0_B runB
  dsimp only
  refine (View.read_writes_cons_unit_of_mem VO0_3 _ _ _ _ _ (ix3 0 l ⟨64 * h + d, by omega⟩) rfl ?_).trans ?_
  · intro a
    fin_cases a <;> exact (Nat.zero_add _).symm
  unfold runB.sl.r_12 runB.sl.r_13 runB.sl.r_14 runB.sl.r_15 runB.sl.r_16 runB.sl.r_3 runB.sl.r_4 runB.sl.r_5 runB.sl.r_6 runB.sl.r_7
    runB.sl.r_8 runB.sl.r_9 runB.sl.r_10 runB.sl.r_11 runB.sl.v114 runB.sl.v79
  unfold View.readCov
  rw [View.writes_append]
  rw [show Scf.trips k0_t1_loop.lb k0_t1_loop.ub k0_t1_loop.st = 5 from by decide +kernel]

end Cert.MlaKernel
-- ==== Proof.MlaRef.lean ====
/-
  THE REFERENCE'S SIDE of the attention: its result at a row and a head's column is the mix of the head's values under the softmax
  weights of the row's scores, of the first 256 keys for a context row, of all keys for the others.
-/
module

public import proofs.«01_k».proof.Proof.MlaMath
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlaRef

open Cert.ReferenceIdeal Cert.ReferenceIdeal.Gen Cert.ReferenceIdeal.Read Cert.MlaMath

variable (x0 x1 : FVec Ideal S2x8448x512 .bf16) (x2 : FVec Ideal S22x256x768 .bf16)

/-- A query's score of a key in one head. -/
def scr (x0 x1 : FVec Ideal S2x8448x512 .bf16) (b : Fin 2) (h : Fin 4) (q : Fin 8448) (i : ℕ) : ℝ :=
  if hi : i < 8448 then (∑ d : Fin 128, x1 (ix3 b ⟨i, hi⟩ ⟨128 * h + d, by omega⟩) * x0 (ix3 b q ⟨128 * h + d, by omega⟩)).toReal else 0

/-- A key's value in one column of a head; the values lie in eleven groups of 768 keys a batch. -/
def valr (x2 : FVec Ideal S22x256x768 .bf16) (b : Fin 2) (h : Fin 4) (d : Fin 64) (i : ℕ) : EReal :=
  if hi : i < 8448 then x2 (ix3 ⟨11 * b + i / 768, by omega⟩ ⟨64 * h + d, by omega⟩ ⟨i % 768, by omega⟩) else 0

/-- The score is the product of the two rows, where the entries are reals. -/
theorem scr_coe {x0 x1 : FVec Ideal S2x8448x512 .bf16} (h0 : ∀ i, ∃ r : ℝ, x0 i = r) (h1 : ∀ i, ∃ r : ℝ, x1 i = r)
    (b : Fin 2) (h : Fin 4) (q i : Fin 8448) :
    (∑ d : Fin 128, x0 (ix3 b q ⟨128 * h + d, by omega⟩) * x1 (ix3 b i ⟨128 * h + d, by omega⟩)) = ((scr x0 x1 b h q i : ℝ) : EReal) := by
  unfold scr
  rw [dif_pos i.isLt]
  simp only [mul_comm (x0 _) (x1 _)]
  obtain ⟨r, hr⟩ := sum_mul_real (fun d : Fin 128 => x1 (ix3 b i ⟨128 * h + d, by omega⟩)) (fun d : Fin 128 => x0 (ix3 b q ⟨128 * h + d, by omega⟩))
    (fun d => h1 _) (fun d => h0 _)
  have e : (∑ d : Fin 128, x1 (ix3 b i ⟨128 * h + d, by omega⟩) * x0 (ix3 b q ⟨128 * h + d, by omega⟩)) = (r : EReal) := hr
  simp only [Fin.eta, e, EReal.toReal_coe]

/-- The word of two reads as two, and its logarithm is a real. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]; norm_num
  rw [e, Ideal.log_coe, if_neg (by norm_num)]

/-- The word the maximum starts from is the bottom. -/
theorem neg_inf : Ideal.ofBits .f32 0xFF800000#32 = (⊥ : EReal) := by simp [Ideal.ofBits, Ideal.ieee]

/-- A maximum over one axis that starts from the bottom is a real where every entry is. -/
theorem reduce_real {s t u : Shape} {a : Fin s.rank} (x : FVec Ideal s .f32) (init : FVec Ideal u .f32) (h' : s.ReducesTo [a] t) (h : s.Reduces [a] t)
    (hu : 0 < u.numel) (j : t.Idx) (hn : 0 < s.size a) (hi : init (Shape.Idx.first hu) = (⊥ : EReal)) (hx : ∀ i, ∃ r : ℝ, x i = r) :
    ∃ r : ℝ, Host.reduce FloatOps.maximumf x init h' hu j = r := by
  rw [Host.reduce_eq_fold_single FloatOps.maximumf x init h' h hu j, hi]
  haveI : Nonempty (Fin (s.size a)) := ⟨⟨0, hn⟩⟩
  exact fold_real (x ∘ h.lift j) fun k => hx _

/-- So is the greater of it and the bottom. -/
theorem max_bot_real {x y : EReal} (hx : x = ⊥) (hy : ∃ r : ℝ, y = r) : ∃ r : ℝ, max x y = r := by
  rw [hx, max_eq_right bot_le]; exact hy

/-- The values as the reference lays them out. -/
theorem v7_at (b : Fin 2) (i : Fin 8448) (h : Fin 4) (d : Fin 64) :
    val_main_v7 (F := Ideal) x2 (ix4 b i h d) = valr x2 b h d i := by
  unfold valr
  rw [dif_pos i.isLt]
  pointwise [val_main_v7, val_main_v6, val_main_v5, val_main_v4]
  simp only [Nat.mul_comm (b : ℕ) 11, Nat.mul_comm (h : ℕ) 64]

/-! ## A context row: the first 256 keys -/

/-- The scores times the logarithm of two. -/
theorem v14_at (h0 : ∀ i, ∃ r : ℝ, x0 i = r) (h1 : ∀ i, ∃ r : ℝ, x1 i = r) (b : Fin 2) (h : Fin 4) (q : Fin 256) (k : Fin 256) :
    val_main_v14 (F := Ideal) x0 x1 (ix4 b h q k) = ((scr x0 x1 b h ⟨q, by omega⟩ k : ℝ) : EReal) * ((Real.log 2 : ℝ) : EReal) := by
  rw [← scr_coe h0 h1 b h ⟨q, by omega⟩ ⟨k, by omega⟩, ← log_two]
  pointwise [val_main_v14, val_main_v13, val_main_v12, val_main_v11, val_main_v9, val_main_v8, val_main_v3, val_main_v2, val_main_v1, val_main_v0, val_main_cst]
  simp only [Nat.mul_comm (h : ℕ) 128]

/-- The maximum taken off the scores is a real. -/
theorem v17_at (h0 : ∀ i, ∃ r : ℝ, x0 i = r) (h1 : ∀ i, ∃ r : ℝ, x1 i = r) (b : Fin 2) (h : Fin 4) (q : Fin 256) :
    ∃ r : ℝ, val_main_v17 (F := Ideal) x0 x1 (ix3 b h q) = r := by
  have hx : ∀ i, ∃ r : ℝ, val_main_v14 (F := Ideal) x0 x1 i = r := fun i => by
    obtain ⟨b, h, q, k, rfl⟩ : ∃ (b : Fin 2) (h : Fin 4) (q : Fin 256) (k : Fin 256), i = ix4 b h q k :=
      ⟨i 0, i 1, i 2, i 3, by funext a; match a with | 0 => rfl | 1 => rfl | 2 => rfl | 3 => rfl⟩
    exact ⟨scr x0 x1 b h ⟨q, by omega⟩ k * Real.log 2, by rw [v14_at x0 x1 h0 h1 b h q k, EReal.coe_mul]⟩
  rw [val_main_v17_apply]
  refine max_bot_real ?_ ?_
  · rw [val_main_v16_apply]; exact neg_inf
  · unfold val_main_v15
    exact reduce_real _ _ _ (by decide) _ _ (by decide) neg_inf hx

/-- The exponentials over their sum. -/
theorem v25_soft (b : Fin 2) (h : Fin 4) (q : Fin 256) (k : Fin 256) :
    val_main_v25 (F := Ideal) x0 x1 (ix4 b h q k)
      = soft (fun k => val_main_v14 (F := Ideal) x0 x1 (ix4 b h q k)) (val_main_v17 (F := Ideal) x0 x1 (ix3 b h q)) k := by
  unfold soft
  pointwise [val_main_v25, val_main_v24, val_main_v23, val_main_v22, val_main_v21, val_main_v20, val_main_v19, val_main_v18, val_main_cst_2]

/-- The values under the weights. -/
theorem v30_sum (b : Fin 2) (h : Fin 4) (d : Fin 64) (q : Fin 256) :
    val_main_v30 (F := Ideal) x0 x1 x2 (ix3 b q ⟨64 * h + d, by omega⟩)
      = ∑ k : Fin 256, val_main_v7 (F := Ideal) x2 (ix4 b ⟨k, by omega⟩ h d) * val_main_v25 (F := Ideal) x0 x1 (ix4 b h q k) := by
  pointwise [val_main_v30, val_main_v29, val_main_v28, val_main_v27, val_main_v26, val_main_v10]

theorem v30_at (h0 : ∀ i, ∃ r : ℝ, x0 i = r) (h1 : ∀ i, ∃ r : ℝ, x1 i = r) (b : Fin 2) (h : Fin 4) (d : Fin 64) (q : Fin 256) :
    val_main_v30 (F := Ideal) x0 x1 x2 (ix3 b q ⟨64 * h + d, by omega⟩) = mix 256 (scr x0 x1 b h ⟨q, by omega⟩) (valr x2 b h d) := by
  rw [v30_sum]
  unfold mix
  refine Finset.sum_congr rfl fun k _ => ?_
  rw [v7_at, v25_soft, soft_eq (scr x0 x1 b h ⟨q, by omega⟩) _ (v17_at x0 x1 h0 h1 b h q) _ (fun k => v14_at x0 x1 h0 h1 b h q k)]

/-! ## Any other row: all keys -/

/-- The scores times the logarithm of two. -/
theorem v35_at (h0 : ∀ i, ∃ r : ℝ, x0 i = r) (h1 : ∀ i, ∃ r : ℝ, x1 i = r) (b : Fin 2) (h : Fin 4) (q : Fin 8192) (k : Fin 8448) :
    val_main_v35 (F := Ideal) x0 x1 (ix4 b h q k) = ((scr x0 x1 b h ⟨256 + q, by omega⟩ k : ℝ) : EReal) * ((Real.log 2 : ℝ) : EReal) := by
  rw [← scr_coe h0 h1 b h ⟨256 + q, by omega⟩ k, ← log_two]
  pointwise [val_main_v35, val_main_v34, val_main_v33, val_main_v32, val_main_v31, val_main_v3, val_main_v2, val_main_v1, val_main_v0, val_main_cst_3]
  simp only [Nat.mul_comm (h : ℕ) 128]

/-- The maximum taken off the scores is a real. -/
theorem v38_at (h0 : ∀ i, ∃ r : ℝ, x0 i = r) (h1 : ∀ i, ∃ r : ℝ, x1 i = r) (b : Fin 2) (h : Fin 4) (q : Fin 8192) :
    ∃ r : ℝ, val_main_v38 (F := Ideal) x0 x1 (ix3 b h q) = r := by
  have hx : ∀ i, ∃ r : ℝ, val_main_v35 (F := Ideal) x0 x1 i = r := fun i => by
    obtain ⟨b, h, q, k, rfl⟩ : ∃ (b : Fin 2) (h : Fin 4) (q : Fin 8192) (k : Fin 8448), i = ix4 b h q k :=
      ⟨i 0, i 1, i 2, i 3, by funext a; match a with | 0 => rfl | 1 => rfl | 2 => rfl | 3 => rfl⟩
    exact ⟨scr x0 x1 b h ⟨256 + q, by omega⟩ k * Real.log 2, by rw [v35_at x0 x1 h0 h1 b h q k, EReal.coe_mul]⟩
  rw [val_main_v38_apply]
  refine max_bot_real ?_ ?_
  · rw [val_main_v37_apply]; exact neg_inf
  · unfold val_main_v36
    exact reduce_real _ _ _ (by decide) _ _ (by decide) neg_inf hx

/-- The exponentials over their sum. -/
theorem v46_soft (b : Fin 2) (h : Fin 4) (q : Fin 8192) (k : Fin 8448) :
    val_main_v46 (F := Ideal) x0 x1 (ix4 b h q k)
      = soft (fun k => val_main_v35 (F := Ideal) x0 x1 (ix4 b h q k)) (val_main_v38 (F := Ideal) x0 x1 (ix3 b h q)) k := by
  unfold soft
  pointwise [val_main_v46, val_main_v45, val_main_v44, val_main_v43, val_main_v42, val_main_v41, val_main_v40, val_main_v39, val_main_cst_6]

/-- The values under the weights. -/
theorem v51_sum (b : Fin 2) (h : Fin 4) (d : Fin 64) (q : Fin 8192) :
    val_main_v51 (F := Ideal) x0 x1 x2 (ix3 b q ⟨64 * h + d, by omega⟩)
      = ∑ k : Fin 8448, val_main_v7 (F := Ideal) x2 (ix4 b k h d) * val_main_v46 (F := Ideal) x0 x1 (ix4 b h q k) := by
  pointwise [val_main_v51, val_main_v50, val_main_v49, val_main_v48, val_main_v47]

theorem v51_at (h0 : ∀ i, ∃ r : ℝ, x0 i = r) (h1 : ∀ i, ∃ r : ℝ, x1 i = r) (b : Fin 2) (h : Fin 4) (d : Fin 64) (q : Fin 8192) :
    val_main_v51 (F := Ideal) x0 x1 x2 (ix3 b q ⟨64 * h + d, by omega⟩) = mix 8448 (scr x0 x1 b h ⟨256 + q, by omega⟩) (valr x2 b h d) := by
  rw [v51_sum]
  unfold mix
  refine Finset.sum_congr rfl fun k _ => ?_
  rw [v7_at, v46_soft, soft_eq (scr x0 x1 b h ⟨256 + q, by omega⟩) _ (v38_at x0 x1 h0 h1 b h q) _ (fun k => v35_at x0 x1 h0 h1 b h q k)]

/-! ## The result -/

/-- A context row of the result. -/
theorem res_first (h0 : ∀ i, ∃ r : ℝ, x0 i = r) (h1 : ∀ i, ∃ r : ℝ, x1 i = r) (b : Fin 2) (h : Fin 4) (d : Fin 64) (q : Fin 8448) (hq : q.val < 256) :
    val_main_v53 (F := Ideal) x0 x1 x2 (ix3 b q ⟨64 * h + d, by omega⟩) = mix 256 (scr x0 x1 b h q) (valr x2 b h d) := by
  have e : val_main_v53 (F := Ideal) x0 x1 x2 (ix3 b q ⟨64 * h + d, by omega⟩)
      = val_main_v30 (F := Ideal) x0 x1 x2 (ix3 b ⟨q, hq⟩ ⟨64 * h + d, by omega⟩) := by
    pointwise [val_main_v53, val_main_v52]
    rw [dif_pos hq]
  rw [e, v30_at x0 x1 x2 h0 h1]

/-- Any other row of it. -/
theorem res_rest (h0 : ∀ i, ∃ r : ℝ, x0 i = r) (h1 : ∀ i, ∃ r : ℝ, x1 i = r) (b : Fin 2) (h : Fin 4) (d : Fin 64) (q : Fin 8448) (hq : ¬q.val < 256) :
    val_main_v53 (F := Ideal) x0 x1 x2 (ix3 b q ⟨64 * h + d, by omega⟩) = mix 8448 (scr x0 x1 b h q) (valr x2 b h d) := by
  have e : val_main_v53 (F := Ideal) x0 x1 x2 (ix3 b q ⟨64 * h + d, by omega⟩)
      = val_main_v51 (F := Ideal) x0 x1 x2 (ix3 b ⟨q - 256, by omega⟩ ⟨64 * h + d, by omega⟩) := by
    pointwise [val_main_v53, val_main_v52]
    rw [dif_neg hq]
  rw [e, v51_at x0 x1 x2 h0 h1]
  have eq : (⟨256 + (q.val - 256), by omega⟩ : Fin 8448) = q := Fin.ext (by show 256 + (q.val - 256) = q.val; omega)
  simp only [eq]

end Cert.MlaRef
-- ==== Proof.MlaPre.lean ====
/-
  THE PRECONDITION READ BACK: the queries and keys of the attention have only real entries.
-/
module

public import proofs.«01_k».proof.Proof.Gen.Pre_finite_qk
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic

namespace Cert.MlaPre

open Cert.Pre_finite_qk

/-- An extended real whose absolute value lies below the top is a real. -/
theorem real_of_abs (x : EReal) (h : max x (-x) < ⊤) : ∃ r : ℝ, x = r := by
  induction x with
  | bot => simp at h
  | coe r => exact ⟨r, rfl⟩
  | top => simp at h

/-- The word the test compares with is the top. -/
theorem inf_top : Ideal.ofBits .f32 0x7F800000#32 = (⊤ : EReal) := by simp [Ideal.ofBits, Ideal.ieee]

/-- One element's test. -/
theorem test (x : FVec Ideal S2x8448x512 .bf16) (hb : FTy.bits .bf16 < FTy.bits .f32) (hc : S_.BroadcastsInDim S2x8448x512 (![] : Fin 0 → Fin S2x8448x512.rank)) (i : S2x8448x512.Idx)
    (h : cmpf (F := Ideal) .olt (Host.absf (extf .f32 x hb)) (broadcastInDim S2x8448x512 ![] hc (constant (F := Ideal) S_ .f32 0x7F800000#32)) i = 1#1) :
    ∃ r : ℝ, x i = r := by
  refine real_of_abs (x i) ?_
  have e : Ideal.cmp .olt (max (x i) (-(x i))) (Ideal.ofBits .f32 0x7F800000#32) = 1#1 := h
  rw [inf_top] at e
  by_contra hn
  simp [Ideal.cmp, hn] at e

theorem finite_qk (x0 x1 : FVec Ideal S2x8448x512 .bf16) (x2 : FVec Ideal S22x256x768 .bf16)
    (h : fn (F := Ideal) x0 x1 x2 = fun _ => 1#1) : (∀ i, ∃ r : ℝ, x0 i = r) ∧ ∀ i, ∃ r : ℝ, x1 i = r := by
  have e := congrFun h ix0
  dsimp only [fn] at e
  obtain ⟨a, b⟩ := IntOp.andi_eq_one.1 e
  exact ⟨fun i => test x0 _ _ i (Host.reduce_andi_all _ _ _ _ _ a i), fun i => test x1 _ _ i (Host.reduce_andi_all _ _ _ _ _ b i)⟩

end Cert.MlaPre
-- ==== Proof.MlaValue.lean ====
/-
  THE ATTENTION. The kernel's result array, after its 66 grid points, is the reference's composed term of the three argument
  arrays, where queries and keys are real: each point computes 256 rows of one batch, and the first point of a batch, the
  context rows, reads the first 256 keys alone.
-/
module

public import proofs.«01_k».proof.Defs
public import proofs.«01_k».proof.Proof.MlaBlocks
public import proofs.«01_k».proof.Proof.MlaFirst
public import proofs.«01_k».proof.Proof.MlaKernel
public import proofs.«01_k».proof.Proof.MlaRef
public import proofs.«01_k».proof.Proof.MlaPre
public import proofs.«01_k».proof.Proof.Gen.ReferenceIdeal.Run

@[expose] public section

set_option maxRecDepth 16384

noncomputable section

open Idealize.ShloMosaic Idealize.ShloMosaic.TcCoe Idealize.SL.Sem
open Idealize.ShloMosaic.Pipeline (Dat)

namespace Cert.MlaValue

open Cert.KernelIdeal Cert.KernelIdeal.Gen Cert.MlaRun Cert.MlaMath Cert.MlaQuery Cert.MlaRead Cert.MlaRef

variable (m : (ℓ : Loc nD τ sig) → Buf (Elt Ideal) ℓ)

/-- Every entry is a real. -/
def AllReal {s : Shape} (x : FVec Ideal s .bf16) : Prop := ∀ i, ∃ r : ℝ, x i = r

/-- The block each point reads and writes. -/
theorem idx : ∀ t : Fin cfg0.N, win0_0.index t = ![t.val / 33, t.val % 33, 0] ∧ win0_1.index t = ![t.val / 33, 0, 0]
    ∧ win0_2.index t = ![t.val / 33, 0, 0, 0] ∧ win0_3.index t = ![t.val / 33, t.val % 33, 0] :=
  (by decide +kernel : ∀ t : Fin grid0.N, _)

/-- The 22 groups of values laid out eleven a batch. -/
theorem groups_at (x : FVec Ideal S22x256x768 .bf16) (b : Fin 2) (g : Fin 11) (r : Fin 256) (k : Fin 768) :
    shapeCast S2x11x256x768 x shapeCasts_S22x256x768_S2x11x256x768 (ix4 b g r k) = x (ix3 ⟨11 * b + g, by omega⟩ r k) := by
  pointwise []
  simp only [Nat.mul_comm (b : ℕ) 11]

/-- The values as the call finds them. -/
theorem vt_at (c : Dev nD) (b : Fin 2) (g : Fin 11) (r : Fin 256) (k : Fin 768) :
    V m c main_v0 (ix4 b g r k) = m ((c : Thread nD τ).loc main_arg2) (ix3 ⟨11 * b + g, by omega⟩ r k) := by
  have e : V m c main_v0 = shapeCast _ (m ((c : Thread nD τ).loc main_arg2)) shapeCasts_S22x256x768_S2x11x256x768 := rfl
  rw [e]
  exact groups_at (m ((c : Thread nD τ).loc main_arg2)) b g r k

/-- A row of a block of queries is the array's row. -/
theorem q_at (c : Dev nD) (t : Fin cfg0.N) (ht : t.val < 66) (l : Fin 256) (k : Fin 512) :
    iblk m c 0 t (ix3 0 l k) = m ((c : Thread nD τ).loc main_arg0) (ix3 ⟨t.val / 33, by omega⟩ ⟨256 * (t.val % 33) + l, by omega⟩ k) := by
  obtain ⟨e0, -, -, -⟩ := idx t
  blk_ext [iblk, V, e0]

theorem k_at (c : Dev nD) (t : Fin cfg0.N) (ht : t.val < 66) (i : Fin 8448) (k : Fin 512) :
    iblk m c 1 t (ix3 0 i k) = m ((c : Thread nD τ).loc main_arg1) (ix3 ⟨t.val / 33, by omega⟩ i k) := by
  obtain ⟨-, e1, -, -⟩ := idx t
  blk_ext [iblk, V, e1]

theorem v_at (c : Dev nD) (t : Fin cfg0.N) (ht : t.val < 66) (g : Fin 11) (r : Fin 256) (k : Fin 768) :
    iblk m c 2 t (ix4 0 g r k) = V m c main_v0 (ix4 ⟨t.val / 33, by omega⟩ g r k) := by
  obtain ⟨-, -, e2, -⟩ := idx t
  blk_ext [iblk, e2]

/-- A point's scores are the reference's at the array's row. -/
theorem sc_at (c : Dev nD) (t : Fin cfg0.N) (ht : t.val < 66) (h : Fin 4) (l : Fin 256) :
    sc (iblk m c 0 t) (iblk m c 1 t) h l
      = scr (m ((c : Thread nD τ).loc main_arg0)) (m ((c : Thread nD τ).loc main_arg1)) ⟨t.val / 33, by omega⟩ h ⟨256 * (t.val % 33) + l, by omega⟩ := by
  funext i
  unfold sc scr
  simp only [q_at m c t ht, k_at m c t ht]

/-- A point's values are the reference's. -/
theorem val_at (c : Dev nD) (t : Fin cfg0.N) (ht : t.val < 66) (h : Fin 4) (d : Fin 64) :
    val (iblk m c 2 t) h d = valr (m ((c : Thread nD τ).loc main_arg2)) ⟨t.val / 33, by omega⟩ h d := by
  funext i
  unfold val valr
  simp only [v_at m c t ht, vt_at m c]

/-- What a point stores at an index of its block is the reference at the array index the block index sits at. -/
theorem point (c : Dev nD) (t : Fin cfg0.N) (h0 : AllReal (s := S2x8448x512) (m ((c : Thread nD τ).loc main_arg0))) (h1 : AllReal (s := S2x8448x512) (m ((c : Thread nD τ).loc main_arg1))) (y) :
    outsAt0 m c t.val t.isLt y
      = Cert.ReferenceIdeal.Read.val_main_v53 (F := Ideal) (m ((c : Thread nD τ).loc main_arg0)) (m ((c : Thread nD τ).loc main_arg1)) (m ((c : Thread nD τ).loc main_arg2))
          (((cfg0.win 3).blk t).view.emb y) := by
  have ht : t.val < 66 := lt_of_lt_of_eq t.isLt N_0
  obtain ⟨-, -, -, e3⟩ := idx t
  obtain ⟨l, j, rfl⟩ : ∃ (l : Fin 256) (j : Fin 256), y = ix3 0 l j :=
    ⟨y 1, y 2, by
      have hy : (y 0).val < 1 := (y 0).isLt
      funext a; match a with | 0 => exact Fin.ext (by show (y 0).val = 0; omega) | 1 => rfl | 2 => rfl⟩
  obtain ⟨h, d, rfl⟩ : ∃ (h : Fin 4) (d : Fin 64), j = ⟨64 * h + d, by omega⟩ :=
    ⟨⟨j / 64, by omega⟩, ⟨j % 64, by omega⟩, Fin.ext (by show j.val = 64 * (j / 64) + j % 64; omega)⟩
  have he : ((cfg0.win 3).blk t).view.emb (ix3 0 l ⟨64 * h + d, by omega⟩)
      = ix3 ⟨t.val / 33, by omega⟩ ⟨256 * (t.val % 33) + l, by omega⟩ ⟨64 * h + d, by omega⟩ := by
    blk_ext [e3]
  have r0 : AllReal (s := S1x256x512) (iblk m c 0 t) := fun i => by
    obtain ⟨l, k, rfl⟩ : ∃ (l : Fin 256) (k : Fin 512), i = ix3 0 l k :=
      ⟨i 1, i 2, by
        have hy : (i 0).val < 1 := (i 0).isLt
        funext a; match a with | 0 => exact Fin.ext (by show (i 0).val = 0; omega) | 1 => rfl | 2 => rfl⟩
    rw [q_at m c t ht]; exact h0 _
  have r1 : AllReal (s := S1x8448x512) (iblk m c 1 t) := fun i => by
    obtain ⟨l, k, rfl⟩ : ∃ (l : Fin 8448) (k : Fin 512), i = ix3 0 l k :=
      ⟨i 1, i 2, by
        have hy : (i 0).val < 1 := (i 0).isLt
        funext a; match a with | 0 => exact Fin.ext (by show (i 0).val = 0; omega) | 1 => rfl | 2 => rfl⟩
    rw [k_at m c t ht]; exact h1 _
  rw [he]
  by_cases hz : t.val % 33 = 0
  · rw [outsAt0_A m c t hz (by omega), Cert.MlaFirst.outA_at _ _ _ _ _ _ _ _ _ _ _ _ _ _ _ _ _ _ _ _ _ r0 r1 l h d, sc_at m c t ht, val_at m c t ht]
    exact (res_first _ _ _ h0 h1 _ h d _ (by show 256 * (t.val % 33) + l.val < 256; omega)).symm
  · rw [outsAt0_B m c t hz (by omega), Cert.MlaKernel.outB_at _ _ _ _ _ _ _ _ _ _ _ _ _ _ _ _ _ _ _ _ _ r0 r1 l h d, sc_at m c t ht, val_at m c t ht]
    exact (res_rest _ _ _ h0 h1 _ h d _ (by show ¬256 * (t.val % 33) + l.val < 256; omega)).symm

/-- The result array after the run. -/
theorem final (c : Dev nD) (h0 : AllReal (s := S2x8448x512) (m ((c : Thread nD τ).loc main_arg0))) (h1 : AllReal (s := S2x8448x512) (m ((c : Thread nD τ).loc main_arg1))) :
    (dats m 0 c).arrAt 3 cfg0.N
      = Cert.ReferenceIdeal.Read.val_main_v53 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t h0 h1 y

/-- From memories agreeing on the arguments, with queries and keys real, both programs run and end with equal results. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hargs
  refine ⟨fun c => Cert.ReferenceIdeal.Read.val_main_v53 (F := Ideal) (m ((c.tc : Thread nD τ).loc main_arg0)) (m ((c.tc : Thread nD τ).loc main_arg1)) (m ((c.tc : Thread nD τ).loc main_arg2)), ?_, ?_⟩
  · refine (θ_run (Cert.KernelIdeal.defs (F := Ideal)) _ _).mono (fun r h c => ?_) (run_blocks (F := Ideal) m g)
    obtain ⟨hv, a0, a1, a2⟩ := h c
    obtain ⟨r0, r1⟩ := Cert.MlaPre.finite_qk _ _ _ (hpre c)
    exact ⟨hv.trans (final m c r0 r1), a0, a1, a2⟩
  · refine (θ_run (Cert.ReferenceIdeal.defs (F := Ideal)) _ _).mono (fun r h c => ?_) (Cert.ReferenceIdeal.Value.run (F := Ideal) m' g')
    obtain ⟨hv, a0, a1, a2⟩ := h c
    refine ⟨(hv.trans (Cert.ReferenceIdeal.Read.val_main_v53_eq _ _)).trans ?_, a0, a1, a2⟩
    rw [(hargs c).1, (hargs c).2.1, (hargs c).2.2]

end Cert.MlaValue
-- ==== Proof.IpMath.lean ====
/-
  THE INPUT PROJECTION, AS MATHEMATICS OF ONE ROW over the extended reals: what both programs are shown to compute.
-/
module

public import proofs.«01_k».proof.Proof.OmMath

@[expose] public section

noncomputable section

open Idealize.ShloMosaic

namespace Cert.IpMath

/-- The column an element of the sliding-window keys and queries is turned against: the same place in the other half of its
    group of 32. -/
def sOther (j : Fin 640) : Fin 640 := ⟨if (j : ℕ) % 32 < 16 then j + 16 else j - 16, by split <;> omega⟩

/-- The column an element of the latent attention's queries and keys is turned against: the same place in the other half of
    its group of 16. -/
def mOther (j : Fin 512) : Fin 512 := ⟨if (j : ℕ) % 16 < 8 then j + 8 else j - 8, by split <;> omega⟩

/-- The projection of a row to a column. -/
def col (x : Fin 1024 → EReal) (w : Fin 1024 → EReal) : EReal := ∑ k, x k * w k

/-- A turned element of the sliding-window columns. The tables hold 128 lanes. -/
def sTurn (p : Fin 640 → EReal) (cos sin : Fin 128 → EReal) (j : Fin 640) : EReal :=
  p j * cos ⟨j % 128, by omega⟩ + p (sOther j) * sin ⟨j % 128, by omega⟩

/-- A turned element of the latent attention's columns. The tables hold 128 lanes. -/
def mTurn (p : Fin 512 → EReal) (cos sin : Fin 128 → EReal) (j : Fin 512) : EReal :=
  p j * cos ⟨j % 128, by omega⟩ + p (mOther j) * sin ⟨j % 128, by omega⟩

/-- The latent attention's queries before they are turned: the low-rank row normed, then projected. -/
def qRow (p g : Fin 256 → EReal) (w : Fin 256 → Fin 512 → EReal) (j : Fin 512) : EReal :=
  ∑ k, OmMath.rms (Ideal.ofBits .f32 0x43800000#32) p g k * w k j

/-- The queries' factor: one over the root of ninety-six, times one over the logarithm of two. -/
def qScale : EReal := (((Real.sqrt 96)⁻¹ * (Real.log 2)⁻¹ : ℝ) : EReal)

/-- A projection of the normed low-rank row of keys and values. -/
def kvRow (p g : Fin 128 → EReal) (w : Fin 128 → EReal) : EReal :=
  ∑ k, OmMath.rms (Ideal.ofBits .f32 0x43000000#32) p g k * w k

end Cert.IpMath
-- ==== Proof.IpKernel.lean ====
/-
  THE KERNEL'S SIDE of the input projection: what a grid point's body stores at row `r` and a column of each of its eight
  blocks, in terms of the rows its input blocks hold.
-/
module

public import proofs.«01_k».proof.Proof.IpMath
public import proofs.«01_k».proof.Proof.Gen.InProjIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.IpKernel

open Cert.InProjIdeal Cert.InProjIdeal.Gen Cert.IpMath

/-- The modulated row of a block's row. -/
def xAt (v0 : FVec Ideal S256x1024 .f32) (v1 : FVec Ideal S1x1024 .f32) (v14 v20 : FVec Ideal S1x1x1024 .f32) (r : Fin 256) : Fin 1024 → EReal :=
  OmMath.ada (fun l => v0 (ix2 r l)) (fun l => v1 (ix2 0 l)) (fun l => v14 (ix3 0 0 l)) (fun l => v20 (ix3 0 0 l))

theorem pay1_apply (v0 : FVec Ideal S256x1024 .f32) (v1 : FVec Ideal S1x1024 .f32) (v14 v20 : FVec Ideal S1x1x1024 .f32) (r : Fin 256) (l : Fin 1024) :
    k0_pay1 (F := Ideal) v0 v1 v14 v20 (ix2 r l) = xAt v0 v1 v14 v20 r l := by
  unfold xAt OmMath.ada OmMath.rms
  pointwise [k0_pay1]

/-- A projection of a row. -/
theorem pay3_apply (v0 : FVec Ideal S256x1024 .f32) (v1 : FVec Ideal S1x1024 .f32) (v14 v20 : FVec Ideal S1x1x1024 .f32) (v30 : FVec Ideal S1x1024x640 .bf16) (r : Fin 256) (l : Fin 640) :
    k0_pay3 (F := Ideal) v0 v1 v14 v20 v30 (ix2 r l) = col (xAt v0 v1 v14 v20 r) (fun k => v30 (ix3 0 k l)) := by
  have e := pay1_apply v0 v1 v14 v20
  unfold col
  pointwise [k0_pay3, e]

theorem pay2_apply (v0 : FVec Ideal S256x1024 .f32) (v1 : FVec Ideal S1x1024 .f32) (v14 v20 : FVec Ideal S1x1x1024 .f32) (v25 : FVec Ideal S1x1024x768 .bf16) (r : Fin 256) (l : Fin 768) :
    k0_pay2 (F := Ideal) v0 v1 v14 v20 v25 (ix2 r l) = col (xAt v0 v1 v14 v20 r) (fun k => v25 (ix3 0 k l)) := by
  have e := pay1_apply v0 v1 v14 v20
  unfold col
  pointwise [k0_pay2, e]

theorem pay4_apply (r : Fin 256) (l : Fin 128) : k0_pay4 (ix2 r l) = if (l : ℕ) % 32 < 16 then 1#1 else 0#1 := by
  have e : ∀ l : Fin 128, k0_pay4 (ix2 0 l) = if (l : ℕ) % 32 < 16 then 1#1 else 0#1 := by decide +kernel
  exact (show k0_pay4 (ix2 r l) = k0_pay4 (ix2 0 l) from rfl).trans (e l)

/-- Lanes 0 to 127 of the turned sliding-window columns. -/
theorem pay5_apply (v32 : FVec Ideal S256x640 .f32) (v33 v34 : FVec Ideal S256x128 .f32) (r : Fin 256) (l : Fin 128) :
    k0_pay5 (F := Ideal) v32 v33 v34 (ix2 r l)
      = sTurn (fun j => v32 (ix2 r j)) (fun l => v33 (ix2 r l)) (fun l => v34 (ix2 r l)) ⟨l, by omega⟩ := by
  have e := pay4_apply
  have hl : (0 + (l : ℕ)) % 128 = l := by omega
  have hl' : (l : ℕ) % 128 = l := by omega
  unfold sTurn sOther
  by_cases h : (l : ℕ) % 32 < 16
  · have h' : (0 + (l : ℕ)) % 32 < 16 := by omega
    have hm : (l + 128 - 112) % 128 = (l : ℕ) + 16 := by omega
    pointwise [k0_pay5, e, h, h', hm, hl, hl', Nat.add_assoc]
  · have h' : ¬ (0 + (l : ℕ)) % 32 < 16 := by omega
    have hm : (l + 128 - 16) % 128 = (l : ℕ) - 16 := by omega
    have hs : 0 + (l : ℕ) - 16 = 0 + (l - 16) := by omega
    pointwise [k0_pay5, e, h, h', hm, hl, hl', hs]

/-- Lanes 128 to 255 of the turned sliding-window columns. -/
theorem pay6_apply (v32 : FVec Ideal S256x640 .f32) (v33 v34 : FVec Ideal S256x128 .f32) (r : Fin 256) (l : Fin 128) :
    k0_pay6 (F := Ideal) v32 v33 v34 (ix2 r l)
      = sTurn (fun j => v32 (ix2 r j)) (fun l => v33 (ix2 r l)) (fun l => v34 (ix2 r l)) ⟨128 + l, by omega⟩ := by
  have e := pay4_apply
  have hl : (128 + (l : ℕ)) % 128 = l := by omega
  have hl' : (l : ℕ) % 128 = l := by omega
  unfold sTurn sOther
  by_cases h : (l : ℕ) % 32 < 16
  · have h' : (128 + (l : ℕ)) % 32 < 16 := by omega
    have hm : (l + 128 - 112) % 128 = (l : ℕ) + 16 := by omega
    pointwise [k0_pay6, e, h, h', hm, hl, hl', Nat.add_assoc]
  · have h' : ¬ (128 + (l : ℕ)) % 32 < 16 := by omega
    have hm : (l + 128 - 16) % 128 = (l : ℕ) - 16 := by omega
    have hs : 128 + (l : ℕ) - 16 = 128 + (l - 16) := by omega
    pointwise [k0_pay6, e, h, h', hm, hl, hl', hs]

/-- Lanes 256 to 383 of the turned sliding-window columns. -/
theorem pay7_apply (v32 : FVec Ideal S256x640 .f32) (v33 v34 : FVec Ideal S256x128 .f32) (r : Fin 256) (l : Fin 128) :
    k0_pay7 (F := Ideal) v32 v33 v34 (ix2 r l)
      = sTurn (fun j => v32 (ix2 r j)) (fun l => v33 (ix2 r l)) (fun l => v34 (ix2 r l)) ⟨256 + l, by omega⟩ := by
  have e := pay4_apply
  have hl : (256 + (l : ℕ)) % 128 = l := by omega
  have hl' : (l : ℕ) % 128 = l := by omega
  unfold sTurn sOther
  by_cases h : (l : ℕ) % 32 < 16
  · have h' : (256 + (l : ℕ)) % 32 < 16 := by omega
    have hm : (l + 128 - 112) % 128 = (l : ℕ) + 16 := by omega
    pointwise [k0_pay7, e, h, h', hm, hl, hl', Nat.add_assoc]
  · have h' : ¬ (256 + (l : ℕ)) % 32 < 16 := by omega
    have hm : (l + 128 - 16) % 128 = (l : ℕ) - 16 := by omega
    have hs : 256 + (l : ℕ) - 16 = 256 + (l - 16) := by omega
    pointwise [k0_pay7, e, h, h', hm, hl, hl', hs]

/-- The turned sliding-window columns, the last two stretches of lanes turned here and the others given. -/
theorem pay9_apply (v32 : FVec Ideal S256x640 .f32) (v33 v34 : FVec Ideal S256x128 .f32) (r : Fin 256) (j : Fin 640) :
    k0_pay9 (F := Ideal) v32 v33 v34 k0_pay4 (k0_pay5 v32 v33 v34) (k0_pay6 v32 v33 v34) (k0_pay7 v32 v33 v34) (k0_pay8 v32) 112#32 (ix2 r j)
      = sTurn (fun j => v32 (ix2 r j)) (fun l => v33 (ix2 r l)) (fun l => v34 (ix2 r l)) j := by
  have e := pay4_apply
  have e5 := pay5_apply v32 v33 v34
  have e6 := pay6_apply v32 v33 v34
  have e7 := pay7_apply v32 v33 v34
  by_cases h0 : (j : ℕ) < 128
  · pointwise [k0_pay9, e5, h0]
  by_cases h1 : (j : ℕ) - 128 < 128
  · have hj : 128 + ((j : ℕ) - 128) = j := by omega
    pointwise [k0_pay9, e6, h0, h1, hj]
  by_cases h2 : (j : ℕ) - 128 - 128 < 128
  · have hj : 256 + ((j : ℕ) - 128 - 128) = j := by omega
    pointwise [k0_pay9, e7, h0, h1, h2, hj]
  unfold sTurn sOther
  by_cases h3 : (j : ℕ) - 128 - 128 - 128 < 128
  · have hj : 384 + ((j : ℕ) - 128 - 128 - 128) = j := by omega
    have hl : (j : ℕ) - 128 - 128 - 128 = j % 128 := by omega
    have hj' : 384 + (j : ℕ) % 128 = j := by omega
    have h3' : (j : ℕ) % 128 < 128 := by omega
    by_cases h : (j : ℕ) % 32 < 16
    · have h' : (j : ℕ) % 128 % 32 < 16 := by omega
      have hm : 384 + ((j : ℕ) % 128 + 128 - 112) % 128 = j + 16 := by omega
      pointwise [k0_pay9, k0_pay8, e, h0, h1, h2, h3, h3', h, h', hm, hl, hj']
    · have h' : ¬ (j : ℕ) % 128 % 32 < 16 := by omega
      have hm : 384 + ((j : ℕ) % 128 + 128 - 16) % 128 = j - 16 := by omega
      pointwise [k0_pay9, k0_pay8, e, h0, h1, h2, h3, h3', h, h', hm, hl, hj']
  · have hl : (j : ℕ) - 128 - 128 - 128 - 128 = j % 128 := by omega
    have hj' : 512 + (j : ℕ) % 128 = j := by omega
    by_cases h : (j : ℕ) % 32 < 16
    · have h' : (j : ℕ) % 128 % 32 < 16 := by omega
      have hm : 512 + ((j : ℕ) % 128 + 128 - 112) % 128 = j + 16 := by omega
      pointwise [k0_pay9, k0_pay8, e, h0, h1, h2, h3, h, h', hm, hl, hj']
    · have h' : ¬ (j : ℕ) % 128 % 32 < 16 := by omega
      have hm : 512 + ((j : ℕ) % 128 + 128 - 16) % 128 = j - 16 := by omega
      pointwise [k0_pay9, k0_pay8, e, h0, h1, h2, h3, h, h', hm, hl, hj']

/-- The latent attention's turn of one stretch of 128 lanes. -/
def mPart (v v97 v98 : FVec Ideal S256x128 .f32) : FVec Ideal S256x128 .f32 :=
  addf (mulf v v97) (mulf (select k0_pay14 (dynamicRotate 1 120#32 none v rotates_S256x128_d1) (dynamicRotate 1 8#32 none v rotates_S256x128_d1)) v98)

/-- The latent attention's turn of its four stretches. -/
def mAll (v97 v98 : FVec Ideal S256x128 .f32) (v : FVec Ideal S256x512 .f32) : FVec Ideal S256x512 .f32 :=
  concatenate S256x512 1 [⟨S256x128, mPart (extractStridedSlice S256x128 ![0, 0] v slices_S256x512_o0_0_S256x128) v97 v98⟩,
    ⟨S256x128, mPart (extractStridedSlice S256x128 ![0, 128] v slices_S256x512_o0_128_S256x128) v97 v98⟩,
    ⟨S256x128, mPart (extractStridedSlice S256x128 ![0, 256] v slices_S256x512_o0_256_S256x128) v97 v98⟩,
    ⟨S256x128, mPart (extractStridedSlice S256x128 ![0, 384] v slices_S256x512_o0_384_S256x128) v97 v98⟩]
    concatenates_S256x128_S256x128_S256x128_S256x128_S256x512_d1

theorem pay14_apply (r : Fin 256) (l : Fin 128) : k0_pay14 (ix2 r l) = if (l : ℕ) % 16 < 8 then 1#1 else 0#1 := by
  have e : ∀ l : Fin 128, k0_pay14 (ix2 0 l) = if (l : ℕ) % 16 < 8 then 1#1 else 0#1 := by decide +kernel
  exact (show k0_pay14 (ix2 r l) = k0_pay14 (ix2 0 l) from rfl).trans (e l)

/-- One stretch at a lane. -/
theorem mPart_apply (v v97 v98 : FVec Ideal S256x128 .f32) (r : Fin 256) (l : Fin 128) :
    mPart v v97 v98 (ix2 r l)
      = v (ix2 r l) * v97 (ix2 r l) + v (ix2 r ⟨if (l : ℕ) % 16 < 8 then l + 8 else l - 8, by split <;> omega⟩) * v98 (ix2 r l) := by
  have e := pay14_apply
  by_cases h : (l : ℕ) % 16 < 8
  · have hm : (l + 128 - 120) % 128 = (l : ℕ) + 8 := by omega
    pointwise [mPart, e, h, hm]
  · have hm : (l + 128 - 8) % 128 = (l : ℕ) - 8 := by omega
    pointwise [mPart, e, h, hm]

theorem mAll_apply (v97 v98 : FVec Ideal S256x128 .f32) (v : FVec Ideal S256x512 .f32) (r : Fin 256) (j : Fin 512) :
    mAll v97 v98 v (ix2 r j) = mTurn (fun j => v (ix2 r j)) (fun l => v97 (ix2 r l)) (fun l => v98 (ix2 r l)) j := by
  have e := fun v => mPart_apply v v97 v98
  unfold mTurn mOther
  by_cases h : (j : ℕ) % 16 < 8
  · by_cases h0 : (j : ℕ) < 128
    · have hl : (j : ℕ) % 128 = j := by omega
      pointwise [mAll, e, h0, h, hl]
    by_cases h1 : (j : ℕ) - 128 < 128
    · have hl : (j : ℕ) % 128 = j - 128 := by omega
      have h' : ((j : ℕ) - 128) % 16 < 8 := by omega
      have hj : 128 + ((j : ℕ) - 128) = j := by omega
      have hm : 128 + ((j : ℕ) - 128 + 8) = j + 8 := by omega
      pointwise [mAll, e, h0, h1, h, h', hl, hj, hm]
    by_cases h2 : (j : ℕ) - 128 - 128 < 128
    · have hl : (j : ℕ) % 128 = j - 128 - 128 := by omega
      have h' : ((j : ℕ) - 128 - 128) % 16 < 8 := by omega
      have hj : 256 + ((j : ℕ) - 128 - 128) = j := by omega
      have hm : 256 + ((j : ℕ) - 128 - 128 + 8) = j + 8 := by omega
      pointwise [mAll, e, h0, h1, h2, h, h', hl, hj, hm]
    · have hl : (j : ℕ) % 128 = j - 128 - 128 - 128 := by omega
      have h' : ((j : ℕ) - 128 - 128 - 128) % 16 < 8 := by omega
      have hj : 384 + ((j : ℕ) - 128 - 128 - 128) = j := by omega
      have hm : 384 + ((j : ℕ) - 128 - 128 - 128 + 8) = j + 8 := by omega
      pointwise [mAll, e, h0, h1, h2, h, h', hl, hj, hm]
  · by_cases h0 : (j : ℕ) < 128
    · have hl : (j : ℕ) % 128 = j := by omega
      pointwise [mAll, e, h0, h, hl]
    by_cases h1 : (j : ℕ) - 128 < 128
    · have hl : (j : ℕ) % 128 = j - 128 := by omega
      have h' : ¬ ((j : ℕ) - 128) % 16 < 8 := by omega
      have hj : 128 + ((j : ℕ) - 128) = j := by omega
      have hm : 128 + ((j : ℕ) - 128 - 8) = j - 8 := by omega
      pointwise [mAll, e, h0, h1, h, h', hl, hj, hm]
    by_cases h2 : (j : ℕ) - 128 - 128 < 128
    · have hl : (j : ℕ) % 128 = j - 128 - 128 := by omega
      have h' : ¬ ((j : ℕ) - 128 - 128) % 16 < 8 := by omega
      have hj : 256 + ((j : ℕ) - 128 - 128) = j := by omega
      have hm : 256 + ((j : ℕ) - 128 - 128 - 8) = j - 8 := by omega
      pointwise [mAll, e, h0, h1, h2, h, h', hl, hj, hm]
    · have hl : (j : ℕ) % 128 = j - 128 - 128 - 128 := by omega
      have h' : ¬ ((j : ℕ) - 128 - 128 - 128) % 16 < 8 := by omega
      have hj : 384 + ((j : ℕ) - 128 - 128 - 128) = j := by omega
      have hm : 384 + ((j : ℕ) - 128 - 128 - 128 - 8) = j - 8 := by omega
      pointwise [mAll, e, h0, h1, h2, h, h', hl, hj, hm]

/-- The turned keys are the turn of their columns. -/
theorem pay23_eq (v97 v98 : FVec Ideal S256x128 .f32) (v189 : FVec Ideal S256x512 .f32) :
    k0_pay23 (F := Ideal) v97 v98 v189 (iota .tc S256x128 32 [1] iota_S256x128_d1_w32) 16#32 0#1 1#32 = mAll v97 v98 v189 := rfl

/-- The turned queries are the turn of their columns, scaled. -/
theorem pay20_eq (v97 v98 : FVec Ideal S256x128 .f32) (v101 : FVec Ideal S256x256 .f32) (v102 : FVec Ideal S1x256 .f32) (v109 : FVec Ideal S256x1 .f32) (v116 : FVec Ideal S256x512 .bf16) :
    k0_pay20 (F := Ideal) v97 v98 (k0_pay13 v101 v102 v109 v116) k0_pay14 (k0_pay15 v97 v98 v101 v102 v109 v116) (k0_pay16 v97 v98 v101 v102 v109 v116) (k0_pay17 v101 v102 v109 v116) (k0_pay18 v101 v102 v109 v116) (k0_pay19 v101 v102 v109 v116)
      = truncf .bf16 (mulf (mAll v97 v98 (k0_pay13 v101 v102 v109 v116)) (broadcast S256x512 (Named.named Cert.InProjIdeal.κ "q_scale" 0x3E16C740#32))) bitsLt_bf16_f32 := rfl

variable (x : FVec Ideal S256x1024 .bf16)

theorem pay10_apply (w : FVec Ideal S1x1024x128 .bf16) (r : Fin 256) (l : Fin 128) :
    k0_pay10 (F := Ideal) x w (ix2 r l) = col (fun k => x (ix2 r k)) (fun k => w (ix3 0 k l)) := by
  unfold col
  pointwise [k0_pay10]

theorem pay11_apply (w : FVec Ideal S1x1024x256 .bf16) (r : Fin 256) (l : Fin 256) :
    k0_pay11 (F := Ideal) x w (ix2 r l) = col (fun k => x (ix2 r k)) (fun k => w (ix3 0 k l)) := by
  unfold col
  pointwise [k0_pay11]

/-- The queries before they are turned. -/
theorem pay13_apply (w : FVec Ideal S1x1024x256 .bf16) (g : FVec Ideal S1x256 .f32) (u : FVec Ideal S256x512 .bf16) (r : Fin 256) (j : Fin 512) :
    k0_pay13 (F := Ideal) (k0_pay11 x w) g (k0_pay12 x w) u (ix2 r j)
      = qRow (fun l => col (fun k => x (ix2 r k)) (fun k => w (ix3 0 k l))) (fun l => g (ix2 0 l)) (fun k j => u (ix2 k j)) j := by
  have e := pay11_apply x w
  unfold qRow OmMath.rms
  pointwise [k0_pay13, k0_pay12, e]

/-- The stored queries. -/
theorem pay20_apply (v97 v98 : FVec Ideal S256x128 .f32) (w : FVec Ideal S1x1024x256 .bf16) (g : FVec Ideal S1x256 .f32) (u : FVec Ideal S256x512 .bf16) (r : Fin 256) (j : Fin 512) :
    k0_pay20 (F := Ideal) v97 v98 (k0_pay13 (k0_pay11 x w) g (k0_pay12 x w) u) k0_pay14 (k0_pay15 v97 v98 (k0_pay11 x w) g (k0_pay12 x w) u) (k0_pay16 v97 v98 (k0_pay11 x w) g (k0_pay12 x w) u) (k0_pay17 (k0_pay11 x w) g (k0_pay12 x w) u) (k0_pay18 (k0_pay11 x w) g (k0_pay12 x w) u) (k0_pay19 (k0_pay11 x w) g (k0_pay12 x w) u) (ix2 r j)
      = mTurn (qRow (fun l => col (fun k => x (ix2 r k)) (fun k => w (ix3 0 k l))) (fun l => g (ix2 0 l)) (fun k j => u (ix2 k j)))
          (fun l => v97 (ix2 r l)) (fun l => v98 (ix2 r l)) j * qScale := by
  rw [pay20_eq, IdealRules.named_const.ideal_named_scalar Cert.InProjIdeal.κ "q_scale" (φ := .f32) 0x3E16C740#32 qScale rfl]
  have e := mAll_apply v97 v98 (k0_pay13 (k0_pay11 x w) g (k0_pay12 x w) u)
  have e' : (fun j => k0_pay13 (F := Ideal) (k0_pay11 x w) g (k0_pay12 x w) u (ix2 r j)) = _ := funext (pay13_apply x w g u r)
  pointwise [e, e']

theorem pay21_apply (w : FVec Ideal S1x1024x128 .bf16) (g : FVec Ideal S1x128 .f32) (r : Fin 256) (l : Fin 128) :
    k0_pay21 (F := Ideal) x w g (ix2 r l)
      = OmMath.rms (Ideal.ofBits .f32 0x43000000#32) (fun l => col (fun k => x (ix2 r k)) (fun k => w (ix3 0 k l))) (fun l => g (ix2 0 l)) l := by
  unfold OmMath.rms col
  pointwise [k0_pay21]

theorem pay22_apply (w : FVec Ideal S1x1024x512 .bf16) (r : Fin 256) (l : Fin 512) :
    k0_pay22 (F := Ideal) x w (ix2 r l) = col (fun k => x (ix2 r k)) (fun k => w (ix3 0 k l)) := by
  unfold col
  pointwise [k0_pay22]

/-- The stored keys. -/
theorem pay24_apply (v97 v98 : FVec Ideal S256x128 .f32) (w : FVec Ideal S1x1024x128 .bf16) (w' : FVec Ideal S1x1024x512 .bf16) (g : FVec Ideal S1x128 .f32) (u : FVec Ideal S128x512 .bf16) (r : Fin 256) (j : Fin 512) :
    k0_pay24 (F := Ideal) (k0_pay21 x w g) (k0_pay23 v97 v98 (k0_pay22 x w') (iota .tc S256x128 32 [1] iota_S256x128_d1_w32) 16#32 0#1 1#32) u (ix2 r j)
      = kvRow (fun l => col (fun k => x (ix2 r k)) (fun k => w (ix3 0 k l))) (fun l => g (ix2 0 l)) (fun k => u (ix2 k j))
        + mTurn (fun j => col (fun k => x (ix2 r k)) (fun k => w' (ix3 0 k j))) (fun l => v97 (ix2 r l)) (fun l => v98 (ix2 r l)) j := by
  rw [pay23_eq]
  have e := mAll_apply v97 v98 (k0_pay22 x w')
  have e' : (fun j => k0_pay22 (F := Ideal) x w' (ix2 r j)) = _ := funext (pay22_apply x w' r)
  have e'' := pay21_apply x w g
  unfold kvRow
  pointwise [k0_pay24, e, e', e'']

/-- The stored values, transposed. -/
theorem pay25_apply (w : FVec Ideal S1x1024x128 .bf16) (g : FVec Ideal S1x128 .f32) (u : FVec Ideal S128x256 .bf16) (z : Fin 1) (j : Fin 256) (r : Fin 256) :
    k0_pay25 (F := Ideal) (k0_pay21 x w g) u (ix3 z j r)
      = kvRow (fun l => col (fun k => x (ix2 r k)) (fun k => w (ix3 0 k l))) (fun l => g (ix2 0 l)) (fun k => u (ix2 k j)) := by
  have e'' := pay21_apply x w g
  unfold kvRow
  pointwise [k0_pay25, e'']

theorem pay26_apply (w : FVec Ideal S1x1024x256 .bf16) (r : Fin 256) (l : Fin 256) :
    k0_pay26 (F := Ideal) x w (ix2 r l) = col (fun k => x (ix2 r k)) (fun k => w (ix3 0 k l)) := by
  unfold col
  pointwise [k0_pay26]

theorem pay27_apply (w : FVec Ideal S1x1024x768 .bf16) (r : Fin 256) (l : Fin 768) :
    k0_pay27 (F := Ideal) x w (ix2 r l) = col (fun k => x (ix2 r k)) (fun k => w (ix3 0 k l)) := by
  unfold col
  pointwise [k0_pay27]

theorem pay28_apply (w : FVec Ideal S1x1024x128 .bf16) (r : Fin 256) (l : Fin 128) :
    k0_pay28 (F := Ideal) x w (ix2 r l) = col (fun k => x (ix2 r k)) (fun k => w (ix3 0 k l)) := by
  unfold col
  pointwise [k0_pay28]

end Cert.IpKernel
-- ==== Proof.IpSwap.lean ====
/-
  THE OTHER HALVES, READ THROUGH RESHAPES AND A REVERSAL: how the reference picks, for each column, the column it is turned
  against.
-/
module

public import proofs.«01_k».proof.Proof.IpMath
public import proofs.«01_k».proof.Proof.Gen.InProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.IpSwap

open Cert.InProjRefIdeal Cert.InProjRefIdeal.Gen Cert.InProjRefIdeal.Read Cert.IpMath

/-- A reversal of the pair axis at an index. -/
theorem rev16 (y : FVec Ideal S2x8448x5x4x2x16 .f32) (b : Fin 2) (r : Fin 8448) (h : Fin 5) (g : Fin 4) (p : Fin 2) (l : Fin 16) :
    Host.reverse [4] y (ix6 b r h g p l) = y (ix6 b r h g p.rev l) := by
  refine congrArg y (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem rev8 (y : FVec Ideal S2x8448x4x8x2x8 .f32) (b : Fin 2) (r : Fin 8448) (h : Fin 4) (g : Fin 8) (p : Fin 2) (l : Fin 8) :
    Host.reverse [4] y (ix6 b r h g p l) = y (ix6 b r h g p.rev l) := by
  refine congrArg y (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The other halves of groups of 32 columns. -/
theorem swap16 (x : FVec Ideal S2x8448x640 .f32) (b : Fin 2) (r : Fin 8448) (j : Fin 640) :
    shapeCast S2x8448x640 (shapeCast S2x8448x5x128 (Host.reverse [4] (shapeCast S2x8448x5x4x2x16 x shapeCasts_S2x8448x640_S2x8448x5x4x2x16)) shapeCasts_S2x8448x5x4x2x16_S2x8448x5x128) shapeCasts_S2x8448x5x128_S2x8448x640 (ix3 b r j)
      = x (ix3 b r (sOther j)) := by
  have hA : ∀ z : FVec Ideal S2x8448x5x4x2x16 .f32, shapeCast S2x8448x640 (shapeCast S2x8448x5x128 z shapeCasts_S2x8448x5x4x2x16_S2x8448x5x128) shapeCasts_S2x8448x5x128_S2x8448x640 (ix3 b r j)
      = z (ix6 b r ⟨(j : ℕ) / 128, by omega⟩ ⟨(j : ℕ) / 32 % 4, by omega⟩ ⟨(j : ℕ) / 16 % 2, by omega⟩ ⟨(j : ℕ) % 16, by omega⟩) := by
    intro z
    pointwise []
  have hC : ∀ (h : Fin 5) (g : Fin 4) (p : Fin 2) (l : Fin 16), shapeCast S2x8448x5x4x2x16 x shapeCasts_S2x8448x640_S2x8448x5x4x2x16 (ix6 b r h g p l)
      = x (ix3 b r ⟨h * 128 + g * 32 + p * 16 + l, by omega⟩) := by
    intro h g p l
    pointwise []
  rw [hA, rev16, hC]
  refine congrArg x (congrArg (ix3 b r) (Fin.ext ?_))
  simp only [Fin.val_rev, sOther]
  split <;> omega

/-- The other halves of groups of 16 columns. -/
theorem swap8 (x : FVec Ideal S2x8448x512 .f32) (b : Fin 2) (r : Fin 8448) (j : Fin 512) :
    shapeCast S2x8448x512 (shapeCast S2x8448x4x128 (Host.reverse [4] (shapeCast S2x8448x4x8x2x8 x shapeCasts_S2x8448x512_S2x8448x4x8x2x8)) shapeCasts_S2x8448x4x8x2x8_S2x8448x4x128) shapeCasts_S2x8448x4x128_S2x8448x512 (ix3 b r j)
      = x (ix3 b r (mOther j)) := by
  have hA : ∀ z : FVec Ideal S2x8448x4x8x2x8 .f32, shapeCast S2x8448x512 (shapeCast S2x8448x4x128 z shapeCasts_S2x8448x4x8x2x8_S2x8448x4x128) shapeCasts_S2x8448x4x128_S2x8448x512 (ix3 b r j)
      = z (ix6 b r ⟨(j : ℕ) / 128, by omega⟩ ⟨(j : ℕ) / 16 % 8, by omega⟩ ⟨(j : ℕ) / 8 % 2, by omega⟩ ⟨(j : ℕ) % 8, by omega⟩) := by
    intro z
    pointwise []
  have hC : ∀ (h : Fin 4) (g : Fin 8) (p : Fin 2) (l : Fin 8), shapeCast S2x8448x4x8x2x8 x shapeCasts_S2x8448x512_S2x8448x4x8x2x8 (ix6 b r h g p l)
      = x (ix3 b r ⟨h * 128 + g * 16 + p * 8 + l, by omega⟩) := by
    intro h g p l
    pointwise []
  rw [hA, rev8, hC]
  refine congrArg x (congrArg (ix3 b r) (Fin.ext ?_))
  simp only [Fin.val_rev, mOther]
  split <;> omega

end Cert.IpSwap
-- ==== Proof.IpRef.lean ====
/-
  THE REFERENCE'S SIDE of the input projection: its eight results at a row and a column, in terms of the arguments' rows.
-/
module

public import proofs.«01_k».proof.Proof.IpSwap
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.IpRef

open Cert.InProjRefIdeal Cert.InProjRefIdeal.Gen Cert.InProjRefIdeal.Read Cert.IpMath Cert.IpSwap

variable (x0 : FVec Ideal S16896x1024 .f32) (x1 : FVec Ideal S8x6x1024 .f32) (x2 : FVec Ideal S1x1024 .f32) (x3 : FVec Ideal S4x1024x3584 .bf16)
  (x4 x5 x6 x7 : FVec Ideal S8448x128 .f32) (x8 : FVec Ideal S1x256 .f32) (x9 : FVec Ideal S1x128 .f32) (x10 : FVec Ideal S256x512 .bf16)
  (x11 : FVec Ideal S128x512 .bf16) (x12 : FVec Ideal S128x256 .bf16)

/-- The flat row of row `r` of batch `b`. -/
abbrev flat (b : Fin 2) (r : Fin 8448) : Fin 16896 := ⟨b * 8448 + r, by omega⟩

/-- The modulation a row takes: the first entry for a context row, the batch's own for the others. -/
def mdR (b : Fin 2) (r : Fin 8448) : Fin 8 := if (r : ℕ) < 256 then 0 else ⟨1 + b, by omega⟩

/-- The modulated row, with modulation `q`. -/
def xR (q : Fin 8) (R : Fin 16896) : Fin 1024 → EReal :=
  OmMath.ada (fun l => x0 (ix2 R l)) (fun l => x2 (ix2 0 l)) (fun l => x1 (ix3 q 1 l)) (fun l => x1 (ix3 q 0 l))

/-- The row's projection to a column. -/
def pR (q : Fin 8) (R : Fin 16896) (j : Fin 3584) : EReal := col (xR x0 x1 x2 q R) (fun k => x3 (ix3 0 k j))

/-- The modulated rows. -/
theorem v33_apply (b : Fin 2) (r : Fin 256) (l : Fin 1024) :
    val_main_v33 (F := Ideal) x0 x1 x2 (ix3 b r l) = xR x0 x1 x2 0 (flat b ⟨r, by omega⟩) l := by
  unfold xR OmMath.ada OmMath.rms
  pointwise [val_main_cst, val_main_cst_0, val_main_cst_1, val_main_cst_2, val_main_cst_3, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]

theorem v46_apply (b : Fin 2) (r : Fin 8192) (l : Fin 1024) :
    val_main_v46 (F := Ideal) x0 x1 x2 (ix3 b r l) = xR x0 x1 x2 ⟨1 + b, by omega⟩ (flat b ⟨256 + r, by omega⟩) l := by
  unfold xR OmMath.ada OmMath.rms
  pointwise [val_main_cst, val_main_cst_0, val_main_cst_1, val_main_cst_2, val_main_cst_3, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]

theorem v47_apply (b : Fin 2) (r : Fin 8448) (l : Fin 1024) :
    val_main_v47 (F := Ideal) x0 x1 x2 (ix3 b r l) = xR x0 x1 x2 (mdR b r) (flat b r) l := by
  have e := v33_apply x0 x1 x2
  have e' := v46_apply x0 x1 x2
  unfold mdR
  by_cases h : (r : ℕ) < 256
  · pointwise [val_main_v47, e, e', h]
  · have hr : 256 + ((r : ℕ) - 256) = r := by omega
    pointwise [val_main_v47, e, e', h, hr]

/-- The projection. -/
theorem v48_apply (b : Fin 2) (r : Fin 8448) (j : Fin 3584) :
    val_main_v48 (F := Ideal) x0 x1 x2 x3 (ix3 b r j) = pR x0 x1 x2 x3 (mdR b r) (flat b r) j := by
  have e := v47_apply x0 x1 x2
  unfold pR col
  pointwise [val_main_v48, val_main_v0, val_main_v1, val_main_v2, e]

/-- Columns multiplied by the tables and added, through the reshapes, for columns and other halves given. -/
theorem turn16 (y : FVec Ideal S2x8448x640 .f32) (z : FVec Ideal S2x8448x5x128 .f32) (b : Fin 2) (r : Fin 8448) (j : Fin 640) :
    shapeCast S2x8448x640 (addf (mulf (shapeCast S2x8448x5x128 y shapeCasts_S2x8448x640_S2x8448x5x128) (val_main_v64 (F := Ideal) x4)) (mulf z (val_main_v68 (F := Ideal) x5))) shapeCasts_S2x8448x5x128_S2x8448x640 (ix3 b r j)
      = y (ix3 b r j) * x4 (ix2 r ⟨j % 128, by omega⟩)
        + shapeCast S2x8448x640 z shapeCasts_S2x8448x5x128_S2x8448x640 (ix3 b r j) * x5 (ix2 r ⟨j % 128, by omega⟩) := by
  pointwise [val_main_v62, val_main_v63, val_main_v64, val_main_v66, val_main_v67, val_main_v68]

theorem turn8 (y : FVec Ideal S2x8448x512 .f32) (z : FVec Ideal S2x8448x4x128 .f32) (b : Fin 2) (r : Fin 8448) (j : Fin 512) :
    shapeCast S2x8448x512 (addf (mulf (shapeCast S2x8448x4x128 y shapeCasts_S2x8448x512_S2x8448x4x128) (val_main_v94 (F := Ideal) x6)) (mulf z (val_main_v98 (F := Ideal) x7))) shapeCasts_S2x8448x4x128_S2x8448x512 (ix3 b r j)
      = y (ix3 b r j) * x6 (ix2 r ⟨j % 128, by omega⟩)
        + shapeCast S2x8448x512 z shapeCasts_S2x8448x4x128_S2x8448x512 (ix3 b r j) * x7 (ix2 r ⟨j % 128, by omega⟩) := by
  pointwise [val_main_v92, val_main_v93, val_main_v94, val_main_v96, val_main_v97, val_main_v98]

end Cert.IpRef
-- ==== Proof.IpRefTurn.lean ====
/-
  THE REFERENCE'S SIDE of the input projection: the sliding-window columns.
-/
module

public import proofs.«01_k».proof.Proof.IpRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.IpRef

open Cert.InProjRefIdeal Cert.InProjRefIdeal.Gen Cert.InProjRefIdeal.Read Cert.IpMath Cert.IpSwap

variable (x0 : FVec Ideal S16896x1024 .f32) (x1 : FVec Ideal S8x6x1024 .f32) (x2 : FVec Ideal S1x1024 .f32) (x3 : FVec Ideal S4x1024x3584 .bf16)
  (x4 x5 x6 x7 : FVec Ideal S8448x128 .f32) (x8 : FVec Ideal S1x256 .f32) (x9 : FVec Ideal S1x128 .f32) (x10 : FVec Ideal S256x512 .bf16)
  (x11 : FVec Ideal S128x512 .bf16) (x12 : FVec Ideal S128x256 .bf16)

/-- The sliding-window columns, turned. -/
theorem v71_apply (b : Fin 2) (r : Fin 8448) (j : Fin 640) :
    val_main_v71 (F := Ideal) x0 x1 x2 x3 x4 x5 (ix3 b r j)
      = sTurn (fun j => pR x0 x1 x2 x3 (mdR b r) (flat b r) ⟨768 + j, by omega⟩) (fun l => x4 (ix2 r l)) (fun l => x5 (ix2 r l)) j := by
  have e : ∀ j : Fin 640, val_main_v50 (F := Ideal) x0 x1 x2 x3 (ix3 b r j) = pR x0 x1 x2 x3 (mdR b r) (flat b r) ⟨768 + j, by omega⟩ := by
    intro j
    have e := v48_apply x0 x1 x2 x3
    pointwise [val_main_v50, e]
  unfold val_main_v71 val_main_v70 val_main_v69 val_main_v65 val_main_v58 val_main_v61 val_main_v60 val_main_v59 sTurn
  rw [turn16, swap16]
  simp only [e]

/-- The sliding-window result. -/
theorem v72_apply (b : Fin 2) (r : Fin 8448) (j : Fin 768) :
    val_main_v72 (F := Ideal) x0 x1 x2 x3 x4 x5 (ix3 b r j)
      = if h : (j : ℕ) < 640 then sTurn (fun j => pR x0 x1 x2 x3 (mdR b r) (flat b r) ⟨768 + j, by omega⟩) (fun l => x4 (ix2 r l)) (fun l => x5 (ix2 r l)) ⟨j, h⟩
        else pR x0 x1 x2 x3 (mdR b r) (flat b r) ⟨768 + j, by omega⟩ := by
  have e := v71_apply x0 x1 x2 x3 x4 x5
  have e' := v48_apply x0 x1 x2 x3
  by_cases h : (j : ℕ) < 640
  · pointwise [val_main_v72, e, h]
  · have hj : 1408 + ((j : ℕ) - 640) = 768 + j := by omega
    pointwise [val_main_v72, val_main_v51, e', h, hj]

end Cert.IpRef
-- ==== Proof.IpRefMla.lean ====
/-
  THE REFERENCE'S SIDE of the input projection: the latent attention's queries, keys and values.
-/
module

public import proofs.«01_k».proof.Proof.IpRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.IpRef

open Cert.InProjRefIdeal Cert.InProjRefIdeal.Gen Cert.InProjRefIdeal.Read Cert.IpMath Cert.IpSwap

variable (x0 : FVec Ideal S16896x1024 .f32) (x1 : FVec Ideal S8x6x1024 .f32) (x2 : FVec Ideal S1x1024 .f32) (x3 : FVec Ideal S4x1024x3584 .bf16)
  (x4 x5 x6 x7 : FVec Ideal S8448x128 .f32) (x8 : FVec Ideal S1x256 .f32) (x9 : FVec Ideal S1x128 .f32) (x10 : FVec Ideal S256x512 .bf16)
  (x11 : FVec Ideal S128x512 .bf16) (x12 : FVec Ideal S128x256 .bf16)

/-- The latent attention's queries before they are turned. -/
theorem v87_apply (b : Fin 2) (r : Fin 8448) (j : Fin 512) :
    val_main_v87 (F := Ideal) x0 x1 x2 x3 x8 x10 (ix3 b r j)
      = qRow (fun l => pR x0 x1 x2 x3 (mdR b r) (flat b r) ⟨1536 + l, by omega⟩) (fun l => x8 (ix2 0 l)) (fun k j => x10 (ix2 k j)) j := by
  have e := v48_apply x0 x1 x2 x3
  unfold qRow OmMath.rms
  pointwise [val_main_v87, val_main_v86, val_main_v85, val_main_v84, val_main_v83, val_main_v82, val_main_v81, val_main_v80, val_main_v79, val_main_v78, val_main_v77, val_main_v76, val_main_v75, val_main_v74, val_main_v73, val_main_cst_4, val_main_cst_5, val_main_cst_6, val_main_v52, val_main_v3, e]

/-- The latent attention's queries, turned. -/
theorem v101_apply (b : Fin 2) (r : Fin 8448) (j : Fin 512) :
    val_main_v101 (F := Ideal) x0 x1 x2 x3 x6 x7 x8 x10 (ix3 b r j)
      = mTurn (qRow (fun l => pR x0 x1 x2 x3 (mdR b r) (flat b r) ⟨1536 + l, by omega⟩) (fun l => x8 (ix2 0 l)) (fun k j => x10 (ix2 k j)))
          (fun l => x6 (ix2 r l)) (fun l => x7 (ix2 r l)) j := by
  have e := v87_apply x0 x1 x2 x3 x8 x10 b r
  unfold val_main_v101 val_main_v100 val_main_v99 val_main_v95 val_main_v88 val_main_v91 val_main_v90 val_main_v89 mTurn
  rw [turn8, swap8]
  simp only [e]

/-- The root of ninety-six times the logarithm of two. -/
theorem root_log : Ideal.sqrt (Ideal.ofBits .f32 0x42C00000#32) * Ideal.log (Ideal.ofBits .f32 0x40000000#32) = ((Real.sqrt 96 * Real.log 2 : ℝ) : EReal) := by
  have e : Ideal.ofBits .f32 0x42C00000#32 = ((96 : ℝ) : EReal) := by
    simp [Ideal.ofBits, Ideal.ieee]
    rw [← EReal.coe_mul]; norm_num
  have e' : Ideal.ofBits .f32 0x40000000#32 = ((2 : ℝ) : EReal) := by
    simp [Ideal.ofBits, Ideal.ieee]
    rw [← EReal.coe_mul]; norm_num
  rw [e, e', Ideal.sqrt_coe, if_neg (by norm_num), Ideal.log_coe, if_neg (by norm_num), EReal.coe_mul]

/-- Division by it is the queries' factor. -/
theorem div_root_log (y : EReal) : Ideal.div y (Ideal.sqrt (Ideal.ofBits .f32 0x42C00000#32) * Ideal.log (Ideal.ofBits .f32 0x40000000#32)) = y * qScale := by
  have h : Real.sqrt 96 * Real.log 2 ≠ 0 := mul_ne_zero (Real.sqrt_pos.mpr (by norm_num)).ne' (Real.log_pos one_lt_two).ne'
  rw [root_log, Ideal.div_coe h, one_div, mul_inv]
  rfl

/-- An array scaled by the queries' factor. -/
theorem scaled (y : FVec Ideal S2x8448x512 .f32) (b : Fin 2) (r : Fin 8448) (j : Fin 512) :
    Host.divf y (val_main_v105 (F := Ideal)) (ix3 b r j) = y (ix3 b r j) * qScale := by
  rw [← div_root_log]
  pointwise [val_main_v105, val_main_v104, val_main_v103, val_main_v102, val_main_cst_7, val_main_cst_8]

/-- The latent attention's queries. -/
theorem v106_apply (b : Fin 2) (r : Fin 8448) (j : Fin 512) :
    val_main_v106 (F := Ideal) x0 x1 x2 x3 x6 x7 x8 x10 (ix3 b r j)
      = mTurn (qRow (fun l => pR x0 x1 x2 x3 (mdR b r) (flat b r) ⟨1536 + l, by omega⟩) (fun l => x8 (ix2 0 l)) (fun k j => x10 (ix2 k j)))
          (fun l => x6 (ix2 r l)) (fun l => x7 (ix2 r l)) j * qScale := by
  unfold val_main_v106
  rw [scaled, v101_apply]

/-- The normed low-rank row of keys and values. -/
theorem v120_apply (b : Fin 2) (r : Fin 8448) (l : Fin 128) :
    val_main_v120 (F := Ideal) x0 x1 x2 x3 x9 (ix3 b r l)
      = OmMath.rms (Ideal.ofBits .f32 0x43000000#32) (fun l => pR x0 x1 x2 x3 (mdR b r) (flat b r) ⟨1792 + l, by omega⟩) (fun l => x9 (ix2 0 l)) l := by
  have e := v48_apply x0 x1 x2 x3
  unfold OmMath.rms
  pointwise [val_main_v120, val_main_v119, val_main_v118, val_main_v117, val_main_v116, val_main_v115, val_main_v114, val_main_v113, val_main_v112, val_main_v111, val_main_v110, val_main_v109, val_main_v108, val_main_v107, val_main_cst_9, val_main_cst_10, val_main_cst_11, val_main_v53, e]

/-- The latent attention's keys. -/
theorem v136_apply (b : Fin 2) (r : Fin 8448) (j : Fin 512) :
    val_main_v136 (F := Ideal) x0 x1 x2 x3 x6 x7 x9 x11 (ix3 b r j)
      = kvRow (fun l => pR x0 x1 x2 x3 (mdR b r) (flat b r) ⟨1792 + l, by omega⟩) (fun l => x9 (ix2 0 l)) (fun k => x11 (ix2 k j))
        + mTurn (fun j => pR x0 x1 x2 x3 (mdR b r) (flat b r) ⟨1920 + j, by omega⟩) (fun l => x6 (ix2 r l)) (fun l => x7 (ix2 r l)) j := by
  have e : ∀ j : Fin 512, val_main_v54 (F := Ideal) x0 x1 x2 x3 (ix3 b r j) = pR x0 x1 x2 x3 (mdR b r) (flat b r) ⟨1920 + j, by omega⟩ := by
    intro j
    have e := v48_apply x0 x1 x2 x3
    pointwise [val_main_v54, e]
  have h : val_main_v135 (F := Ideal) x0 x1 x2 x3 x6 x7 (ix3 b r j)
      = mTurn (fun j => pR x0 x1 x2 x3 (mdR b r) (flat b r) ⟨1920 + j, by omega⟩) (fun l => x6 (ix2 r l)) (fun l => x7 (ix2 r l)) j := by
    have e6 : val_main_v128 (F := Ideal) x6 = val_main_v94 (F := Ideal) x6 := rfl
    have e7 : val_main_v132 (F := Ideal) x7 = val_main_v98 (F := Ideal) x7 := rfl
    unfold val_main_v135 val_main_v134 val_main_v133 val_main_v129 val_main_v122 val_main_v125 val_main_v124 val_main_v123 mTurn
    rw [e6, e7, turn8, swap8]
    simp only [e]
  have e' := v120_apply x0 x1 x2 x3 x9
  unfold kvRow
  pointwise [val_main_v136, val_main_v121, val_main_v4, e', h]

/-- The latent attention's values. -/
theorem v137_apply (b : Fin 2) (r : Fin 8448) (j : Fin 256) :
    val_main_v137 (F := Ideal) x0 x1 x2 x3 x9 x12 (ix3 b r j)
      = kvRow (fun l => pR x0 x1 x2 x3 (mdR b r) (flat b r) ⟨1792 + l, by omega⟩) (fun l => x9 (ix2 0 l)) (fun k => x12 (ix2 k j)) := by
  have e' := v120_apply x0 x1 x2 x3 x9
  unfold kvRow
  pointwise [val_main_v137, val_main_v5, e']

end Cert.IpRef
-- ==== Proof.IpRefOut.lean ====
/-
  THE REFERENCE'S SIDE of the input projection: its eight results at a row and a column.
-/
module

public import proofs.«01_k».proof.Proof.IpRefTurn
public import proofs.«01_k».proof.Proof.IpRefMla

@[expose] public section

set_option maxRecDepth 16384

noncomputable section

open Idealize.ShloMosaic Idealize.ShloMosaic.TcCoe Idealize.SL.Sem

namespace Cert.IpRef

open Cert.InProjRefIdeal Cert.InProjRefIdeal.Gen Cert.InProjRefIdeal.Read Cert.IpMath

/-- The batch and the row within it of a flat row. -/
abbrev bOf (R : Fin 16896) : Fin 2 := ⟨R / 8448, by omega⟩
abbrev rOf (R : Fin 16896) : Fin 8448 := ⟨R % 8448, by omega⟩

theorem flat_of (R : Fin 16896) : flat (bOf R) (rOf R) = R := Fin.ext (by show (R : ℕ) / 8448 * 8448 + R % 8448 = R; omega)

/-- Batches laid one after another, at a flat row. -/
theorem flat128 (y : FVec Ideal S2x8448x128 .f32) (R : Fin 16896) (l : Fin 128) :
    shapeCast S16896x128 y shapeCasts_S2x8448x128_S16896x128 (ix2 R l) = y (ix3 (bOf R) (rOf R) l) := by
  pointwise

theorem flat256 (y : FVec Ideal S2x8448x256 .f32) (R : Fin 16896) (l : Fin 256) :
    shapeCast S16896x256 y shapeCasts_S2x8448x256_S16896x256 (ix2 R l) = y (ix3 (bOf R) (rOf R) l) := by
  pointwise

theorem flat512 (y : FVec Ideal S2x8448x512 .f32) (R : Fin 16896) (l : Fin 512) :
    shapeCast S16896x512 y shapeCasts_S2x8448x512_S16896x512 (ix2 R l) = y (ix3 (bOf R) (rOf R) l) := by
  pointwise

theorem flat768 (y : FVec Ideal S2x8448x768 .f32) (R : Fin 16896) (l : Fin 768) :
    shapeCast S16896x768 y shapeCasts_S2x8448x768_S16896x768 (ix2 R l) = y (ix3 (bOf R) (rOf R) l) := by
  pointwise

/-- The values' layout: by chunk of 768 rows, transposed. -/
theorem chunked (y : FVec Ideal S2x8448x256 .f32) (n : Fin 22) (j : Fin 256) (l : Fin 768) (R : Fin 16896) (hR : (R : ℕ) = n * 768 + l) :
    shapeCast S22x256x768 (transpose S2x11x256x768 [0, 1, 3, 2] (shapeCast S2x11x768x256 y shapeCasts_S2x8448x256_S2x11x768x256)
      transposes_S2x11x768x256_S2x11x256x768_0_1_3_2) shapeCasts_S2x11x256x768_S22x256x768 (ix3 n j l) = y (ix3 (bOf R) (rOf R) j) := by
  have hb : (n : ℕ) / 11 = R / 8448 := by omega
  have hr : (n : ℕ) % 11 * 768 + l = R % 8448 := by omega
  pointwise [hb, hr]

variable (x0 : FVec Ideal S16896x1024 .f32) (x1 : FVec Ideal S8x6x1024 .f32) (x2 : FVec Ideal S1x1024 .f32) (x3 : FVec Ideal S4x1024x3584 .bf16)
  (x4 x5 x6 x7 : FVec Ideal S8448x128 .f32) (x8 : FVec Ideal S1x256 .f32) (x9 : FVec Ideal S1x128 .f32) (x10 : FVec Ideal S256x512 .bf16)
  (x11 : FVec Ideal S128x512 .bf16) (x12 : FVec Ideal S128x256 .bf16)

/-- The projected row, with its own modulation. -/
def pO (R : Fin 16896) (j : Fin 3584) : EReal := pR x0 x1 x2 x3 (mdR (bOf R) (rOf R)) R j

theorem v48_at (R : Fin 16896) (j : Fin 3584) :
    val_main_v48 (F := Ideal) x0 x1 x2 x3 (ix3 (bOf R) (rOf R) j) = pO x0 x1 x2 x3 R j := by
  rw [v48_apply, flat_of]; rfl

theorem slice49 (y : FVec Ideal S2x8448x3584 .f32) (b : Fin 2) (r : Fin 8448) (l : Fin 768) :
    extractStridedSlice S2x8448x768 ![0, 0, 0] y slices_S2x8448x3584_S2x8448x768_0_0_0 (ix3 b r l) = y (ix3 b r ⟨l, by omega⟩) := by
  pointwise

theorem slice55 (y : FVec Ideal S2x8448x3584 .f32) (b : Fin 2) (r : Fin 8448) (l : Fin 256) :
    extractStridedSlice S2x8448x256 ![0, 0, 2432] y slices_S2x8448x3584_S2x8448x256_0_0_2432 (ix3 b r l) = y (ix3 b r ⟨2432 + l, by omega⟩) := by
  pointwise

theorem slice56 (y : FVec Ideal S2x8448x3584 .f32) (b : Fin 2) (r : Fin 8448) (l : Fin 768) :
    extractStridedSlice S2x8448x768 ![0, 0, 2688] y slices_S2x8448x3584_S2x8448x768_0_0_2688 (ix3 b r l) = y (ix3 b r ⟨2688 + l, by omega⟩) := by
  pointwise

theorem slice57 (y : FVec Ideal S2x8448x3584 .f32) (b : Fin 2) (r : Fin 8448) (l : Fin 128) :
    extractStridedSlice S2x8448x128 ![0, 0, 3456] y slices_S2x8448x3584_S2x8448x128_0_0_3456 (ix3 b r l) = y (ix3 b r ⟨3456 + l, by omega⟩) := by
  pointwise

/-- The first result: the projection's first columns. -/
theorem v142_apply (R : Fin 16896) (l : Fin 768) :
    val_main_v142 (F := Ideal) x0 x1 x2 x3 (ix2 R l) = pO x0 x1 x2 x3 R ⟨l, by omega⟩ := by
  rw [val_main_v142_apply]
  unfold val_main_v141 val_main_v49
  rw [flat768, slice49, v48_at]; rfl

/-- The second result: the sliding-window columns. -/
theorem v144_apply (R : Fin 16896) (j : Fin 768) :
    val_main_v144 (F := Ideal) x0 x1 x2 x3 x4 x5 (ix2 R j)
      = if h : (j : ℕ) < 640 then sTurn (fun j => pO x0 x1 x2 x3 R ⟨768 + j, by omega⟩) (fun l => x4 (ix2 (rOf R) l)) (fun l => x5 (ix2 (rOf R) l)) ⟨j, h⟩
        else pO x0 x1 x2 x3 R ⟨768 + j, by omega⟩ := by
  rw [val_main_v144_apply]
  unfold val_main_v143
  rw [flat768, v72_apply, flat_of]; rfl

/-- The third result: the latent attention's queries. -/
theorem v146_apply (R : Fin 16896) (j : Fin 512) :
    val_main_v146 (F := Ideal) x0 x1 x2 x3 x6 x7 x8 x10 (ix2 R j)
      = mTurn (qRow (fun l => pO x0 x1 x2 x3 R ⟨1536 + l, by omega⟩) (fun l => x8 (ix2 0 l)) (fun k j => x10 (ix2 k j)))
          (fun l => x6 (ix2 (rOf R) l)) (fun l => x7 (ix2 (rOf R) l)) j * qScale := by
  rw [val_main_v146_apply]
  unfold val_main_v145
  rw [flat512, v106_apply, flat_of]; rfl

/-- The fourth result: the latent attention's keys. -/
theorem v148_apply (R : Fin 16896) (j : Fin 512) :
    val_main_v148 (F := Ideal) x0 x1 x2 x3 x6 x7 x9 x11 (ix2 R j)
      = kvRow (fun l => pO x0 x1 x2 x3 R ⟨1792 + l, by omega⟩) (fun l => x9 (ix2 0 l)) (fun k => x11 (ix2 k j))
        + mTurn (fun j => pO x0 x1 x2 x3 R ⟨1920 + j, by omega⟩) (fun l => x6 (ix2 (rOf R) l)) (fun l => x7 (ix2 (rOf R) l)) j := by
  rw [val_main_v148_apply]
  unfold val_main_v147
  rw [flat512, v136_apply, flat_of]; rfl

/-- The fifth result: the latent attention's values. -/
theorem v149_apply (n : Fin 22) (j : Fin 256) (l : Fin 768) (R : Fin 16896) (hR : (R : ℕ) = n * 768 + l) :
    val_main_v149 (F := Ideal) x0 x1 x2 x3 x9 x12 (ix3 n j l)
      = kvRow (fun l => pO x0 x1 x2 x3 R ⟨1792 + l, by omega⟩) (fun l => x9 (ix2 0 l)) (fun k => x12 (ix2 k j)) := by
  rw [val_main_v149_apply]
  unfold val_main_v140 val_main_v139 val_main_v138
  rw [chunked _ n j l R hR, v137_apply, flat_of]; rfl

/-- The last three results: further columns of the projection. -/
theorem v150_apply (R : Fin 16896) (l : Fin 256) :
    val_main_v150 (F := Ideal) x0 x1 x2 x3 (ix2 R l) = pO x0 x1 x2 x3 R ⟨2432 + l, by omega⟩ := by
  unfold val_main_v150 val_main_v55
  rw [flat256, slice55, v48_at]

theorem v151_apply (R : Fin 16896) (l : Fin 768) :
    val_main_v151 (F := Ideal) x0 x1 x2 x3 (ix2 R l) = pO x0 x1 x2 x3 R ⟨2688 + l, by omega⟩ := by
  unfold val_main_v151 val_main_v56
  rw [flat768, slice56, v48_at]

theorem v152_apply (R : Fin 16896) (l : Fin 128) :
    val_main_v152 (F := Ideal) x0 x1 x2 x3 (ix2 R l) = pO x0 x1 x2 x3 R ⟨3456 + l, by omega⟩ := by
  unfold val_main_v152 val_main_v57
  rw [flat128, slice57, v48_at]

end Cert.IpRef
-- ==== Proof.IpBlocks.lean ====
/-
  THE INPUT PROJECTION, BLOCK BY BLOCK: what a grid point's body stores at a row and a column is the reference's value there.
-/
module

public import proofs.«01_k».proof.Proof.IpKernel
public import proofs.«01_k».proof.Proof.IpRefOut
public import proofs.«01_k».proof.Proof.Gen.InProjIdeal.Value

@[expose] public section

set_option maxRecDepth 16384

noncomputable section

open Idealize.ShloMosaic Idealize.ShloMosaic.TcCoe Idealize.SL.Sem
open Idealize.ShloMosaic.Pipeline (Dat)

namespace Cert.IpBlocks

open Cert.InProjIdeal Cert.InProjIdeal.Gen Cert.InProjIdeal.Value Cert.IpMath Cert.IpKernel Cert.IpRef

variable (m : (ℓ : Loc nD τ sig) → Buf (Elt Ideal) ℓ)

/-- Where each block lies at a grid point. -/
theorem idx : ∀ t : Fin cfg0.N, win0_0.index t = ![t.val, 0] ∧ win0_1.index t = ![if t.val % 33 = 0 then 0 else 1 + t.val / 33, 0, 0]
    ∧ win0_2.index t = ![0, 0] ∧ win0_3.index t = ![0, 0, 0] ∧ win0_4.index t = ![t.val % 33, 0] ∧ win0_5.index t = ![t.val % 33, 0]
    ∧ win0_6.index t = ![t.val % 33, 0] ∧ win0_7.index t = ![t.val % 33, 0] ∧ win0_8.index t = ![0, 0] ∧ win0_9.index t = ![0, 0]
    ∧ win0_10.index t = ![0, 0] ∧ win0_11.index t = ![0, 0] ∧ win0_12.index t = ![0, 0]
    ∧ win0_13.index t = ![t.val, 0] ∧ win0_14.index t = ![t.val, 0] ∧ win0_15.index t = ![t.val, 0] ∧ win0_16.index t = ![t.val, 0]
    ∧ win0_17.index t = ![t.val / 3, 0, t.val % 3] ∧ win0_18.index t = ![t.val, 0] ∧ win0_19.index t = ![t.val, 0] ∧ win0_20.index t = ![t.val, 0] :=
  (by decide +kernel : ∀ t : Fin grid0.N, _)

/-- Two stores side by side, read at a column. -/
theorem side (q : FVec Ideal S256x128 .bf16) (p : FVec Ideal S256x640 .bf16) (r : Fin 256) (j : Fin 768) :
    View.canon (Val := Elt Ideal) (s := S256x768) (e := .bf16)
        [⟨Rect.unit ![0, 640] ![256, 128] inb_S256x768_S256x128_0_640, q⟩, ⟨Rect.unit ![0, 0] ![256, 640] inb_S256x768_S256x640_0_0, p⟩] (ix2 r j)
      = if h : (j : ℕ) < 640 then p (ix2 r ⟨j, h⟩) else q (ix2 r ⟨j - 640, by omega⟩) := by
  by_cases h : (j : ℕ) < 640
  · rw [dif_pos h, View.canon_cons_of_not_mem]
    · have e : (ix2 r j : S256x768.Idx) = (Rect.unit ![0, 0] ![256, 640] inb_S256x768_S256x640_0_0).emb (ix2 r ⟨j, h⟩) := by
        funext a; apply Fin.ext; rw [Rect.emb_apply]
        match a with
        | ⟨0, _⟩ => show (r : ℕ) = 0 + 1 * r; omega
        | ⟨1, _⟩ => show (j : ℕ) = 0 + 1 * j; omega
      rw [e, View.canon_cons_emb]
    · intro hm
      have h1 : 640 ≤ (j : ℕ) := ((Rect.mem_set_unit (inb := inb_S256x768_S256x128_0_640)).mp hm 1).1
      omega
  · rw [dif_neg h]
    have e : (ix2 r j : S256x768.Idx) = (Rect.unit ![0, 640] ![256, 128] inb_S256x768_S256x128_0_640).emb (ix2 r ⟨j - 640, by omega⟩) := by
      funext a; apply Fin.ext; rw [Rect.emb_apply]
      match a with
      | ⟨0, _⟩ => show (r : ℕ) = 0 + 1 * r; omega
      | ⟨1, _⟩ => show (j : ℕ) = 640 + 1 * (j - 640); omega
    rw [e, View.canon_cons_emb]

/-- The modulation's scale and shift, and the modulated rows, as a grid point's body reads them. -/
abbrev scl (c : Dev nD) (t : Fin cfg0.N) : FVec Ideal S1x1x1024 .f32 :=
  View.ld (iblk m c 1 t) (Rect.unit ![0, 1, 0] ![1, 1, 1024] inb_S1x6x1024_S1x1x1024_0_1_0)
abbrev sft (c : Dev nD) (t : Fin cfg0.N) : FVec Ideal S1x1x1024 .f32 :=
  View.ld (iblk m c 1 t) (Rect.unit ![0, 0, 0] ![1, 1, 1024] inb_S1x6x1024_S1x1x1024_0_0_0)
abbrev xs (c : Dev nD) (t : Fin cfg0.N) : FVec Ideal S256x1024 .bf16 := k0_pay1 (iblk m c 0 t) (iblk m c 2 t) (scl m c t) (sft m c t)

/-- The arguments. -/
abbrev X0 (c : Dev nD) : FVec Ideal S16896x1024 .f32 := m ((c : Thread nD τ).loc main_arg0)
abbrev X1 (c : Dev nD) : FVec Ideal S8x6x1024 .f32 := m ((c : Thread nD τ).loc main_arg1)
abbrev X2 (c : Dev nD) : FVec Ideal S1x1024 .f32 := m ((c : Thread nD τ).loc main_arg2)
abbrev X3 (c : Dev nD) : FVec Ideal S4x1024x3584 .bf16 := m ((c : Thread nD τ).loc main_arg3)
abbrev X4 (c : Dev nD) : FVec Ideal S8448x128 .f32 := m ((c : Thread nD τ).loc main_arg4)
abbrev X5 (c : Dev nD) : FVec Ideal S8448x128 .f32 := m ((c : Thread nD τ).loc main_arg5)
abbrev X6 (c : Dev nD) : FVec Ideal S8448x128 .f32 := m ((c : Thread nD τ).loc main_arg6)
abbrev X7 (c : Dev nD) : FVec Ideal S8448x128 .f32 := m ((c : Thread nD τ).loc main_arg7)
abbrev X8 (c : Dev nD) : FVec Ideal S1x256 .f32 := m ((c : Thread nD τ).loc main_arg8)
abbrev X9 (c : Dev nD) : FVec Ideal S1x128 .f32 := m ((c : Thread nD τ).loc main_arg9)
abbrev X10 (c : Dev nD) : FVec Ideal S256x512 .bf16 := m ((c : Thread nD τ).loc main_arg10)
abbrev X11 (c : Dev nD) : FVec Ideal S128x512 .bf16 := m ((c : Thread nD τ).loc main_arg11)
abbrev X12 (c : Dev nD) : FVec Ideal S128x256 .bf16 := m ((c : Thread nD τ).loc main_arg12)

/-- A modulated row of a block is the reference's row. -/
theorem xrow (c : Dev nD) (t : Fin cfg0.N) (r : Fin 256) (R : Fin 16896) (hR : (R : ℕ) = t.val * 256 + r) :
    xAt (iblk m c 0 t) (iblk m c 2 t) (scl m c t) (sft m c t) r = xR (X0 m c) (X1 m c) (X2 m c) (mdR (bOf R) (rOf R)) R := by
  have ht : t.val < 66 := t.isLt
  have hr : (r : ℕ) < 256 := r.isLt
  obtain ⟨e0, e1, e2, -⟩ := idx t
  have hR' : R = ⟨t.val * 256 + r, by omega⟩ := Fin.ext hR
  have h0 : ∀ k : Fin 1024, iblk m c 0 t (ix2 r k) = X0 m c (ix2 R k) := by
    intro k; rw [hR']; blk_ext [iblk, V, e0]
  have h2 : ∀ k : Fin 1024, iblk m c 2 t (ix2 0 k) = X2 m c (ix2 0 k) := by
    intro k; blk_ext [iblk, V, e2]
  have h1 : ∀ (s : Fin 6) (l : Fin 1024), iblk m c 1 t (ix3 0 s l) = X1 m c (ix3 (mdR (bOf R) (rOf R)) s l) := by
    intro s l
    unfold mdR
    by_cases h : (R : ℕ) % 8448 < 256
    · have e1' : win0_1.index t = ![0, 0, 0] := by rw [e1, if_pos (by omega)]
      simp only [h, if_true]
      blk_ext [iblk, V, e1']
    · have e1' : win0_1.index t = ![1 + (R : ℕ) / 8448, 0, 0] := by
        rw [e1, if_neg (by omega), show t.val / 33 = (R : ℕ) / 8448 by omega]
      simp only [h, if_false]
      blk_ext [iblk, V, e1']
  have hs : ∀ l : Fin 1024, scl m c t (ix3 0 0 l) = iblk m c 1 t (ix3 0 1 l) := by
    intro l
    refine congrArg (iblk m c 1 t) (funext fun a => Fin.ext ?_)
    match a with
    | ⟨0, _⟩ => rfl
    | ⟨1, _⟩ => rfl
    | ⟨2, _⟩ => show 0 + 1 * (l : ℕ) = l; omega
  have hf : ∀ l : Fin 1024, sft m c t (ix3 0 0 l) = iblk m c 1 t (ix3 0 0 l) := by
    intro l
    refine congrArg (iblk m c 1 t) (funext fun a => Fin.ext ?_)
    match a with
    | ⟨0, _⟩ => rfl
    | ⟨1, _⟩ => rfl
    | ⟨2, _⟩ => show 0 + 1 * (l : ℕ) = l; omega
  unfold xAt xR
  simp only [h0, h2, hs, hf, h1]

/-- The same of the row the body rounds. -/
theorem xs_row (c : Dev nD) (t : Fin cfg0.N) (r : Fin 256) (R : Fin 16896) (hR : (R : ℕ) = t.val * 256 + r) :
    (fun k => xs m c t (ix2 r k)) = xR (X0 m c) (X1 m c) (X2 m c) (mdR (bOf R) (rOf R)) R := by
  rw [← xrow m c t r R hR]
  exact funext fun k => pay1_apply _ _ _ _ r k

/-- The projection's weights, as a grid point's body reads a stretch of their columns. -/
abbrev wA (c : Dev nD) (t : Fin cfg0.N) : FVec Ideal S1x1024x768 .bf16 :=
  View.ld (iblk m c 3 t) (Rect.unit ![0, 0, 0] ![1, 1024, 768] inb_S1x1024x3584_S1x1024x768_0_0_0)
abbrev wB (c : Dev nD) (t : Fin cfg0.N) : FVec Ideal S1x1024x640 .bf16 :=
  View.ld (iblk m c 3 t) (Rect.unit ![0, 0, 768] ![1, 1024, 640] inb_S1x1024x3584_S1x1024x640_0_0_768)
abbrev wC (c : Dev nD) (t : Fin cfg0.N) : FVec Ideal S1x1024x128 .bf16 :=
  View.ld (iblk m c 3 t) (Rect.unit ![0, 0, 1408] ![1, 1024, 128] inb_S1x1024x3584_S1x1024x128_0_0_1408)
abbrev wQ (c : Dev nD) (t : Fin cfg0.N) : FVec Ideal S1x1024x256 .bf16 :=
  View.ld (iblk m c 3 t) (Rect.unit ![0, 0, 1536] ![1, 1024, 256] inb_S1x1024x3584_S1x1024x256_0_0_1536)
abbrev wK (c : Dev nD) (t : Fin cfg0.N) : FVec Ideal S1x1024x128 .bf16 :=
  View.ld (iblk m c 3 t) (Rect.unit ![0, 0, 1792] ![1, 1024, 128] inb_S1x1024x3584_S1x1024x128_0_0_1792)
abbrev wR (c : Dev nD) (t : Fin cfg0.N) : FVec Ideal S1x1024x512 .bf16 :=
  View.ld (iblk m c 3 t) (Rect.unit ![0, 0, 1920] ![1, 1024, 512] inb_S1x1024x3584_S1x1024x512_0_0_1920)
abbrev wZ (c : Dev nD) (t : Fin cfg0.N) : FVec Ideal S1x1024x256 .bf16 :=
  View.ld (iblk m c 3 t) (Rect.unit ![0, 0, 2432] ![1, 1024, 256] inb_S1x1024x3584_S1x1024x256_0_0_2432)
abbrev wX (c : Dev nD) (t : Fin cfg0.N) : FVec Ideal S1x1024x768 .bf16 :=
  View.ld (iblk m c 3 t) (Rect.unit ![0, 0, 2688] ![1, 1024, 768] inb_S1x1024x3584_S1x1024x768_0_0_2688)
abbrev wD (c : Dev nD) (t : Fin cfg0.N) : FVec Ideal S1x1024x128 .bf16 :=
  View.ld (iblk m c 3 t) (Rect.unit ![0, 0, 3456] ![1, 1024, 128] inb_S1x1024x3584_S1x1024x128_0_0_3456)

theorem w3 (c : Dev nD) (t : Fin cfg0.N) (k : Fin 1024) (j : Fin 3584) : iblk m c 3 t (ix3 0 k j) = X3 m c (ix3 0 k j) := by
  obtain ⟨-, -, -, e3, -⟩ := idx t
  blk_ext [iblk, V, e3]

theorem wA_at (c : Dev nD) (t : Fin cfg0.N) (k : Fin 1024) (l : Fin 768) : wA m c t (ix3 0 k l) = X3 m c (ix3 0 k ⟨l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 0 + 1 * (l : ℕ) = l; omega
theorem wB_at (c : Dev nD) (t : Fin cfg0.N) (k : Fin 1024) (l : Fin 640) : wB m c t (ix3 0 k l) = X3 m c (ix3 0 k ⟨768 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 768 + 1 * (l : ℕ) = 768 + l; omega
theorem wC_at (c : Dev nD) (t : Fin cfg0.N) (k : Fin 1024) (l : Fin 128) : wC m c t (ix3 0 k l) = X3 m c (ix3 0 k ⟨1408 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 1408 + 1 * (l : ℕ) = 1408 + l; omega
theorem wQ_at (c : Dev nD) (t : Fin cfg0.N) (k : Fin 1024) (l : Fin 256) : wQ m c t (ix3 0 k l) = X3 m c (ix3 0 k ⟨1536 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 1536 + 1 * (l : ℕ) = 1536 + l; omega
theorem wK_at (c : Dev nD) (t : Fin cfg0.N) (k : Fin 1024) (l : Fin 128) : wK m c t (ix3 0 k l) = X3 m c (ix3 0 k ⟨1792 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 1792 + 1 * (l : ℕ) = 1792 + l; omega
theorem wR_at (c : Dev nD) (t : Fin cfg0.N) (k : Fin 1024) (l : Fin 512) : wR m c t (ix3 0 k l) = X3 m c (ix3 0 k ⟨1920 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 1920 + 1 * (l : ℕ) = 1920 + l; omega
theorem wZ_at (c : Dev nD) (t : Fin cfg0.N) (k : Fin 1024) (l : Fin 256) : wZ m c t (ix3 0 k l) = X3 m c (ix3 0 k ⟨2432 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 2432 + 1 * (l : ℕ) = 2432 + l; omega
theorem wX_at (c : Dev nD) (t : Fin cfg0.N) (k : Fin 1024) (l : Fin 768) : wX m c t (ix3 0 k l) = X3 m c (ix3 0 k ⟨2688 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 2688 + 1 * (l : ℕ) = 2688 + l; omega
theorem wD_at (c : Dev nD) (t : Fin cfg0.N) (k : Fin 1024) (l : Fin 128) : wD m c t (ix3 0 k l) = X3 m c (ix3 0 k ⟨3456 + l, by omega⟩) := by
  rw [← w3 m c t]
  refine congrArg (iblk m c 3 t) (funext fun a => Fin.ext ?_)
  match a with
  | ⟨0, _⟩ => rfl
  | ⟨1, _⟩ => show 0 + 1 * (k : ℕ) = k; omega
  | ⟨2, _⟩ => show 3456 + 1 * (l : ℕ) = 3456 + l; omega

/-- The tables' rows. -/
theorem tab4 (c : Dev nD) (t : Fin cfg0.N) (r : Fin 256) (R : Fin 16896) (hR : (R : ℕ) = t.val * 256 + r) (l : Fin 128) :
    iblk m c 4 t (ix2 r l) = X4 m c (ix2 (rOf R) l) := by
  have ht : t.val < 66 := t.isLt
  have hr : (r : ℕ) < 256 := r.isLt
  obtain ⟨-, -, -, -, e4, e5, e6, e7, -⟩ := idx t
  have hR' : rOf R = ⟨t.val % 33 * 256 + r, by omega⟩ := Fin.ext (by show (R : ℕ) % 8448 = t.val % 33 * 256 + r; omega)
  rw [hR']; blk_ext [iblk, V, e4]
theorem tab5 (c : Dev nD) (t : Fin cfg0.N) (r : Fin 256) (R : Fin 16896) (hR : (R : ℕ) = t.val * 256 + r) (l : Fin 128) :
    iblk m c 5 t (ix2 r l) = X5 m c (ix2 (rOf R) l) := by
  have ht : t.val < 66 := t.isLt
  have hr : (r : ℕ) < 256 := r.isLt
  obtain ⟨-, -, -, -, e4, e5, e6, e7, -⟩ := idx t
  have hR' : rOf R = ⟨t.val % 33 * 256 + r, by omega⟩ := Fin.ext (by show (R : ℕ) % 8448 = t.val % 33 * 256 + r; omega)
  rw [hR']; blk_ext [iblk, V, e5]
theorem tab6 (c : Dev nD) (t : Fin cfg0.N) (r : Fin 256) (R : Fin 16896) (hR : (R : ℕ) = t.val * 256 + r) (l : Fin 128) :
    iblk m c 6 t (ix2 r l) = X6 m c (ix2 (rOf R) l) := by
  have ht : t.val < 66 := t.isLt
  have hr : (r : ℕ) < 256 := r.isLt
  obtain ⟨-, -, -, -, e4, e5, e6, e7, -⟩ := idx t
  have hR' : rOf R = ⟨t.val % 33 * 256 + r, by omega⟩ := Fin.ext (by show (R : ℕ) % 8448 = t.val % 33 * 256 + r; omega)
  rw [hR']; blk_ext [iblk, V, e6]
theorem tab7 (c : Dev nD) (t : Fin cfg0.N) (r : Fin 256) (R : Fin 16896) (hR : (R : ℕ) = t.val * 256 + r) (l : Fin 128) :
    iblk m c 7 t (ix2 r l) = X7 m c (ix2 (rOf R) l) := by
  have ht : t.val < 66 := t.isLt
  have hr : (r : ℕ) < 256 := r.isLt
  obtain ⟨-, -, -, -, e4, e5, e6, e7, -⟩ := idx t
  have hR' : rOf R = ⟨t.val % 33 * 256 + r, by omega⟩ := Fin.ext (by show (R : ℕ) % 8448 = t.val % 33 * 256 + r; omega)
  rw [hR']; blk_ext [iblk, V, e7]

/-- The norms' weights and the low-rank projections, held whole. -/
theorem g8 (c : Dev nD) (t : Fin cfg0.N) (l : Fin 256) : iblk m c 8 t (ix2 0 l) = X8 m c (ix2 0 l) := by
  obtain ⟨-, -, -, -, -, -, -, -, e8, e9, -⟩ := idx t
  blk_ext [iblk, V, e8]
theorem g9 (c : Dev nD) (t : Fin cfg0.N) (l : Fin 128) : iblk m c 9 t (ix2 0 l) = X9 m c (ix2 0 l) := by
  obtain ⟨-, -, -, -, -, -, -, -, e8, e9, -⟩ := idx t
  blk_ext [iblk, V, e9]
theorem u10 (c : Dev nD) (t : Fin cfg0.N) (k : Fin 256) (l : Fin 512) : iblk m c 10 t (ix2 k l) = X10 m c (ix2 k l) := by
  obtain ⟨-, -, -, -, -, -, -, -, -, -, e10, e11, e12, -⟩ := idx t
  blk_ext [iblk, V, e10]
theorem u11 (c : Dev nD) (t : Fin cfg0.N) (k : Fin 128) (l : Fin 512) : iblk m c 11 t (ix2 k l) = X11 m c (ix2 k l) := by
  obtain ⟨-, -, -, -, -, -, -, -, -, -, e10, e11, e12, -⟩ := idx t
  blk_ext [iblk, V, e11]
theorem u12 (c : Dev nD) (t : Fin cfg0.N) (k : Fin 128) (l : Fin 256) : iblk m c 12 t (ix2 k l) = X12 m c (ix2 k l) := by
  obtain ⟨-, -, -, -, -, -, -, -, -, -, e10, e11, e12, -⟩ := idx t
  blk_ext [iblk, V, e12]

variable (c : Dev nD) (t : Fin cfg0.N) (r : Fin 256) (R : Fin 16896) (hR : (R : ℕ) = t.val * 256 + r)
include hR

/-- A column of the projection, from a block. -/
theorem wC_col (l : Fin 128) : col (fun k => xs m c t (ix2 r k)) (fun k => wC m c t (ix3 0 k l)) = pO (X0 m c) (X1 m c) (X2 m c) (X3 m c) R ⟨1408 + l, by omega⟩ := by
  rw [xs_row m c t r R hR]
  simp only [wC_at]
  rfl
/-- A column of the projection, from a block. -/
theorem wQ_col (l : Fin 256) : col (fun k => xs m c t (ix2 r k)) (fun k => wQ m c t (ix3 0 k l)) = pO (X0 m c) (X1 m c) (X2 m c) (X3 m c) R ⟨1536 + l, by omega⟩ := by
  rw [xs_row m c t r R hR]
  simp only [wQ_at]
  rfl
/-- A column of the projection, from a block. -/
theorem wK_col (l : Fin 128) : col (fun k => xs m c t (ix2 r k)) (fun k => wK m c t (ix3 0 k l)) = pO (X0 m c) (X1 m c) (X2 m c) (X3 m c) R ⟨1792 + l, by omega⟩ := by
  rw [xs_row m c t r R hR]
  simp only [wK_at]
  rfl
/-- A column of the projection, from a block. -/
theorem wR_col (l : Fin 512) : col (fun k => xs m c t (ix2 r k)) (fun k => wR m c t (ix3 0 k l)) = pO (X0 m c) (X1 m c) (X2 m c) (X3 m c) R ⟨1920 + l, by omega⟩ := by
  rw [xs_row m c t r R hR]
  simp only [wR_at]
  rfl
/-- A column of the projection, from a block. -/
theorem wZ_col (l : Fin 256) : col (fun k => xs m c t (ix2 r k)) (fun k => wZ m c t (ix3 0 k l)) = pO (X0 m c) (X1 m c) (X2 m c) (X3 m c) R ⟨2432 + l, by omega⟩ := by
  rw [xs_row m c t r R hR]
  simp only [wZ_at]
  rfl
/-- A column of the projection, from a block. -/
theorem wX_col (l : Fin 768) : col (fun k => xs m c t (ix2 r k)) (fun k => wX m c t (ix3 0 k l)) = pO (X0 m c) (X1 m c) (X2 m c) (X3 m c) R ⟨2688 + l, by omega⟩ := by
  rw [xs_row m c t r R hR]
  simp only [wX_at]
  rfl
/-- A column of the projection, from a block. -/
theorem wD_col (l : Fin 128) : col (fun k => xs m c t (ix2 r k)) (fun k => wD m c t (ix3 0 k l)) = pO (X0 m c) (X1 m c) (X2 m c) (X3 m c) R ⟨3456 + l, by omega⟩ := by
  rw [xs_row m c t r R hR]
  simp only [wD_at]
  rfl

theorem out13 (l : Fin 768) :
    k0_pay2 (iblk m c 0 t) (iblk m c 2 t) (scl m c t) (sft m c t) (wA m c t) (ix2 r l)
      = Cert.InProjRefIdeal.Read.val_main_v142 (F := Ideal) (X0 m c) (X1 m c) (X2 m c) (X3 m c) (ix2 R l) := by
  rw [v142_apply, pay2_apply, xrow m c t r R hR]
  simp only [wA_at]
  rfl

theorem bCols (l : Fin 640) :
    k0_pay3 (iblk m c 0 t) (iblk m c 2 t) (scl m c t) (sft m c t) (wB m c t) (ix2 r l) = pO (X0 m c) (X1 m c) (X2 m c) (X3 m c) R ⟨768 + l, by omega⟩ := by
  rw [pay3_apply, xrow m c t r R hR]
  simp only [wB_at]
  rfl

theorem out14 (j : Fin 768) :
    View.canon (Val := Elt Ideal) (s := S256x768) (e := .bf16)
        [⟨Rect.unit ![0, 640] ![256, 128] inb_S256x768_S256x128_0_640, k0_pay10 (xs m c t) (wC m c t)⟩,
          ⟨Rect.unit ![0, 0] ![256, 640] inb_S256x768_S256x640_0_0,
            k0_pay9 (k0_pay3 (iblk m c 0 t) (iblk m c 2 t) (scl m c t) (sft m c t) (wB m c t)) (iblk m c 4 t) (iblk m c 5 t) k0_pay4
              (k0_pay5 (k0_pay3 (iblk m c 0 t) (iblk m c 2 t) (scl m c t) (sft m c t) (wB m c t)) (iblk m c 4 t) (iblk m c 5 t))
              (k0_pay6 (k0_pay3 (iblk m c 0 t) (iblk m c 2 t) (scl m c t) (sft m c t) (wB m c t)) (iblk m c 4 t) (iblk m c 5 t))
              (k0_pay7 (k0_pay3 (iblk m c 0 t) (iblk m c 2 t) (scl m c t) (sft m c t) (wB m c t)) (iblk m c 4 t) (iblk m c 5 t))
              (k0_pay8 (k0_pay3 (iblk m c 0 t) (iblk m c 2 t) (scl m c t) (sft m c t) (wB m c t))) 112#32⟩] (ix2 r j)
      = Cert.InProjRefIdeal.Read.val_main_v144 (F := Ideal) (X0 m c) (X1 m c) (X2 m c) (X3 m c) (X4 m c) (X5 m c) (ix2 R j) := by
  rw [side, v144_apply]
  by_cases h : (j : ℕ) < 640
  · rw [dif_pos h, dif_pos h, pay9_apply]
    simp only [bCols m c t r R hR, tab4 m c t r R hR, tab5 m c t r R hR]
  · have hj : 1408 + ((j : ℕ) - 640) = 768 + j := by omega
    rw [dif_neg h, dif_neg h, pay10_apply, wC_col m c t r R hR]
    simp only [hj]

theorem out15 (j : Fin 512) :
    k0_pay20 (iblk m c 6 t) (iblk m c 7 t) (k0_pay13 (k0_pay11 (xs m c t) (wQ m c t)) (iblk m c 8 t) (k0_pay12 (xs m c t) (wQ m c t)) (iblk m c 10 t)) k0_pay14
        (k0_pay15 (iblk m c 6 t) (iblk m c 7 t) (k0_pay11 (xs m c t) (wQ m c t)) (iblk m c 8 t) (k0_pay12 (xs m c t) (wQ m c t)) (iblk m c 10 t))
        (k0_pay16 (iblk m c 6 t) (iblk m c 7 t) (k0_pay11 (xs m c t) (wQ m c t)) (iblk m c 8 t) (k0_pay12 (xs m c t) (wQ m c t)) (iblk m c 10 t))
        (k0_pay17 (k0_pay11 (xs m c t) (wQ m c t)) (iblk m c 8 t) (k0_pay12 (xs m c t) (wQ m c t)) (iblk m c 10 t))
        (k0_pay18 (k0_pay11 (xs m c t) (wQ m c t)) (iblk m c 8 t) (k0_pay12 (xs m c t) (wQ m c t)) (iblk m c 10 t))
        (k0_pay19 (k0_pay11 (xs m c t) (wQ m c t)) (iblk m c 8 t) (k0_pay12 (xs m c t) (wQ m c t)) (iblk m c 10 t)) (ix2 r j)
      = Cert.InProjRefIdeal.Read.val_main_v146 (F := Ideal) (X0 m c) (X1 m c) (X2 m c) (X3 m c) (X6 m c) (X7 m c) (X8 m c) (X10 m c) (ix2 R j) := by
  rw [v146_apply, pay20_apply]
  simp only [wQ_col m c t r R hR, tab6 m c t r R hR, tab7 m c t r R hR, g8, u10]

theorem out16 (j : Fin 512) :
    k0_pay24 (k0_pay21 (xs m c t) (wK m c t) (iblk m c 9 t))
        (k0_pay23 (iblk m c 6 t) (iblk m c 7 t) (k0_pay22 (xs m c t) (wR m c t)) (iota Kind.tc S256x128 32 [1] iota_S256x128_d1_w32) 16#32 0#1 1#32)
        (iblk m c 11 t) (ix2 r j)
      = Cert.InProjRefIdeal.Read.val_main_v148 (F := Ideal) (X0 m c) (X1 m c) (X2 m c) (X3 m c) (X6 m c) (X7 m c) (X9 m c) (X11 m c) (ix2 R j) := by
  rw [v148_apply, pay24_apply]
  simp only [wK_col m c t r R hR, wR_col m c t r R hR, tab6 m c t r R hR, tab7 m c t r R hR, g9, u11]

theorem out17 (z : Fin 1) (j : Fin 256) (n : Fin 22) (l : Fin 768) (hl : (R : ℕ) = n * 768 + l) :
    k0_pay25 (k0_pay21 (xs m c t) (wK m c t) (iblk m c 9 t)) (iblk m c 12 t) (ix3 z j r)
      = Cert.InProjRefIdeal.Read.val_main_v149 (F := Ideal) (X0 m c) (X1 m c) (X2 m c) (X3 m c) (X9 m c) (X12 m c) (ix3 n j l) := by
  rw [v149_apply _ _ _ _ _ _ n j l R hl, pay25_apply]
  simp only [wK_col m c t r R hR, g9, u12]

theorem out18 (l : Fin 256) :
    k0_pay26 (xs m c t) (wZ m c t) (ix2 r l)
      = Cert.InProjRefIdeal.Read.val_main_v150 (F := Ideal) (X0 m c) (X1 m c) (X2 m c) (X3 m c) (ix2 R l) := by
  rw [v150_apply, pay26_apply, wZ_col m c t r R hR]

theorem out19 (l : Fin 768) :
    k0_pay27 (xs m c t) (wX m c t) (ix2 r l)
      = Cert.InProjRefIdeal.Read.val_main_v151 (F := Ideal) (X0 m c) (X1 m c) (X2 m c) (X3 m c) (ix2 R l) := by
  rw [v151_apply, pay27_apply, wX_col m c t r R hR]

theorem out20 (l : Fin 128) :
    k0_pay28 (xs m c t) (wD m c t) (ix2 r l)
      = Cert.InProjRefIdeal.Read.val_main_v152 (F := Ideal) (X0 m c) (X1 m c) (X2 m c) (X3 m c) (ix2 R l) := by
  rw [v152_apply, pay28_apply, wD_col m c t r R hR]

end Cert.IpBlocks
-- ==== Proof.IpValue.lean ====
/-
  THE INPUT PROJECTION: the kernel's result arrays are the reference's, and the claim that says so.
-/
module

public import proofs.«01_k».proof.Defs
public import proofs.«01_k».proof.Proof.IpBlocks
public import proofs.«01_k».proof.Proof.Gen.InProjRefIdeal.Run

@[expose] public section

set_option maxRecDepth 16384

noncomputable section

open Idealize.ShloMosaic Idealize.ShloMosaic.TcCoe Idealize.SL.Sem
open Idealize.ShloMosaic.Pipeline (Dat)

namespace Cert.IpValue

open Cert.InProjIdeal Cert.InProjIdeal.Gen Cert.InProjIdeal.Value Cert.IpBlocks

variable (m : (ℓ : Loc nD τ sig) → Buf (Elt Ideal) ℓ)

/-- The first result array after the run. -/
theorem final13 (c : Dev nD) : (dats m 0 c).arrAt 13 (cfgs 0).N
    = Cert.InProjRefIdeal.Read.val_main_v142 (F := Ideal) (X0 m c) (X1 m c) (X2 m c) (X3 m c) := by
  refine (dats m 0 c).arrAt_eq_of_covers 13 _ (by decide +kernel) fun t _ y => ?_
  have ht : t.val < 66 := t.isLt
  obtain ⟨-, -, -, -, -, -, -, -, -, -, -, -, -, e13, -⟩ := idx t
  have hy0 : (y 0).val < 256 := (y 0).isLt
  have hy1 : (y 1).val < 768 := (y 1).isLt
  have hy : y = ix2 ⟨(y 0).val, hy0⟩ ⟨(y 1).val, hy1⟩ := by
    funext a; match a with
    | ⟨0, _⟩ => rfl
    | ⟨1, _⟩ => rfl
  have he : ((cfg0.win 13).blk t).view.emb y = ix2 ⟨t.val * 256 + (y 0).val, by omega⟩ ⟨(y 1).val, hy1⟩ := by
    blk_ext [e13]
  blk_simp
  rw [after0_13]; dsimp only [outsAt0]; frame_out
  rw [he]
  conv_lhs => rw [hy]
  exact out13 m c t _ _ rfl _

/-- The second result array after the run. -/
theorem final14 (c : Dev nD) : (dats m 0 c).arrAt 14 (cfgs 0).N
    = Cert.InProjRefIdeal.Read.val_main_v144 (F := Ideal) (X0 m c) (X1 m c) (X2 m c) (X3 m c) (X4 m c) (X5 m c) := by
  refine (dats m 0 c).arrAt_eq_of_covers 14 _ (by decide +kernel) fun t _ y => ?_
  have ht : t.val < 66 := t.isLt
  obtain ⟨-, -, -, -, -, -, -, -, -, -, -, -, -, -, e14, -⟩ := idx t
  have hy0 : (y 0).val < 256 := (y 0).isLt
  have hy1 : (y 1).val < 768 := (y 1).isLt
  have hy : y = ix2 ⟨(y 0).val, hy0⟩ ⟨(y 1).val, hy1⟩ := by
    funext a; match a with
    | ⟨0, _⟩ => rfl
    | ⟨1, _⟩ => rfl
  have he : ((cfg0.win 14).blk t).view.emb y = ix2 ⟨t.val * 256 + (y 0).val, by omega⟩ ⟨(y 1).val, hy1⟩ := by
    blk_ext [e14]
  blk_simp
  rw [after0_14]; dsimp only [outsAt0]; frame_open
  rw [he]
  conv_lhs => rw [hy]
  rw [View.read_writes_junk_eq_canon]
  simp only [View.readAt_eq_ld]
  rw [(hs0_0 t).read_unread, (hs0_1 t).read_unread, (hs0_2 t).read_unread, (hs0_3 t).read_unread, (hs0_4 t).read_unread, (hs0_5 t).read_unread]
  rw [View.ld_unit_lit' (S := S256x1024) _ (iblk m c 0 t) (by decide), View.ld_unit_lit' (S := S1x1024) _ (iblk m c 2 t) (by decide), View.ld_unit_lit' (S := S256x128) _ (iblk m c 4 t) (by decide), View.ld_unit_lit' (S := S256x128) _ (iblk m c 5 t) (by decide)]
  exact out14 m c t _ _ rfl _

/-- The third result array after the run. -/
theorem final15 (c : Dev nD) : (dats m 0 c).arrAt 15 (cfgs 0).N
    = Cert.InProjRefIdeal.Read.val_main_v146 (F := Ideal) (X0 m c) (X1 m c) (X2 m c) (X3 m c) (X6 m c) (X7 m c) (X8 m c) (X10 m c) := by
  refine (dats m 0 c).arrAt_eq_of_covers 15 _ (by decide +kernel) fun t _ y => ?_
  have ht : t.val < 66 := t.isLt
  obtain ⟨-, -, -, -, -, -, -, -, -, -, -, -, -, -, -, e15, -⟩ := idx t
  have hy0 : (y 0).val < 256 := (y 0).isLt
  have hy1 : (y 1).val < 512 := (y 1).isLt
  have hy : y = ix2 ⟨(y 0).val, hy0⟩ ⟨(y 1).val, hy1⟩ := by
    funext a; match a with
    | ⟨0, _⟩ => rfl
    | ⟨1, _⟩ => rfl
  have he : ((cfg0.win 15).blk t).view.emb y = ix2 ⟨t.val * 256 + (y 0).val, by omega⟩ ⟨(y 1).val, hy1⟩ := by
    blk_ext [e15]
  blk_simp
  rw [after0_15]; frame_out
  rw [he]
  conv_lhs => rw [hy]
  exact out15 m c t _ _ rfl _

/-- The fourth result array after the run. -/
theorem final16 (c : Dev nD) : (dats m 0 c).arrAt 16 (cfgs 0).N
    = Cert.InProjRefIdeal.Read.val_main_v148 (F := Ideal) (X0 m c) (X1 m c) (X2 m c) (X3 m c) (X6 m c) (X7 m c) (X9 m c) (X11 m c) := by
  refine (dats m 0 c).arrAt_eq_of_covers 16 _ (by decide +kernel) fun t _ y => ?_
  have ht : t.val < 66 := t.isLt
  obtain ⟨-, -, -, -, -, -, -, -, -, -, -, -, -, -, -, -, e16, -⟩ := idx t
  have hy0 : (y 0).val < 256 := (y 0).isLt
  have hy1 : (y 1).val < 512 := (y 1).isLt
  have hy : y = ix2 ⟨(y 0).val, hy0⟩ ⟨(y 1).val, hy1⟩ := by
    funext a; match a with
    | ⟨0, _⟩ => rfl
    | ⟨1, _⟩ => rfl
  have he : ((cfg0.win 16).blk t).view.emb y = ix2 ⟨t.val * 256 + (y 0).val, by omega⟩ ⟨(y 1).val, hy1⟩ := by
    blk_ext [e16]
  blk_simp
  rw [after0_16]; dsimp only [outsAt0]; frame_open
  rw [he]
  conv_lhs => rw [hy]
  rw [View.read_writes_junk_eq_canon]
  simp (disch := decide) only [View.canon_cons_unit_lit', View.readAt_eq_ld]
  rw [(hs0_0 t).read_unread, (hs0_1 t).read_unread, (hs0_2 t).read_unread, (hs0_3 t).read_unread, (hs0_6 t).read_unread, (hs0_7 t).read_unread, (hs0_9 t).read_unread, (hs0_11 t).read_unread]
  rw [View.ld_unit_lit' (S := S256x1024) _ (iblk m c 0 t) (by decide), View.ld_unit_lit' (S := S1x1024) _ (iblk m c 2 t) (by decide), View.ld_unit_lit' (S := S256x128) _ (iblk m c 6 t) (by decide), View.ld_unit_lit' (S := S256x128) _ (iblk m c 7 t) (by decide), View.ld_unit_lit' (S := S1x128) _ (iblk m c 9 t) (by decide), View.ld_unit_lit' (S := S128x512) _ (iblk m c 11 t) (by decide)]
  exact out16 m c t _ _ rfl _

/-- The fifth result array after the run. -/
theorem final17 (c : Dev nD) : (dats m 0 c).arrAt 17 (cfgs 0).N
    = Cert.InProjRefIdeal.Read.val_main_v149 (F := Ideal) (X0 m c) (X1 m c) (X2 m c) (X3 m c) (X9 m c) (X12 m c) := by
  refine (dats m 0 c).arrAt_eq_of_covers 17 _ (by decide +kernel) fun t _ y => ?_
  have ht : t.val < 66 := t.isLt
  obtain ⟨-, -, -, -, -, -, -, -, -, -, -, -, -, -, -, -, -, e17, -⟩ := idx t
  have hy0 : (y 0).val < 1 := (y 0).isLt
  have hy1 : (y 1).val < 256 := (y 1).isLt
  have hy2 : (y 2).val < 256 := (y 2).isLt
  have hy : y = ix3 ⟨(y 0).val, hy0⟩ ⟨(y 1).val, hy1⟩ ⟨(y 2).val, hy2⟩ := by
    funext a; match a with
    | ⟨0, _⟩ => rfl
    | ⟨1, _⟩ => rfl
    | ⟨2, _⟩ => rfl
  have he : ((cfg0.win 17).blk t).view.emb y = ix3 ⟨t.val / 3, by omega⟩ ⟨(y 1).val, hy1⟩ ⟨t.val % 3 * 256 + (y 2).val, by omega⟩ := by
    have h0 : (y 0).val = 0 := by omega
    blk_ext [e17, h0]
  blk_simp
  rw [after0_17]; frame_out
  rw [he]
  conv_lhs => rw [hy]
  exact out17 m c t _ ⟨t.val * 256 + (y 2).val, by omega⟩ rfl _ _ _ _ (by show t.val * 256 + (y 2).val = t.val / 3 * 768 + (t.val % 3 * 256 + (y 2).val); omega)

/-- The sixth result array after the run. -/
theorem final18 (c : Dev nD) : (dats m 0 c).arrAt 18 (cfgs 0).N
    = Cert.InProjRefIdeal.Read.val_main_v150 (F := Ideal) (X0 m c) (X1 m c) (X2 m c) (X3 m c) := by
  refine (dats m 0 c).arrAt_eq_of_covers 18 _ (by decide +kernel) fun t _ y => ?_
  have ht : t.val < 66 := t.isLt
  obtain ⟨-, -, -, -, -, -, -, -, -, -, -, -, -, -, -, -, -, -, e18, -⟩ := idx t
  have hy0 : (y 0).val < 256 := (y 0).isLt
  have hy1 : (y 1).val < 256 := (y 1).isLt
  have hy : y = ix2 ⟨(y 0).val, hy0⟩ ⟨(y 1).val, hy1⟩ := by
    funext a; match a with
    | ⟨0, _⟩ => rfl
    | ⟨1, _⟩ => rfl
  have he : ((cfg0.win 18).blk t).view.emb y = ix2 ⟨t.val * 256 + (y 0).val, by omega⟩ ⟨(y 1).val, hy1⟩ := by
    blk_ext [e18]
  blk_simp
  rw [after0_18]; frame_out
  rw [he]
  conv_lhs => rw [hy]
  exact out18 m c t _ _ rfl _

/-- The seventh result array after the run. -/
theorem final19 (c : Dev nD) : (dats m 0 c).arrAt 19 (cfgs 0).N
    = Cert.InProjRefIdeal.Read.val_main_v151 (F := Ideal) (X0 m c) (X1 m c) (X2 m c) (X3 m c) := by
  refine (dats m 0 c).arrAt_eq_of_covers 19 _ (by decide +kernel) fun t _ y => ?_
  have ht : t.val < 66 := t.isLt
  obtain ⟨-, -, -, -, -, -, -, -, -, -, -, -, -, -, -, -, -, -, -, e19, -⟩ := idx t
  have hy0 : (y 0).val < 256 := (y 0).isLt
  have hy1 : (y 1).val < 768 := (y 1).isLt
  have hy : y = ix2 ⟨(y 0).val, hy0⟩ ⟨(y 1).val, hy1⟩ := by
    funext a; match a with
    | ⟨0, _⟩ => rfl
    | ⟨1, _⟩ => rfl
  have he : ((cfg0.win 19).blk t).view.emb y = ix2 ⟨t.val * 256 + (y 0).val, by omega⟩ ⟨(y 1).val, hy1⟩ := by
    blk_ext [e19]
  blk_simp
  rw [after0_19]; frame_out
  rw [he]
  conv_lhs => rw [hy]
  exact out19 m c t _ _ rfl _

/-- The eighth result array after the run. -/
theorem final20 (c : Dev nD) : (dats m 0 c).arrAt 20 (cfgs 0).N
    = Cert.InProjRefIdeal.Read.val_main_v152 (F := Ideal) (X0 m c) (X1 m c) (X2 m c) (X3 m c) := by
  refine (dats m 0 c).arrAt_eq_of_covers 20 _ (by decide +kernel) fun t _ y => ?_
  have ht : t.val < 66 := t.isLt
  obtain ⟨-, -, -, -, -, -, -, -, -, -, -, -, -, -, -, -, -, -, -, -, e20⟩ := idx t
  have hy0 : (y 0).val < 256 := (y 0).isLt
  have hy1 : (y 1).val < 128 := (y 1).isLt
  have hy : y = ix2 ⟨(y 0).val, hy0⟩ ⟨(y 1).val, hy1⟩ := by
    funext a; match a with
    | ⟨0, _⟩ => rfl
    | ⟨1, _⟩ => rfl
  have he : ((cfg0.win 20).blk t).view.emb y = ix2 ⟨t.val * 256 + (y 0).val, by omega⟩ ⟨(y 1).val, hy1⟩ := by
    blk_ext [e20]
  blk_simp
  rw [after0_20]; frame_out
  rw [he]
  conv_lhs => rw [hy]
  exact out20 m c t _ _ rfl _

/-- From memories agreeing on the arguments, both programs run and end with equal results. -/
theorem algebraic : Cert.algebraic_InProjIdeal_InProjRefIdeal (hInProjIdeal := Cert.InProjIdeal.Gen.facts)
    (hInProjRefIdeal := Cert.InProjRefIdeal.Gen.facts) := by
  intro m g m' g' _ hargs
  refine ⟨fun c => Cert.InProjRefIdeal.Read.val_main_v142 (F := Ideal) (X0 m c) (X1 m c) (X2 m c) (X3 m c),
    fun c => Cert.InProjRefIdeal.Read.val_main_v144 (F := Ideal) (X0 m c) (X1 m c) (X2 m c) (X3 m c) (X4 m c) (X5 m c),
    fun c => Cert.InProjRefIdeal.Read.val_main_v146 (F := Ideal) (X0 m c) (X1 m c) (X2 m c) (X3 m c) (X6 m c) (X7 m c) (X8 m c) (X10 m c),
    fun c => Cert.InProjRefIdeal.Read.val_main_v148 (F := Ideal) (X0 m c) (X1 m c) (X2 m c) (X3 m c) (X6 m c) (X7 m c) (X9 m c) (X11 m c),
    fun c => Cert.InProjRefIdeal.Read.val_main_v149 (F := Ideal) (X0 m c) (X1 m c) (X2 m c) (X3 m c) (X9 m c) (X12 m c),
    fun c => Cert.InProjRefIdeal.Read.val_main_v150 (F := Ideal) (X0 m c) (X1 m c) (X2 m c) (X3 m c),
    fun c => Cert.InProjRefIdeal.Read.val_main_v151 (F := Ideal) (X0 m c) (X1 m c) (X2 m c) (X3 m c),
    fun c => Cert.InProjRefIdeal.Read.val_main_v152 (F := Ideal) (X0 m c) (X1 m c) (X2 m c) (X3 m c),
    ?_, ?_⟩
  · refine (θ_run (Cert.InProjIdeal.defs (F := Ideal)) _ _).mono (fun r h c => ?_) (Cert.InProjIdeal.Value.run_blocks (F := Ideal) m g)
    obtain ⟨h0, h1, h2, h3, h4, h5, h6, h7, h⟩ := h c
    exact ⟨h0.trans (final13 m c), h1.trans (final14 m c), h2.trans (final15 m c), h3.trans (final16 m c), h4.trans (final17 m c), h5.trans (final18 m c), h6.trans (final19 m c), h7.trans (final20 m c), h⟩
  · refine (θ_run (Cert.InProjRefIdeal.defs (F := Ideal)) _ _).mono (fun r h c => ?_) (Cert.InProjRefIdeal.Value.run (F := Ideal) m' g')
    obtain ⟨h0, h1, h2, h3, h4, h5, h6, h7, h⟩ := h c
    obtain ⟨a0, a1, a2, a3, a4, a5, a6, a7, a8, a9, a10, a11, a12⟩ := hargs c
    refine ⟨h0.trans ?_, h1.trans ?_, h2.trans ?_, h3.trans ?_, h4.trans ?_, h5.trans ?_, h6.trans ?_, h7.trans ?_, h⟩
    · rw [Cert.InProjRefIdeal.Read.val_main_v142_eq, a0, a1, a2, a3]
    · rw [Cert.InProjRefIdeal.Read.val_main_v144_eq, a0, a1, a2, a3, a4, a5]
    · rw [Cert.InProjRefIdeal.Read.val_main_v146_eq, a0, a1, a2, a3, a6, a7, a8, a10]
    · rw [Cert.InProjRefIdeal.Read.val_main_v148_eq, a0, a1, a2, a3, a6, a7, a9, a11]
    · rw [Cert.InProjRefIdeal.Read.val_main_v149_eq, a0, a1, a2, a3, a9, a12]
    · rw [Cert.InProjRefIdeal.Read.val_main_v150_eq, a0, a1, a2, a3]
    · rw [Cert.InProjRefIdeal.Read.val_main_v151_eq, a0, a1, a2, a3]
    · rw [Cert.InProjRefIdeal.Read.val_main_v152_eq, a0, a1, a2, a3]

end Cert.IpValue
-- ==== Proof.lean ====
/-
  THE PROOF of `Cert.Claim`: for each of the kernel's calls stated in the statement, that it, its idealization and its reference run to an
  end with their arguments unchanged, that the idealization is the program's own, and that idealization and reference compute the
  same values. The values are compared in FnValue.lean (final norm), OmValue.lean (output projection and MLP),
  MlaValue.lean (attention) and IpValue.lean (input projection).
-/
module

public import proofs.«01_k».proof.Defs
public import proofs.«01_k».proof.Proof.MlaBitsFrame
public import proofs.«01_k».proof.Proof.MlaFrame
public import proofs.«01_k».proof.Proof.Gen.ReferenceIdeal.Run
public import proofs.«01_k».proof.Proof.Gen.OutMlp.Frame
public import proofs.«01_k».proof.Proof.Gen.OutMlpIdeal.Frame
public import proofs.«01_k».proof.Proof.Gen.FinalNorm.Frame
public import proofs.«01_k».proof.Proof.Gen.FinalNormIdeal.Frame
public import proofs.«01_k».proof.Proof.Gen.InProj.Frame
public import proofs.«01_k».proof.Proof.Gen.InProjIdeal.Frame
public import proofs.«01_k».proof.Proof.FnValue
public import proofs.«01_k».proof.Proof.OmValue
public import proofs.«01_k».proof.Proof.MlaValue
public import proofs.«01_k».proof.Proof.IpValue

@[expose] public section

noncomputable section

namespace Cert.Proof

open Idealize.ShloMosaic Idealize.ShloMosaic.TcCoe Idealize.SL.Sem

/-- The attention's reference runs to an end, its arguments unchanged; it has no semaphores. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The output projection's and MLP's reference runs to an end, its arguments unchanged; it has no semaphores. -/
theorem frame_outmlp_reference : Cert.quiescent_OutMlpRefIdeal (hOutMlpRefIdeal := Cert.OutMlpRefIdeal.Gen.facts) := fun m ρ _ =>
  (θ_run (Cert.OutMlpRefIdeal.defs (F := Ideal)) _ _).mono (fun r h => ⟨fun c => (h c).2, sem_eq_zero_of_no_sems (by decide) r.2⟩)
    (Cert.OutMlpRefIdeal.Value.run (F := Ideal) m ρ)

/-- The final norm's reference runs to an end, its arguments unchanged; it has no semaphores. -/
theorem frame_norm_reference : Cert.quiescent_FinalNormRefIdeal (hFinalNormRefIdeal := Cert.FinalNormRefIdeal.Gen.facts) := fun m ρ _ =>
  (θ_run (Cert.FinalNormRefIdeal.defs (F := Ideal)) _ _).mono (fun r h => ⟨fun c => (h c).2, sem_eq_zero_of_no_sems (by decide) r.2⟩)
    (Cert.FinalNormRefIdeal.Value.run (F := Ideal) m ρ)

/-- The input projection's reference runs to an end, its arguments unchanged; it has no semaphores. -/
theorem frame_inproj_reference : Cert.quiescent_InProjRefIdeal (hInProjRefIdeal := Cert.InProjRefIdeal.Gen.facts) := fun m ρ _ =>
  (θ_run (Cert.InProjRefIdeal.defs (F := Ideal)) _ _).mono (fun r h => ⟨fun c => (h c).2.2.2.2.2.2.2.2, sem_eq_zero_of_no_sems (by decide) r.2⟩)
    (Cert.InProjRefIdeal.Value.run (F := Ideal) m ρ)

/-- All the claims of the statement. -/
theorem claim : Cert.Claim :=
  ⟨Cert.Kernel.Gen.facts, Cert.KernelIdeal.Gen.facts, Cert.ReferenceIdeal.Gen.facts, Cert.OutMlp.Gen.facts, Cert.OutMlpIdeal.Gen.facts,
    Cert.OutMlpRefIdeal.Gen.facts, Cert.FinalNorm.Gen.facts, Cert.FinalNormIdeal.Gen.facts, Cert.FinalNormRefIdeal.Gen.facts,
    Cert.InProj.Gen.facts, Cert.InProjIdeal.Gen.facts, Cert.InProjRefIdeal.Gen.facts, Cert.Pre_finite_qk.Gen.facts,
    fun m ρ _ => Cert.MlaBitsRun.frame m ρ, fun m ρ _ => Cert.MlaRun.frame m ρ, fun m ρ _ => Cert.MlaRun.frame m ρ, frame_reference, fun m ρ _ => frame_reference m ρ trivial,
    fun m ρ _ => Cert.OutMlp.Gen.frame m ρ, fun m ρ _ => Cert.OutMlpIdeal.Gen.frame m ρ, frame_outmlp_reference,
    fun m ρ _ => Cert.FinalNorm.Gen.frame m ρ, fun m ρ _ => Cert.FinalNormIdeal.Gen.frame m ρ, frame_norm_reference,
    fun m ρ _ => Cert.InProj.Gen.frame m ρ, fun m ρ _ => Cert.InProjIdeal.Gen.frame m ρ, frame_inproj_reference,
    trivial, Cert.MlaValue.algebraic, trivial, Cert.OmValue.algebraic, trivial, Cert.FnValue.algebraic,
    Idealize.ShloMosaic.IdealRules.named_const.statement Cert.InProjIdeal.κ "q_scale" .f32 0x3E16C740#32 (((Real.sqrt 96)⁻¹ * (Real.log 2)⁻¹ : ℝ) : EReal) rfl, Cert.IpValue.algebraic⟩

end Cert.Proof

end
